-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)) (v2 : (c : Dev Cert.KernelIdeal.nD) → Buf (Elt Ideal) ((c.tc : Thread Cert.KernelIdeal.nD Cert.KernelIdeal.τ).loc Cert.KernelIdeal.main_v60_2)) (v3 : (c : Dev Cert.KernelIdeal.nD) → Buf (Elt Ideal) ((c.tc : Thread Cert.KernelIdeal.nD Cert.KernelIdeal.τ).loc Cert.KernelIdeal.main_v60_3)) (v4 : (c : Dev Cert.KernelIdeal.nD) → Buf (Elt Ideal) ((c.tc : Thread Cert.KernelIdeal.nD Cert.KernelIdeal.τ).loc Cert.KernelIdeal.main_v60_4)) (v5 : (c : Dev Cert.KernelIdeal.nD) → Buf (Elt Ideal) ((c.tc : Thread Cert.KernelIdeal.nD Cert.KernelIdeal.τ).loc Cert.KernelIdeal.main_v60_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_v60_2) = v2 c
          ∧ r.2.mem ((c.tc : Thread Cert.KernelIdeal.nD Cert.KernelIdeal.τ).loc Cert.KernelIdeal.main_v60_3) = v3 c
          ∧ r.2.mem ((c.tc : Thread Cert.KernelIdeal.nD Cert.KernelIdeal.τ).loc Cert.KernelIdeal.main_v60_4) = v4 c
          ∧ r.2.mem ((c.tc : Thread Cert.KernelIdeal.nD Cert.KernelIdeal.τ).loc Cert.KernelIdeal.main_v60_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_v176) = v1 c
          ∧ r.2.mem ((c.tc : Thread Cert.ReferenceIdeal.nD Cert.ReferenceIdeal.τ).loc Cert.ReferenceIdeal.main_v177) = v2 c
          ∧ r.2.mem ((c.tc : Thread Cert.ReferenceIdeal.nD Cert.ReferenceIdeal.τ).loc Cert.ReferenceIdeal.main_v179) = v3 c
          ∧ r.2.mem ((c.tc : Thread Cert.ReferenceIdeal.nD Cert.ReferenceIdeal.τ).loc Cert.ReferenceIdeal.main_v181) = v4 c
          ∧ r.2.mem ((c.tc : Thread Cert.ReferenceIdeal.nD Cert.ReferenceIdeal.τ).loc Cert.ReferenceIdeal.main_v174) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)) (v4 : (c : Dev Cert.Kernel2Ideal.nD) → Buf (Elt Ideal) ((c.tc : Thread Cert.Kernel2Ideal.nD Cert.Kernel2Ideal.τ).loc Cert.Kernel2Ideal.main_v8_4)) (v5 : (c : Dev Cert.Kernel2Ideal.nD) → Buf (Elt Ideal) ((c.tc : Thread Cert.Kernel2Ideal.nD Cert.Kernel2Ideal.τ).loc Cert.Kernel2Ideal.main_v8_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_v8_4) = v4 c
          ∧ r.2.mem ((c.tc : Thread Cert.Kernel2Ideal.nD Cert.Kernel2Ideal.τ).loc Cert.Kernel2Ideal.main_v8_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_v73) = v1 c
          ∧ r.2.mem ((c.tc : Thread Cert.Reference2Ideal.nD Cert.Reference2Ideal.τ).loc Cert.Reference2Ideal.main_v74) = v2 c
          ∧ r.2.mem ((c.tc : Thread Cert.Reference2Ideal.nD Cert.Reference2Ideal.τ).loc Cert.Reference2Ideal.main_v75) = v3 c
          ∧ r.2.mem ((c.tc : Thread Cert.Reference2Ideal.nD Cert.Reference2Ideal.τ).loc Cert.Reference2Ideal.main_v49) = v4 c
          ∧ r.2.mem ((c.tc : Thread Cert.Reference2Ideal.nD Cert.Reference2Ideal.τ).loc Cert.Reference2Ideal.main_v77) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel2_Kernel2Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel3_Kernel3Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel5_Kernel5Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel6_Kernel6Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel7_Kernel7Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_v42) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel8_Kernel8Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v25_0)) (v1 : (c : Dev Cert.Kernel9Ideal.nD) → Buf (Elt Ideal) ((c.tc : Thread Cert.Kernel9Ideal.nD Cert.Kernel9Ideal.τ).loc Cert.Kernel9Ideal.main_v25_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v25_0) = v0 c
          ∧ r.2.mem ((c.tc : Thread Cert.Kernel9Ideal.nD Cert.Kernel9Ideal.τ).loc Cert.Kernel9Ideal.main_v25_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v69) = v0 c
          ∧ r.2.mem ((c.tc : Thread Cert.Reference9Ideal.nD Cert.Reference9Ideal.τ).loc Cert.Reference9Ideal.main_v70) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel9_Kernel9Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ algebraic_Kernel2Ideal_Reference2Ideal (hKernel2Ideal := hKernel2Ideal) (hReference2Ideal := hReference2Ideal)
    ∧ preserves_Kernel2_Kernel2Ideal
    ∧ algebraic_Kernel3Ideal_Reference3Ideal (hKernel3Ideal := hKernel3Ideal) (hReference3Ideal := hReference3Ideal)
    ∧ preserves_Kernel3_Kernel3Ideal
    ∧ algebraic_Kernel5Ideal_Reference5Ideal (hKernel5Ideal := hKernel5Ideal) (hReference5Ideal := hReference5Ideal)
    ∧ preserves_Kernel5_Kernel5Ideal
    ∧ algebraic_Kernel6Ideal_Reference6Ideal (hKernel6Ideal := hKernel6Ideal) (hReference6Ideal := hReference6Ideal)
    ∧ preserves_Kernel6_Kernel6Ideal
    ∧ algebraic_Kernel7Ideal_Reference7Ideal (hKernel7Ideal := hKernel7Ideal) (hReference7Ideal := hReference7Ideal)
    ∧ preserves_Kernel7_Kernel7Ideal
    ∧ algebraic_Kernel8Ideal_Reference8Ideal (hKernel8Ideal := hKernel8Ideal) (hReference8Ideal := hReference8Ideal)
    ∧ preserves_Kernel8_Kernel8Ideal
    ∧ algebraic_Kernel9Ideal_Reference9Ideal (hKernel9Ideal := hKernel9Ideal) (hReference9Ideal := hReference9Ideal)
    ∧ preserves_Kernel9_Kernel9Ideal
-- ==== Pre_finite.lean ====
abbrev S2048x1024 : Shape := ⟨2, ![2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S2048x1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  main_v38

def fn_part1 {F : FTy → Type} [FloatOps F] (main_arg4 : FVec F S1x5632 .f32) (main_arg5 : FVec F S1x2816x1024 .f32) (main_arg6 : FVec F S1024 .f32) (main_arg7 : FVec F S2048x1024 .f32) (main_v13 : IVec S_ 1) (main_v16 : IVec S1x3x5632 1) : IVec S_ 1 :=
  let main_c_5 : IVec S_ 1 := constantI S_ 1 1#1
  let main_v17 : IVec S_ 1 := (fun x v => Host.reduce IntOp.andi x v reducesTo_S1x3x5632_S_d0_1_2 h_S_) main_v16 main_c_5
  let main_v18 : IVec S_ 1 := andi main_v13 main_v17
  let main_v19 : FVec F S1x5632 .f32 := Host.absf main_arg4
  let main_cst_6 : FVec F S_ .f32 := constant S_ .f32 0x7F800000#32
  let main_v20 : FVec F S1x5632 .f32 := broadcastInDim S1x5632 ![] bcast_S_S1x5632 main_cst_6
  let main_v21 : IVec S1x5632 1 := cmpf .olt main_v19 main_v20
  let main_c_7 : IVec S_ 1 := constantI S_ 1 1#1
  let main_v22 : IVec S_ 1 := (fun x v => Host.reduce IntOp.andi x v reducesTo_S1x5632_S_d0_1 h_S_) main_v21 main_c_7
  let main_v23 : IVec S_ 1 := andi main_v18 main_v22
  let main_v24 : FVec F S1x2816x1024 .f32 := Host.absf main_arg5
  let main_cst_8 : FVec F S_ .f32 := constant S_ .f32 0x7F800000#32
  let main_v25 : FVec F S1x2816x1024 .f32 := broadcastInDim S1x2816x1024 ![] bcast_S_S1x2816x1024 main_cst_8
  let main_v26 : IVec S1x2816x1024 1 := cmpf .olt main_v24 main_v25
  let main_c_9 : IVec S_ 1 := constantI S_ 1 1#1
  let main_v27 : IVec S_ 1 := (fun x v => Host.reduce IntOp.andi x v reducesTo_S1x2816x1024_S_d0_1_2 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S2048x1024 .f32) (main_arg1 : FVec F S1x1024 .f32) (main_arg2 : FVec F S1x1024x5632 .f32) (main_arg3 : FVec F S1x3x5632 .f32) (main_arg4 : FVec F S1x5632 .f32) (main_arg5 : FVec F S1x2816x1024 .f32) (main_arg6 : FVec F S1024 .f32) (main_arg7 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5632 .f32 := Host.absf main_arg2
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_c_3 : IVec S_ 1 := constantI S_ 1 1#1
  let main_v12 : IVec S_ 1 := (fun x v => Host.reduce IntOp.andi x v reducesTo_S1x1024x5632_S_d0_1_2 h_S_) main_v11 main_c_3
  let main_v13 : IVec S_ 1 := andi main_v8 main_v12
  let main_v14 : FVec F S1x3x5632 .f32 := Host.absf main_arg3
  let main_cst_4 : FVec F S_ .f32 := constant S_ .f32 0x7F800000#32
  let main_v15 : FVec F S1x3x5632 .f32 := broadcastInDim S1x3x5632 ![] bcast_S_S1x3x5632 main_cst_4
  let main_v16 : IVec S1x3x5632 1 := cmpf .olt main_v14 main_v15
  fn_part1 (F := F) main_arg4 main_arg5 main_arg6 main_arg7 main_v13 main_v16
-- ==== Kernel.lean ====
abbrev S2048x1024 : Shape := ⟨2, ![2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S5632x1024 : Shape := ⟨2, ![5632, 1024]⟩
abbrev S2816x1024 : Shape := ⟨2, ![2816, 1024]⟩
abbrev S3x5632 : Shape := ⟨2, ![3, 5632]⟩
abbrev S_ : Shape := ⟨0, ![]⟩
abbrev S8x5632 : Shape := ⟨2, ![8, 5632]⟩
abbrev S5632 : Shape := ⟨1, ![5632]⟩
abbrev S2048 : Shape := ⟨1, ![2048]⟩
abbrev S2048x1 : Shape := ⟨2, ![2048, 1]⟩
abbrev S2048x5632 : Shape := ⟨2, ![2048, 5632]⟩
abbrev S2x5632 : Shape := ⟨2, ![2, 5632]⟩
abbrev S2050x5632 : Shape := ⟨2, ![2050, 5632]⟩
abbrev S2048x2816 : Shape := ⟨2, ![2048, 2816]⟩
abbrev S8x1024 : Shape := ⟨2, ![8, 1024]⟩
abbrev S2x8x2816 : Shape := ⟨3, ![2, 8, 2816]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S256x2816 : Shape := ⟨2, ![256, 2816]⟩
abbrev S8x2816 : Shape := ⟨2, ![8, 2816]⟩
abbrev S1x2816 : Shape := ⟨2, ![1, 2816]⟩
abbrev S1x1x2816 : Shape := ⟨3, ![1, 1, 2816]⟩
abbrev S2816 : Shape := ⟨1, ![2816]⟩

abbrev nBuf : Space → Nat
  | .hbm => 88
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S2048x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | .hbm, ⟨11, _⟩ => ⟨S2816x1024, .f32⟩
  | .hbm, ⟨12, _⟩ => ⟨S2816x1024, .bf16⟩
  | .hbm, ⟨13, _⟩ => ⟨S3x5632, .f32⟩
  | .hbm, ⟨14, _⟩ => ⟨S_, .i32⟩
  | .hbm, ⟨15, _⟩ => ⟨S_, .f32⟩
  | .hbm, ⟨16, _⟩ => ⟨S8x5632, .f32⟩
  | .hbm, ⟨17, _⟩ => ⟨S1x1024, .f32⟩
  | .hbm, ⟨18, _⟩ => ⟨S1024, .f32⟩
  | .hbm, ⟨19, _⟩ => ⟨S1024x5632, .f32⟩
  | .hbm, ⟨20, _⟩ => ⟨S3x5632, .f32⟩
  | .hbm, ⟨21, _⟩ => ⟨S5632, .f32⟩
  | .hbm, ⟨22, _⟩ => ⟨S2816x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x5632, .f32⟩
  | .hbm, ⟨40, _⟩ => ⟨S_, .f32⟩
  | .hbm, ⟨41, _⟩ => ⟨S2x5632, .f32⟩
  | .hbm, ⟨42, _⟩ => ⟨S2050x5632, .f32⟩
  | .hbm, ⟨43, _⟩ => ⟨S2048x5632, .f32⟩
  | .hbm, ⟨44, _⟩ => ⟨S1x5632, .f32⟩
  | .hbm, ⟨45, _⟩ => ⟨S5632, .f32⟩
  | .hbm, ⟨46, _⟩ => ⟨S1x5632, .f32⟩
  | .hbm, ⟨47, _⟩ => ⟨S2048x5632, .f32⟩
  | .hbm, ⟨48, _⟩ => ⟨S2048x5632, .f32⟩
  | .hbm, ⟨49, _⟩ => ⟨S2048x5632, .f32⟩
  | .hbm, ⟨50, _⟩ => ⟨S1x5632, .f32⟩
  | .hbm, ⟨51, _⟩ => ⟨S5632, .f32⟩
  | .hbm, ⟨52, _⟩ => ⟨S1x5632, .f32⟩
  | .hbm, ⟨53, _⟩ => ⟨S2048x5632, .f32⟩
  | .hbm, ⟨54, _⟩ => ⟨S2048x5632, .f32⟩
  | .hbm, ⟨55, _⟩ => ⟨S2048x5632, .f32⟩
  | .hbm, ⟨56, _⟩ => ⟨S2048x5632, .f32⟩
  | .hbm, ⟨57, _⟩ => ⟨S1x5632, .f32⟩
  | .hbm, ⟨58, _⟩ => ⟨S5632, .f32⟩
  | .hbm, ⟨59, _⟩ => ⟨S1x5632, .f32⟩
  | .hbm, ⟨60, _⟩ => ⟨S2048x5632, .f32⟩
  | .hbm, ⟨61, _⟩ => ⟨S2048x5632, .f32⟩
  | .hbm, ⟨62, _⟩ => ⟨S2048x5632, .f32⟩
  | .hbm, ⟨63, _⟩ => ⟨S1x5632, .f32⟩
  | .hbm, ⟨64, _⟩ => ⟨S2048x5632, .f32⟩
  | .hbm, ⟨65, _⟩ => ⟨S2048x5632, .f32⟩
  | .hbm, ⟨66, _⟩ => ⟨S2048x2816, .f32⟩
  | .hbm, ⟨67, _⟩ => ⟨S2048x2816, .f32⟩
  | .hbm, ⟨68, _⟩ => ⟨S2048x2816, .f32⟩
  | .hbm, ⟨69, _⟩ => ⟨S2048x2816, .f32⟩
  | .hbm, ⟨70, _⟩ => ⟨S_, .f32⟩
  | .hbm, ⟨71, _⟩ => ⟨S2048x2816, .f32⟩
  | .hbm, ⟨72, _⟩ => ⟨S2048x2816, .f32⟩
  | .hbm, ⟨73, _⟩ => ⟨S_, .f32⟩
  | .hbm, ⟨74, _⟩ => ⟨S2048x2816, .f32⟩
  | .hbm, ⟨75, _⟩ => ⟨S2048x2816, .f32⟩
  | .hbm, ⟨76, _⟩ => ⟨S2048x2816, .f32⟩
  | .hbm, ⟨77, _⟩ => ⟨S2048x2816, .f32⟩
  | .hbm, ⟨78, _⟩ => ⟨S2048x1024, .f32⟩
  | .hbm, ⟨79, _⟩ => ⟨S2048x1024, .f32⟩
  | .hbm, ⟨80, _⟩ => ⟨S2048x5632, .bf16⟩
  | .hbm, ⟨81, _⟩ => ⟨S2048x5632, .bf16⟩
  | .hbm, ⟨82, _⟩ => ⟨S2048x1024, .bf16⟩
  | .hbm, ⟨83, _⟩ => ⟨S2048x5632, .bf16⟩
  | .hbm, ⟨84, _⟩ => ⟨S2048x1024, .f32⟩
  | .hbm, ⟨85, _⟩ => ⟨S8x1024, .f32⟩
  | .hbm, ⟨86, _⟩ => ⟨S8x1024, .f32⟩
  | .hbm, ⟨87, _⟩ => ⟨S2x8x2816, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x5632, .bf16⟩
  | .local _ .vmem, ⟨9, _⟩ => ⟨S256x5632, .bf16⟩
  | .local _ .vmem, ⟨10, _⟩ => ⟨S256x5632, .bf16⟩
  | .local _ .vmem, ⟨11, _⟩ => ⟨S256x5632, .bf16⟩
  | .local _ .vmem, ⟨12, _⟩ => ⟨S5632x1024, .bf16⟩
  | .local _ .vmem, ⟨13, _⟩ => ⟨S8x5632, .f32⟩
  | .local _ .vmem, ⟨14, _⟩ => ⟨S2816x1024, .bf16⟩
  | .local _ .vmem, ⟨15, _⟩ => ⟨S256x1024, .bf16⟩
  | .local _ .vmem, ⟨16, _⟩ => ⟨S256x1024, .bf16⟩
  | .local _ .vmem, ⟨17, _⟩ => ⟨S256x5632, .bf16⟩
  | .local _ .vmem, ⟨18, _⟩ => ⟨S256x5632, .bf16⟩
  | .local _ .vmem, ⟨19, _⟩ => ⟨S256x1024, .f32⟩
  | .local _ .vmem, ⟨20, _⟩ => ⟨S256x1024, .f32⟩
  | .local _ .vmem, ⟨21, _⟩ => ⟨S8x1024, .f32⟩
  | .local _ .vmem, ⟨22, _⟩ => ⟨S8x1024, .f32⟩
  | .local _ .vmem, ⟨23, _⟩ => ⟨S2x8x2816, .f32⟩
  | .local _ .vmem, ⟨24, _⟩ => ⟨S8x5632, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60_0 : Ref sig .tc := ⟨.hbm, 82, rfl⟩
abbrev main_v60_1 : Ref sig .tc := ⟨.hbm, 83, rfl⟩
abbrev main_v60_2 : Ref sig .tc := ⟨.hbm, 84, rfl⟩
abbrev main_v60_3 : Ref sig .tc := ⟨.hbm, 85, rfl⟩
abbrev main_v60_4 : Ref sig .tc := ⟨.hbm, 86, rfl⟩
abbrev main_v60_5 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S5632x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x8x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S2048x1024 : Shape := ⟨2, ![2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S3x5632 : Shape := ⟨2, ![3, 5632]⟩
abbrev S5632 : Shape := ⟨1, ![5632]⟩
abbrev S2816x1024 : Shape := ⟨2, ![2816, 1024]⟩
abbrev S2x5632 : Shape := ⟨2, ![2, 5632]⟩
abbrev S2050x5632 : Shape := ⟨2, ![2050, 5632]⟩
abbrev S2048x2816 : Shape := ⟨2, ![2048, 2816]⟩
abbrev S4x5632 : Shape := ⟨2, ![4, 5632]⟩
abbrev S8x5632 : Shape := ⟨2, ![8, 5632]⟩
abbrev S8x2816 : Shape := ⟨2, ![8, 2816]⟩
abbrev S1x8x2816 : Shape := ⟨3, ![1, 8, 2816]⟩
abbrev S2x8x2816 : Shape := ⟨3, ![2, 8, 2816]⟩
abbrev S8x1024 : Shape := ⟨2, ![8, 1024]⟩

abbrev nBuf : Space → Nat
  | .hbm => 253
  | .vmem => 0
  | .smem => 0
  | _ => 0

abbrev hbmTy0_0 (i : Nat) : BufTy := match i % 128 with
  | 0 => ⟨S2048x1024, .f32⟩
  | 1 => ⟨S1x1024, .f32⟩
  | 2 => ⟨S1x1024x5632, .f32⟩
  | 3 => ⟨S1x3x5632, .f32⟩
  | 4 => ⟨S1x5632, .f32⟩
  | 5 => ⟨S1x2816x1024, .f32⟩
  | 6 => ⟨S1024, .f32⟩
  | 7 => ⟨S2048x1024, .f32⟩
  | 8 => ⟨S1024, .f32⟩
  | 9 => ⟨S1024x5632, .f32⟩
  | 10 => ⟨S2048x1024, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S_, .f32⟩
  | 18 => ⟨S2048x1, .f32⟩
  | 19 => ⟨S2048x1, .f32⟩
  | 20 => ⟨S2048x1, .f32⟩
  | 21 => ⟨S2048x1, .f32⟩
  | 22 => ⟨S_, .f32⟩
  | 23 => ⟨S2048x1, .f32⟩
  | 24 => ⟨S2048x1, .f32⟩
  | 25 => ⟨S2048x1024, .f32⟩
  | 26 => ⟨S2048x1024, .f32⟩
  | 27 => ⟨S1x1024, .f32⟩
  | 28 => ⟨S2048x1024, .f32⟩
  | 29 => ⟨S2048x1024, .f32⟩
  | 30 => ⟨S2048x5632, .f32⟩
  | 31 => ⟨S3x5632, .f32⟩
  | 32 => ⟨S5632, .f32⟩
  | 33 => ⟨S2816x1024, .f32⟩
  | 34 => ⟨S_, .f32⟩
  | 35 => ⟨S2x5632, .f32⟩
  | 36 => ⟨S2050x5632, .f32⟩
  | 37 => ⟨S_, .f32⟩
  | 38 => ⟨S2x5632, .f32⟩
  | 39 => ⟨S2048x5632, .f32⟩
  | 40 => ⟨S1x5632, .f32⟩
  | 41 => ⟨S5632, .f32⟩
  | 42 => ⟨S1x5632, .f32⟩
  | 43 => ⟨S2048x5632, .f32⟩
  | 44 => ⟨S2048x5632, .f32⟩
  | 45 => ⟨S2048x5632, .f32⟩
  | 46 => ⟨S1x5632, .f32⟩
  | 47 => ⟨S5632, .f32⟩
  | 48 => ⟨S1x5632, .f32⟩
  | 49 => ⟨S2048x5632, .f32⟩
  | 50 => ⟨S2048x5632, .f32⟩
  | 51 => ⟨S2048x5632, .f32⟩
  | 52 => ⟨S2048x5632, .f32⟩
  | 53 => ⟨S1x5632, .f32⟩
  | 54 => ⟨S5632, .f32⟩
  | 55 => ⟨S1x5632, .f32⟩
  | 56 => ⟨S2048x5632, .f32⟩
  | 57 => ⟨S2048x5632, .f32⟩
  | 58 => ⟨S2048x5632, .f32⟩
  | 59 => ⟨S1x5632, .f32⟩
  | 60 => ⟨S2048x5632, .f32⟩
  | 61 => ⟨S2048x5632, .f32⟩
  | 62 => ⟨S2048x2816, .f32⟩
  | 63 => ⟨S2048x2816, .f32⟩
  | 64 => ⟨S2048x2816, .f32⟩
  | 65 => ⟨S2048x2816, .f32⟩
  | 66 => ⟨S_, .f32⟩
  | 67 => ⟨S2048x2816, .f32⟩
  | 68 => ⟨S2048x2816, .f32⟩
  | 69 => ⟨S_, .f32⟩
  | 70 => ⟨S2048x2816, .f32⟩
  | 71 => ⟨S2048x2816, .f32⟩
  | 72 => ⟨S_, .f32⟩
  | 73 => ⟨S2048x2816, .f32⟩
  | 74 => ⟨S2048x2816, .f32⟩
  | 75 => ⟨S2048x2816, .f32⟩
  | 76 => ⟨S2048x2816, .f32⟩
  | 77 => ⟨S2048x2816, .f32⟩
  | 78 => ⟨S2048x1024, .f32⟩
  | 79 => ⟨S2048x1024, .f32⟩
  | 80 => ⟨S2048x1024, .f32⟩
  | 81 => ⟨S_, .f32⟩
  | 82 => ⟨S2048, .f32⟩
  | 83 => ⟨S2048x1, .f32⟩
  | 84 => ⟨S_, .f32⟩
  | 85 => ⟨S2048x1, .f32⟩
  | 86 => ⟨S2048x1, .f32⟩
  | 87 => ⟨S_, .f32⟩
  | 88 => ⟨S2048x1, .f32⟩
  | 89 => ⟨S2048x1, .f32⟩
  | 90 => ⟨S2048x1, .f32⟩
  | 91 => ⟨S2048x1, .f32⟩
  | 92 => ⟨S_, .f32⟩
  | 93 => ⟨S2048x1, .f32⟩
  | 94 => ⟨S2048x1, .f32⟩
  | 95 => ⟨S2048x1024, .f32⟩
  | 96 => ⟨S2048x1024, .f32⟩
  | 97 => ⟨S1x1024, .f32⟩
  | 98 => ⟨S2048x1024, .f32⟩
  | 99 => ⟨S2048x1024, .f32⟩
  | 100 => ⟨S2048x1024, .f32⟩
  | 101 => ⟨S2048x1024, .f32⟩
  | 102 => ⟨S_, .f32⟩
  | 103 => ⟨S2048x1024, .f32⟩
  | 104 => ⟨S2048x1024, .f32⟩
  | 105 => ⟨S_, .f32⟩
  | 106 => ⟨S2048, .f32⟩
  | 107 => ⟨S_, .f32⟩
  | 108 => ⟨S2048, .f32⟩
  | 109 => ⟨S2048, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S2048, .f32⟩
  | 118 => ⟨S_, .f32⟩
  | 119 => ⟨S2048, .f32⟩
  | 120 => ⟨S2048, .f32⟩
  | 121 => ⟨S2048x1024, .f32⟩
  | 122 => ⟨S2048x1024, .f32⟩
  | 123 => ⟨S2048x1024, .f32⟩
  | 124 => ⟨S_, .f32⟩
  | 125 => ⟨S1024, .f32⟩
  | 126 => ⟨S1x1024, .f32⟩
  | 127 => ⟨S2048x1024, .f32⟩
  | _ => ⟨S2048x1024, .f32⟩

abbrev hbmTy0_1 (i : Nat) : BufTy := match i % 128 with
  | 0 => ⟨S2048x1024, .f32⟩
  | 1 => ⟨S_, .f32⟩
  | 2 => ⟨S1024, .f32⟩
  | 3 => ⟨S2048x1024, .f32⟩
  | 4 => ⟨S_, .f32⟩
  | 5 => ⟨S2048, .f32⟩
  | 6 => ⟨S2048x1, .f32⟩
  | 7 => ⟨S2048x1024, .f32⟩
  | 8 => ⟨S2048x1024, .f32⟩
  | 9 => ⟨S2048x1, .f32⟩
  | 10 => ⟨S_, .f32⟩
  | 11 => ⟨S2048x1, .f32⟩
  | 12 => ⟨S2048x1, .f32⟩
  | 13 => ⟨S_, .f32⟩
  | 14 => ⟨S2048, .f32⟩
  | 15 => ⟨S2048x1024, .f32⟩
  | 16 => ⟨S2048x1024, .f32⟩
  | 17 => ⟨S2048x1024, .f32⟩
  | 18 => ⟨S2048x1024, .f32⟩
  | 19 => ⟨S2048x1024, .f32⟩
  | 20 => ⟨S2048x2816, .f32⟩
  | 21 => ⟨S2048x2816, .f32⟩
  | 22 => ⟨S2048x2816, .f32⟩
  | 23 => ⟨S2048x2816, .f32⟩
  | 24 => ⟨S2048x2816, .f32⟩
  | 25 => ⟨S2048x2816, .f32⟩
  | 26 => ⟨S2048x2816, .f32⟩
  | 27 => ⟨S2048x5632, .f32⟩
  | 28 => ⟨S_, .f32⟩
  | 29 => ⟨S5632, .f32⟩
  | 30 => ⟨S1x5632, .f32⟩
  | 31 => ⟨S_, .f32⟩
  | 32 => ⟨S5632, .f32⟩
  | 33 => ⟨S2048x5632, .f32⟩
  | 34 => ⟨S_, .f32⟩
  | 35 => ⟨S5632, .f32⟩
  | 36 => ⟨S1x5632, .f32⟩
  | 37 => ⟨S2048x5632, .f32⟩
  | 38 => ⟨S2048x5632, .f32⟩
  | 39 => ⟨S_, .f32⟩
  | 40 => ⟨S5632, .f32⟩
  | 41 => ⟨S1x5632, .f32⟩
  | 42 => ⟨S_, .f32⟩
  | 43 => ⟨S3x5632, .f32⟩
  | 44 => ⟨S_, .f32⟩
  | 45 => ⟨S2050x5632, .f32⟩
  | 46 => ⟨S2048x5632, .f32⟩
  | 47 => ⟨S_, .f32⟩
  | 48 => ⟨S5632, .f32⟩
  | 49 => ⟨S1x5632, .f32⟩
  | 50 => ⟨S2048x5632, .f32⟩
  | 51 => ⟨S2048x5632, .f32⟩
  | 52 => ⟨S_, .f32⟩
  | 53 => ⟨S5632, .f32⟩
  | 54 => ⟨S1x5632, .f32⟩
  | 55 => ⟨S_, .f32⟩
  | 56 => ⟨S3x5632, .f32⟩
  | 57 => ⟨S3x5632, .f32⟩
  | 58 => ⟨S_, .f32⟩
  | 59 => ⟨S2050x5632, .f32⟩
  | 60 => ⟨S2050x5632, .f32⟩
  | 61 => ⟨S2048x5632, .f32⟩
  | 62 => ⟨S_, .f32⟩
  | 63 => ⟨S5632, .f32⟩
  | 64 => ⟨S1x5632, .f32⟩
  | 65 => ⟨S2048x5632, .f32⟩
  | 66 => ⟨S2048x5632, .f32⟩
  | 67 => ⟨S_, .f32⟩
  | 68 => ⟨S5632, .f32⟩
  | 69 => ⟨S1x5632, .f32⟩
  | 70 => ⟨S_, .f32⟩
  | 71 => ⟨S3x5632, .f32⟩
  | 72 => ⟨S3x5632, .f32⟩
  | 73 => ⟨S_, .f32⟩
  | 74 => ⟨S2050x5632, .f32⟩
  | 75 => ⟨S2050x5632, .f32⟩
  | 76 => ⟨S2x5632, .f32⟩
  | 77 => ⟨S2048x5632, .f32⟩
  | 78 => ⟨S2048x1024, .f32⟩
  | 79 => ⟨S2048x1024, .f32⟩
  | 80 => ⟨S_, .f32⟩
  | 81 => ⟨S1024, .f32⟩
  | 82 => ⟨S1x1024, .f32⟩
  | 83 => ⟨S2048x1024, .f32⟩
  | 84 => ⟨S2048x1024, .f32⟩
  | 85 => ⟨S_, .f32⟩
  | 86 => ⟨S1024, .f32⟩
  | 87 => ⟨S2048x1024, .f32⟩
  | 88 => ⟨S_, .f32⟩
  | 89 => ⟨S2048, .f32⟩
  | 90 => ⟨S2048x1, .f32⟩
  | 91 => ⟨S2048x1024, .f32⟩
  | 92 => ⟨S2048x1024, .f32⟩
  | 93 => ⟨S2048x1, .f32⟩
  | 94 => ⟨S_, .f32⟩
  | 95 => ⟨S2048x1, .f32⟩
  | 96 => ⟨S2048x1, .f32⟩
  | 97 => ⟨S_, .f32⟩
  | 98 => ⟨S2048, .f32⟩
  | 99 => ⟨S2048x1024, .f32⟩
  | 100 => ⟨S2048x1024, .f32⟩
  | 101 => ⟨S2048x1024, .f32⟩
  | 102 => ⟨S2048x1024, .f32⟩
  | 103 => ⟨S2048x1024, .f32⟩
  | 104 => ⟨S1x5632, .f32⟩
  | 105 => ⟨S4x5632, .f32⟩
  | 106 => ⟨S_, .i32⟩
  | 107 => ⟨S_, .f32⟩
  | 108 => ⟨S8x5632, .f32⟩
  | 109 => ⟨S8x2816, .f32⟩
  | 110 => ⟨S8x2816, .f32⟩
  | 111 => ⟨S1x8x2816, .f32⟩
  | 112 => ⟨S1x8x2816, .f32⟩
  | 113 => ⟨S2x8x2816, .f32⟩
  | 114 => ⟨S2048x1024, .bf16⟩
  | 115 => ⟨S2048x5632, .bf16⟩
  | 116 => ⟨S2048x1024, .f32⟩
  | 117 => ⟨S1x1024, .f32⟩
  | 118 => ⟨S_, .i32⟩
  | 119 => ⟨S_, .f32⟩
  | 120 => ⟨S8x1024, .f32⟩
  | 121 => ⟨S1x1024, .f32⟩
  | 122 => ⟨S_, .i32⟩
  | 123 => ⟨S_, .f32⟩
  | 124 => ⟨S8x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_v50_2 : Ref sig .tc := ⟨.hbm, 71, rfl⟩
abbrev main_call0_cst_1 : Ref sig .tc := ⟨.hbm, 72, rfl⟩
abbrev main_call0_v6 : Ref sig .tc := ⟨.hbm, 73, rfl⟩
abbrev main_call0_v7 : Ref sig .tc := ⟨.hbm, 74, rfl⟩
abbrev main_v50_1 : Ref sig .tc := ⟨.hbm, 75, rfl⟩
abbrev main_v50_0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_5 : Ref sig .tc := ⟨.hbm, 81, rfl⟩
abbrev main_v55 : Ref sig .tc := ⟨.hbm, 82, rfl⟩
abbrev main_v56 : Ref sig .tc := ⟨.hbm, 83, rfl⟩
abbrev main_cst_6 : Ref sig .tc := ⟨.hbm, 84, rfl⟩
abbrev main_v57 : Ref sig .tc := ⟨.hbm, 85, rfl⟩
abbrev main_v58 : Ref sig .tc := ⟨.hbm, 86, rfl⟩
abbrev main_cst_7 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_8 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_9 : Ref sig .tc := ⟨.hbm, 102, rfl⟩
abbrev main_v72 : Ref sig .tc := ⟨.hbm, 103, rfl⟩
abbrev main_v73 : Ref sig .tc := ⟨.hbm, 104, rfl⟩
abbrev main_cst_10 : Ref sig .tc := ⟨.hbm, 105, rfl⟩
abbrev main_v74 : Ref sig .tc := ⟨.hbm, 106, rfl⟩
abbrev main_cst_11 : Ref sig .tc := ⟨.hbm, 107, rfl⟩
abbrev main_v75 : Ref sig .tc := ⟨.hbm, 108, rfl⟩
abbrev main_v76 : Ref sig .tc := ⟨.hbm, 109, rfl⟩
abbrev main_cst_12 : Ref sig .tc := ⟨.hbm, 110, rfl⟩
abbrev main_v77 : Ref sig .tc := ⟨.hbm, 111, rfl⟩
abbrev main_cst_13 : Ref sig .tc := ⟨.hbm, 112, rfl⟩
abbrev main_v78 : Ref sig .tc := ⟨.hbm, 113, rfl⟩
abbrev main_cst_14 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_cst_16 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_17 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_18 : Ref sig .tc := ⟨.hbm, 129, rfl⟩
abbrev main_v90 : Ref sig .tc := ⟨.hbm, 130, rfl⟩
abbrev main_v91 : Ref sig .tc := ⟨.hbm, 131, rfl⟩
abbrev main_cst_19 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_20 : Ref sig .tc := ⟨.hbm, 138, rfl⟩
abbrev main_v97 : Ref sig .tc := ⟨.hbm, 139, rfl⟩
abbrev main_v98 : Ref sig .tc := ⟨.hbm, 140, rfl⟩
abbrev main_cst_21 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_call1_v0 : Ref sig .tc := ⟨.hbm, 151, rfl⟩
abbrev main_call1_v1 : Ref sig .tc := ⟨.hbm, 152, rfl⟩
abbrev main_call1_v2 : Ref sig .tc := ⟨.hbm, 153, rfl⟩
abbrev main_v108 : Ref sig .tc := ⟨.hbm, 154, rfl⟩
abbrev main_v109 : Ref sig .tc := ⟨.hbm, 155, rfl⟩
abbrev main_cst_22 : Ref sig .tc := ⟨.hbm, 156, rfl⟩
abbrev main_v110 : Ref sig .tc := ⟨.hbm, 157, rfl⟩
abbrev main_v111 : Ref sig .tc := ⟨.hbm, 158, rfl⟩
abbrev main_cst_23 : Ref sig .tc := ⟨.hbm, 159, rfl⟩
abbrev main_v112 : Ref sig .tc := ⟨.hbm, 160, rfl⟩
abbrev main_v113 : Ref sig .tc := ⟨.hbm, 161, rfl⟩
abbrev main_cst_24 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_25 : Ref sig .tc := ⟨.hbm, 167, rfl⟩
abbrev main_v118 : Ref sig .tc := ⟨.hbm, 168, rfl⟩
abbrev main_v119 : Ref sig .tc := ⟨.hbm, 169, rfl⟩
abbrev main_cst_26 : Ref sig .tc := ⟨.hbm, 170, rfl⟩
abbrev main_v120 : Ref sig .tc := ⟨.hbm, 171, rfl⟩
abbrev main_cst_27 : Ref sig .tc := ⟨.hbm, 172, rfl⟩
abbrev main_v121 : Ref sig .tc := ⟨.hbm, 173, rfl⟩
abbrev main_v122 : Ref sig .tc := ⟨.hbm, 174, rfl⟩
abbrev main_cst_28 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_cst_29 : Ref sig .tc := ⟨.hbm, 180, rfl⟩
abbrev main_v127 : Ref sig .tc := ⟨.hbm, 181, rfl⟩
abbrev main_v128 : Ref sig .tc := ⟨.hbm, 182, rfl⟩
abbrev main_cst_30 : Ref sig .tc := ⟨.hbm, 183, rfl⟩
abbrev main_v129 : Ref sig .tc := ⟨.hbm, 184, rfl⟩
abbrev main_v130 : Ref sig .tc := ⟨.hbm, 185, rfl⟩
abbrev main_cst_31 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_32 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_33 : Ref sig .tc := ⟨.hbm, 195, rfl⟩
abbrev main_v138 : Ref sig .tc := ⟨.hbm, 196, rfl⟩
abbrev main_v139 : Ref sig .tc := ⟨.hbm, 197, rfl⟩
abbrev main_cst_34 : Ref sig .tc := ⟨.hbm, 198, rfl⟩
abbrev main_v140 : Ref sig .tc := ⟨.hbm, 199, rfl⟩
abbrev main_v141 : Ref sig .tc := ⟨.hbm, 200, rfl⟩
abbrev main_cst_35 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_36 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_cst_37 : Ref sig .tc := ⟨.hbm, 213, rfl⟩
abbrev main_v152 : Ref sig .tc := ⟨.hbm, 214, rfl⟩
abbrev main_v153 : Ref sig .tc := ⟨.hbm, 215, rfl⟩
abbrev main_cst_38 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_cst_39 : Ref sig .tc := ⟨.hbm, 222, rfl⟩
abbrev main_v159 : Ref sig .tc := ⟨.hbm, 223, rfl⟩
abbrev main_v160 : Ref sig .tc := ⟨.hbm, 224, rfl⟩
abbrev main_cst_40 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_c : Ref sig .tc := ⟨.hbm, 234, rfl⟩
abbrev main_call2_v0 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_c_41 : Ref sig .tc := ⟨.hbm, 246, rfl⟩
abbrev main_call3_v0 : Ref sig .tc := ⟨.hbm, 247, rfl⟩
abbrev main_v179 : Ref sig .tc := ⟨.hbm, 248, rfl⟩
abbrev main_v180 : Ref sig .tc := ⟨.hbm, 249, rfl⟩
abbrev main_c_42 : Ref sig .tc := ⟨.hbm, 250, rfl⟩
abbrev main_call4_v0 : Ref sig .tc := ⟨.hbm, 251, rfl⟩
abbrev main_v181 : Ref sig .tc := ⟨.hbm, 252, rfl⟩

abbrev nD : Nat := 1
abbrev τ : Topo := Topo.v7x

variable {F : FTy → Type} [FloatOps F]
-- ==== Kernel2.lean ====
abbrev S2048x1024 : Shape := ⟨2, ![2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S5632x1024 : Shape := ⟨2, ![5632, 1024]⟩
abbrev S2816x1024 : Shape := ⟨2, ![2816, 1024]⟩
abbrev S3x5632 : Shape := ⟨2, ![3, 5632]⟩
abbrev S_ : Shape := ⟨0, ![]⟩
abbrev S8x5632 : Shape := ⟨2, ![8, 5632]⟩
abbrev S2048x5632 : Shape := ⟨2, ![2048, 5632]⟩
abbrev S2048x2816 : Shape := ⟨2, ![2048, 2816]⟩
abbrev S8x8x128 : Shape := ⟨3, ![8, 8, 128]⟩
abbrev S256x1024 : Shape := ⟨2, ![256, 1024]⟩
abbrev S256x5632 : Shape := ⟨2, ![256, 5632]⟩
abbrev S256x2816 : Shape := ⟨2, ![256, 2816]⟩
abbrev S1x8x128 : Shape := ⟨3, ![1, 8, 128]⟩
abbrev S256 : Shape := ⟨1, ![256]⟩
abbrev S256x1 : Shape := ⟨2, ![256, 1]⟩
abbrev S8x2816 : Shape := ⟨2, ![8, 2816]⟩
abbrev S1x2816 : Shape := ⟨2, ![1, 2816]⟩
abbrev S1x256 : Shape := ⟨2, ![1, 256]⟩
abbrev S1 : Shape := ⟨1, ![1]⟩
abbrev S1x1 : Shape := ⟨2, ![1, 1]⟩

abbrev nBuf : Space → Nat
  | .hbm => 24
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S2048x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | .hbm, ⟨11, _⟩ => ⟨S2816x1024, .f32⟩
  | .hbm, ⟨12, _⟩ => ⟨S2816x1024, .bf16⟩
  | .hbm, ⟨13, _⟩ => ⟨S3x5632, .f32⟩
  | .hbm, ⟨14, _⟩ => ⟨S_, .i32⟩
  | .hbm, ⟨15, _⟩ => ⟨S_, .f32⟩
  | .hbm, ⟨16, _⟩ => ⟨S8x5632, .f32⟩
  | .hbm, ⟨17, _⟩ => ⟨S1x1024, .f32⟩
  | .hbm, ⟨18, _⟩ => ⟨S2048x1024, .bf16⟩
  | .hbm, ⟨19, _⟩ => ⟨S2048x5632, .bf16⟩
  | .hbm, ⟨20, _⟩ => ⟨S2048x5632, .bf16⟩
  | .hbm, ⟨21, _⟩ => ⟨S2048x2816, .bf16⟩
  | .hbm, ⟨22, _⟩ => ⟨S2048x1024, .f32⟩
  | .hbm, ⟨23, _⟩ => ⟨S8x8x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5632x1024, .bf16⟩
  | .local _ .vmem, ⟨4, _⟩ => ⟨S8x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x5632, .bf16⟩
  | .local _ .vmem, ⟨13, _⟩ => ⟨S256x5632, .bf16⟩
  | .local _ .vmem, ⟨14, _⟩ => ⟨S256x5632, .bf16⟩
  | .local _ .vmem, ⟨15, _⟩ => ⟨S256x5632, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .f32⟩
  | .local _ .vmem, ⟨19, _⟩ => ⟨S256x1024, .f32⟩
  | .local _ .vmem, ⟨20, _⟩ => ⟨S1x8x128, .f32⟩
  | .local _ .vmem, ⟨21, _⟩ => ⟨S1x8x128, .f32⟩
  | .local _ .vmem, ⟨22, _⟩ => ⟨S8x5632, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S2048x1024 : Shape := ⟨2, ![2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1024x5632 : Shape := ⟨2, ![1024, 5632]⟩
abbrev S2048x5632 : Shape := ⟨2, ![2048, 5632]⟩
abbrev S3x5632 : Shape := ⟨2, ![3, 5632]⟩
abbrev S5632 : Shape := ⟨1, ![5632]⟩
abbrev S2x5632 : Shape := ⟨2, ![2, 5632]⟩
abbrev S2050x5632 : Shape := ⟨2, ![2050, 5632]⟩
abbrev S2048x2816 : Shape := ⟨2, ![2048, 2816]⟩
abbrev S2816x1024 : Shape := ⟨2, ![2816, 1024]⟩
abbrev S8x256 : Shape := ⟨2, ![8, 256]⟩
abbrev S8 : Shape := ⟨1, ![8]⟩
abbrev S8x1x1 : Shape := ⟨3, ![8, 1, 1]⟩
abbrev S8x8x128 : Shape := ⟨3, ![8, 8, 128]⟩

abbrev nBuf : Space → Nat
  | .hbm => 105
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S1024x5632, .f32⟩
  | .hbm, ⟨26, _⟩ => ⟨S2048x5632, .f32⟩
  | .hbm, ⟨27, _⟩ => ⟨S3x5632, .f32⟩
  | .hbm, ⟨28, _⟩ => ⟨S5632, .f32⟩
  | .hbm, ⟨29, _⟩ => ⟨S_, .f32⟩
  | .hbm, ⟨30, _⟩ => ⟨S2x5632, .f32⟩
  | .hbm, ⟨31, _⟩ => ⟨S2050x5632, .f32⟩
  | .hbm, ⟨32, _⟩ => ⟨S2048x5632, .f32⟩
  | .hbm, ⟨33, _⟩ => ⟨S1x5632, .f32⟩
  | .hbm, ⟨34, _⟩ => ⟨S5632, .f32⟩
  | .hbm, ⟨35, _⟩ => ⟨S1x5632, .f32⟩
  | .hbm, ⟨36, _⟩ => ⟨S2048x5632, .f32⟩
  | .hbm, ⟨37, _⟩ => ⟨S2048x5632, .f32⟩
  | .hbm, ⟨38, _⟩ => ⟨S2048x5632, .f32⟩
  | .hbm, ⟨39, _⟩ => ⟨S1x5632, .f32⟩
  | .hbm, ⟨40, _⟩ => ⟨S5632, .f32⟩
  | .hbm, ⟨41, _⟩ => ⟨S1x5632, .f32⟩
  | .hbm, ⟨42, _⟩ => ⟨S2048x5632, .f32⟩
  | .hbm, ⟨43, _⟩ => ⟨S2048x5632, .f32⟩
  | .hbm, ⟨44, _⟩ => ⟨S2048x5632, .f32⟩
  | .hbm, ⟨45, _⟩ => ⟨S2048x5632, .f32⟩
  | .hbm, ⟨46, _⟩ => ⟨S1x5632, .f32⟩
  | .hbm, ⟨47, _⟩ => ⟨S5632, .f32⟩
  | .hbm, ⟨48, _⟩ => ⟨S1x5632, .f32⟩
  | .hbm, ⟨49, _⟩ => ⟨S2048x5632, .f32⟩
  | .hbm, ⟨50, _⟩ => ⟨S2048x5632, .f32⟩
  | .hbm, ⟨51, _⟩ => ⟨S2048x5632, .f32⟩
  | .hbm, ⟨52, _⟩ => ⟨S1x5632, .f32⟩
  | .hbm, ⟨53, _⟩ => ⟨S2048x5632, .f32⟩
  | .hbm, ⟨54, _⟩ => ⟨S2048x5632, .f32⟩
  | .hbm, ⟨55, _⟩ => ⟨S2048x2816, .f32⟩
  | .hbm, ⟨56, _⟩ => ⟨S2048x2816, .f32⟩
  | .hbm, ⟨57, _⟩ => ⟨S2048x2816, .f32⟩
  | .hbm, ⟨58, _⟩ => ⟨S2048x2816, .f32⟩
  | .hbm, ⟨59, _⟩ => ⟨S_, .f32⟩
  | .hbm, ⟨60, _⟩ => ⟨S2048x2816, .f32⟩
  | .hbm, ⟨61, _⟩ => ⟨S2048x2816, .f32⟩
  | .hbm, ⟨62, _⟩ => ⟨S_, .f32⟩
  | .hbm, ⟨63, _⟩ => ⟨S2048x2816, .f32⟩
  | .hbm, ⟨64, _⟩ => ⟨S2048x2816, .f32⟩
  | .hbm, ⟨65, _⟩ => ⟨S2048x2816, .f32⟩
  | .hbm, ⟨66, _⟩ => ⟨S2048x2816, .f32⟩
  | .hbm, ⟨67, _⟩ => ⟨S2816x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S2048, .f32⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S2048x1, .f32⟩
  | .hbm, ⟨81, _⟩ => ⟨S2048x1024, .f32⟩
  | .hbm, ⟨82, _⟩ => ⟨S2048x1024, .f32⟩
  | .hbm, ⟨83, _⟩ => ⟨S1x1024, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S_, .f32⟩
  | .hbm, ⟨89, _⟩ => ⟨S2048, .f32⟩
  | .hbm, ⟨90, _⟩ => ⟨S_, .f32⟩
  | .hbm, ⟨91, _⟩ => ⟨S2048, .f32⟩
  | .hbm, ⟨92, _⟩ => ⟨S2048, .f32⟩
  | .hbm, ⟨93, _⟩ => ⟨S8x256, .f32⟩
  | .hbm, ⟨94, _⟩ => ⟨S_, .f32⟩
  | .hbm, ⟨95, _⟩ => ⟨S8, .f32⟩
  | .hbm, ⟨96, _⟩ => ⟨S_, .f32⟩
  | .hbm, ⟨97, _⟩ => ⟨S8, .f32⟩
  | .hbm, ⟨98, _⟩ => ⟨S8, .f32⟩
  | .hbm, ⟨99, _⟩ => ⟨S2048x1024, .bf16⟩
  | .hbm, ⟨100, _⟩ => ⟨S2048x5632, .bf16⟩
  | .hbm, ⟨101, _⟩ => ⟨S2048x5632, .bf16⟩
  | .hbm, ⟨102, _⟩ => ⟨S2048x2816, .bf16⟩
  | .hbm, ⟨103, _⟩ => ⟨S8x1x1, .f32⟩
  | .hbm, ⟨104, _⟩ => ⟨S8x8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_3 : Ref sig .tc := ⟨.hbm, 71, rfl⟩
abbrev main_v51 : Ref sig .tc := ⟨.hbm, 72, rfl⟩
abbrev main_v52 : Ref sig .tc := ⟨.hbm, 73, rfl⟩
abbrev main_cst_4 : Ref sig .tc := ⟨.hbm, 74, rfl⟩
abbrev main_v53 : Ref sig .tc := ⟨.hbm, 75, rfl⟩
abbrev main_v54 : Ref sig .tc := ⟨.hbm, 76, rfl⟩
abbrev main_cst_5 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_6 : Ref sig .tc := ⟨.hbm, 88, rfl⟩
abbrev main_v65 : Ref sig .tc := ⟨.hbm, 89, rfl⟩
abbrev main_cst_7 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_8 : Ref sig .tc := ⟨.hbm, 94, rfl⟩
abbrev main_v69 : Ref sig .tc := ⟨.hbm, 95, rfl⟩
abbrev main_cst_9 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== Kernel3.lean ====
abbrev S2048x1024 : Shape := ⟨2, ![2048, 1024]⟩
abbrev S1x1024x1024 : Shape := ⟨3, ![1, 1024, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024x1024, .f32⟩
  | .hbm, ⟨3, _⟩ => ⟨S2048x1024, .bf16⟩
  | .hbm, ⟨4, _⟩ => ⟨S1024x1024, .bf16⟩
  | .local _ .vmem, ⟨0, _⟩ => ⟨S2048x1024, .bf16⟩
  | .local _ .vmem, ⟨1, _⟩ => ⟨S2048x512, .f32⟩
  | .local _ .vmem, ⟨2, _⟩ => ⟨S2048x512, .f32⟩
  | .local _ .vmem, ⟨3, _⟩ => ⟨S1024x512, .bf16⟩
  | .local _ .vmem, ⟨4, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024x1024, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1024x1024, .f32⟩
  | .hbm, ⟨9, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x1024 : Shape := ⟨2, ![2048, 1024]⟩
abbrev S2048x5632 : Shape := ⟨2, ![2048, 5632]⟩
abbrev S1x1024x5632 : Shape := ⟨3, ![1, 1024, 5632]⟩
abbrev S2048x8x704 : Shape := ⟨3, ![2048, 8, 704]⟩
abbrev S8x2048x704 : Shape := ⟨3, ![8, 2048, 704]⟩
abbrev S8x1024x704 : Shape := ⟨3, ![8, 1024, 704]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 8
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S1x1024x5632, .f32⟩
  | .hbm, ⟨3, _⟩ => ⟨S2048x8x704, .f32⟩
  | .hbm, ⟨4, _⟩ => ⟨S8x2048x704, .f32⟩
  | .hbm, ⟨5, _⟩ => ⟨S2048x1024, .bf16⟩
  | .hbm, ⟨6, _⟩ => ⟨S8x2048x704, .bf16⟩
  | .hbm, ⟨7, _⟩ => ⟨S8x1024x704, .bf16⟩
  | .local _ .vmem, ⟨0, _⟩ => ⟨S2048x1024, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x1024x704, .bf16⟩
  | .local _ .vmem, ⟨4, _⟩ => ⟨S1x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x1024 : Shape := ⟨2, ![2048, 1024]⟩
abbrev S2048x5632 : Shape := ⟨2, ![2048, 5632]⟩
abbrev S1x1024x5632 : Shape := ⟨3, ![1, 1024, 5632]⟩
abbrev S1024x5632 : Shape := ⟨2, ![1024, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S1x1024x5632, .f32⟩
  | .hbm, ⟨3, _⟩ => ⟨S1024x5632, .f32⟩
  | .hbm, ⟨4, _⟩ => ⟨S2048x5632, .f32⟩
  | .hbm, ⟨5, _⟩ => ⟨S5632x1024, .f32⟩
  | .hbm, ⟨6, _⟩ => ⟨S1024x5632, .f32⟩
  | .hbm, ⟨7, _⟩ => ⟨S1x1024x5632, .f32⟩
  | .hbm, ⟨8, _⟩ => ⟨S1024x5632, .f32⟩
  | .hbm, ⟨9, _⟩ => ⟨S1024x8x704, .f32⟩
  | .hbm, ⟨10, _⟩ => ⟨S8x1024x704, .f32⟩
  | .hbm, ⟨11, _⟩ => ⟨S8x1024x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S2048x1024 : Shape := ⟨2, ![2048, 1024]⟩
abbrev S2048x3072 : Shape := ⟨2, ![2048, 3072]⟩
abbrev S1x1024x3072 : Shape := ⟨3, ![1, 1024, 3072]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x3072, .f32⟩
  | .hbm, ⟨2, _⟩ => ⟨S1x1024x3072, .f32⟩
  | .hbm, ⟨3, _⟩ => ⟨S2048x1024, .bf16⟩
  | .hbm, ⟨4, _⟩ => ⟨S2048x3072, .bf16⟩
  | .hbm, ⟨5, _⟩ => ⟨S1x1024x3072, .bf16⟩
  | .local _ .vmem, ⟨0, _⟩ => ⟨S2048x1024, .bf16⟩
  | .local _ .vmem, ⟨1, _⟩ => ⟨S2048x768, .bf16⟩
  | .local _ .vmem, ⟨2, _⟩ => ⟨S2048x768, .bf16⟩
  | .local _ .vmem, ⟨3, _⟩ => ⟨S1x1024x768, .bf16⟩
  | .local _ .vmem, ⟨4, _⟩ => ⟨S1x1024x768, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S2048x3072 : Shape := ⟨2, ![2048, 3072]⟩
abbrev S1x1024x3072 : Shape := ⟨3, ![1, 1024, 3072]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x3072, .f32⟩
  | .hbm, ⟨2, _⟩ => ⟨S1x1024x3072, .f32⟩
  | .hbm, ⟨3, _⟩ => ⟨S1024x3072, .f32⟩
  | .hbm, ⟨4, _⟩ => ⟨S2048x3072, .f32⟩
  | .hbm, ⟨5, _⟩ => ⟨S3072x1024, .f32⟩
  | .hbm, ⟨6, _⟩ => ⟨S1024x3072, .f32⟩
  | .hbm, ⟨7, _⟩ => ⟨S1x1024x3072, .f32⟩
  | .hbm, ⟨8, _⟩ => ⟨S1x1024x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S2048x2816 : Shape := ⟨2, ![2048, 2816]⟩
abbrev S2048x1024 : Shape := ⟨2, ![2048, 1024]⟩
abbrev S1x2816x1024 : Shape := ⟨3, ![1, 2816, 1024]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S1x2816x1024, .f32⟩
  | .hbm, ⟨3, _⟩ => ⟨S2048x4x704, .f32⟩
  | .hbm, ⟨4, _⟩ => ⟨S4x2048x704, .f32⟩
  | .hbm, ⟨5, _⟩ => ⟨S4x2048x704, .bf16⟩
  | .hbm, ⟨6, _⟩ => ⟨S2048x1024, .bf16⟩
  | .hbm, ⟨7, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x704x1024, .bf16⟩
  | .local _ .vmem, ⟨4, _⟩ => ⟨S1x704x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x2816 : Shape := ⟨2, ![2048, 2816]⟩
abbrev S2048x1024 : Shape := ⟨2, ![2048, 1024]⟩
abbrev S1x2816x1024 : Shape := ⟨3, ![1, 2816, 1024]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S1x2816x1024, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S1x2816x1024, .f32⟩
  | .hbm, ⟨8, _⟩ => ⟨S2816x1024, .f32⟩
  | .hbm, ⟨9, _⟩ => ⟨S4x704x1024, .f32⟩
  | .hbm, ⟨10, _⟩ => ⟨S4x704x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S2048x3072 : Shape := ⟨2, ![2048, 3072]⟩
abbrev S1x1024x3072 : Shape := ⟨3, ![1, 1024, 3072]⟩
abbrev S2048x1024 : Shape := ⟨2, ![2048, 1024]⟩
abbrev S1x1024 : Shape := ⟨2, ![1, 1024]⟩
abbrev S1024x3072 : Shape := ⟨2, ![1024, 3072]⟩
abbrev S8x1024 : Shape := ⟨2, ![8, 1024]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S2048x3072, .f32⟩
  | .hbm, ⟨1, _⟩ => ⟨S1x1024x3072, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x3072, .bf16⟩
  | .hbm, ⟨6, _⟩ => ⟨S1024x3072, .f32⟩
  | .hbm, ⟨7, _⟩ => ⟨S1024x3072, .bf16⟩
  | .hbm, ⟨8, _⟩ => ⟨S2048x1024, .f32⟩
  | .hbm, ⟨9, _⟩ => ⟨S8x1024, .f32⟩
  | .local _ .vmem, ⟨0, _⟩ => ⟨S256x3072, .bf16⟩
  | .local _ .vmem, ⟨1, _⟩ => ⟨S256x3072, .bf16⟩
  | .local _ .vmem, ⟨2, _⟩ => ⟨S1024x3072, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S2048x3072 : Shape := ⟨2, ![2048, 3072]⟩
abbrev S1x1024x3072 : Shape := ⟨3, ![1, 1024, 3072]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1024x3072 : Shape := ⟨2, ![1024, 3072]⟩
abbrev S8x1024 : Shape := ⟨2, ![8, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S1x1024x3072, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S1024x3072, .f32⟩
  | .hbm, ⟨27, _⟩ => ⟨S2048x3072, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S1x1024, .f32⟩
  | .hbm, ⟨56, _⟩ => ⟨S_, .i32⟩
  | .hbm, ⟨57, _⟩ => ⟨S_, .f32⟩
  | .hbm, ⟨58, _⟩ => ⟨S8x1024, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_call0_v0 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel9.lean ====
abbrev S2048x1024 : Shape := ⟨2, ![2048, 1024]⟩
abbrev S1x1024 : Shape := ⟨2, ![1, 1024]⟩
abbrev S1x1024x3072 : Shape := ⟨3, ![1, 1024, 3072]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048x1x128 : Shape := ⟨4, ![1, 2048, 1, 128]⟩
abbrev S1x2048x4x128 : Shape := ⟨4, ![1, 2048, 4, 128]⟩
abbrev S2048x512 : Shape := ⟨2, ![2048, 512]⟩
abbrev S1024x3072 : Shape := ⟨2, ![1024, 3072]⟩
abbrev S2048x3072 : Shape := ⟨2, ![2048, 3072]⟩
abbrev S256x1024 : Shape := ⟨2, ![256, 1024]⟩
abbrev S256x512 : Shape := ⟨2, ![256, 512]⟩
abbrev S256x3072 : Shape := ⟨2, ![256, 3072]⟩
abbrev S256 : Shape := ⟨1, ![256]⟩
abbrev S256x1 : Shape := ⟨2, ![256, 1]⟩
abbrev S256x128 : Shape := ⟨2, ![256, 128]⟩
abbrev S256x2048 : Shape := ⟨2, ![256, 2048]⟩

abbrev nBuf : Space → Nat
  | .hbm => 32
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024x3072, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048, .f32⟩
  | .hbm, ⟨12, _⟩ => ⟨S2048x1, .f32⟩
  | .hbm, ⟨13, _⟩ => ⟨S1x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x128, .f32⟩
  | .hbm, ⟨20, _⟩ => ⟨S1x2048x1x128, .f32⟩
  | .hbm, ⟨21, _⟩ => ⟨S1x2048x4x128, .f32⟩
  | .hbm, ⟨22, _⟩ => ⟨S2048x512, .f32⟩
  | .hbm, ⟨23, _⟩ => ⟨S2048x64, .f32⟩
  | .hbm, ⟨24, _⟩ => ⟨S2048x128, .f32⟩
  | .hbm, ⟨25, _⟩ => ⟨S1x2048x1x128, .f32⟩
  | .hbm, ⟨26, _⟩ => ⟨S1x2048x4x128, .f32⟩
  | .hbm, ⟨27, _⟩ => ⟨S2048x512, .f32⟩
  | .hbm, ⟨28, _⟩ => ⟨S1024x3072, .f32⟩
  | .hbm, ⟨29, _⟩ => ⟨S1024x3072, .bf16⟩
  | .hbm, ⟨30, _⟩ => ⟨S2048x3072, .f32⟩
  | .hbm, ⟨31, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x3072, .f32⟩
  | .local _ .vmem, ⟨9, _⟩ => ⟨S256x3072, .f32⟩
  | .local _ .vmem, ⟨10, _⟩ => ⟨S256x1024, .bf16⟩
  | .local _ .vmem, ⟨11, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25_0 : Ref sig .tc := ⟨.hbm, 30, rfl⟩
abbrev main_v25_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S2048x1024 : Shape := ⟨2, ![2048, 1024]⟩
abbrev S1x1024 : Shape := ⟨2, ![1, 1024]⟩
abbrev S1x1024x3072 : Shape := ⟨3, ![1, 1024, 3072]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S1024 : Shape := ⟨1, ![1024]⟩
abbrev S1024x3072 : Shape := ⟨2, ![1024, 3072]⟩
abbrev S2048x3072 : Shape := ⟨2, ![2048, 3072]⟩
abbrev S2048x512 : Shape := ⟨2, ![2048, 512]⟩
abbrev S2048x2048 : Shape := ⟨2, ![2048, 2048]⟩
abbrev S2048x4x128 : Shape := ⟨3, ![2048, 4, 128]⟩
abbrev S2048x4x64 : Shape := ⟨3, ![2048, 4, 64]⟩
abbrev S2048x1x64 : Shape := ⟨3, ![2048, 1, 64]⟩

abbrev nBuf : Space → Nat
  | .hbm => 80
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024x3072, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048, .f32⟩
  | .hbm, ⟨12, _⟩ => ⟨S2048x1, .f32⟩
  | .hbm, ⟨13, _⟩ => ⟨S1x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S1024x3072, .f32⟩
  | .hbm, ⟨37, _⟩ => ⟨S2048x3072, .f32⟩
  | .hbm, ⟨38, _⟩ => ⟨S2048x512, .f32⟩
  | .hbm, ⟨39, _⟩ => ⟨S2048x512, .f32⟩
  | .hbm, ⟨40, _⟩ => ⟨S2048x2048, .f32⟩
  | .hbm, ⟨41, _⟩ => ⟨S2048x4x128, .f32⟩
  | .hbm, ⟨42, _⟩ => ⟨S2048x4x64, .f32⟩
  | .hbm, ⟨43, _⟩ => ⟨S2048x4x64, .f32⟩
  | .hbm, ⟨44, _⟩ => ⟨S2048x1x64, .f32⟩
  | .hbm, ⟨45, _⟩ => ⟨S2048x1x64, .f32⟩
  | .hbm, ⟨46, _⟩ => ⟨S2048x4x64, .f32⟩
  | .hbm, ⟨47, _⟩ => ⟨S2048x4x64, .f32⟩
  | .hbm, ⟨48, _⟩ => ⟨S2048x4x64, .f32⟩
  | .hbm, ⟨49, _⟩ => ⟨S2048x4x64, .f32⟩
  | .hbm, ⟨50, _⟩ => ⟨S2048x4x64, .f32⟩
  | .hbm, ⟨51, _⟩ => ⟨S2048x4x64, .f32⟩
  | .hbm, ⟨52, _⟩ => ⟨S2048x4x64, .f32⟩
  | .hbm, ⟨53, _⟩ => ⟨S2048x4x64, .f32⟩
  | .hbm, ⟨54, _⟩ => ⟨S2048x4x64, .f32⟩
  | .hbm, ⟨55, _⟩ => ⟨S2048x4x64, .f32⟩
  | .hbm, ⟨56, _⟩ => ⟨S2048x4x128, .f32⟩
  | .hbm, ⟨57, _⟩ => ⟨S2048x4x128, .f32⟩
  | .hbm, ⟨58, _⟩ => ⟨S2048x4x64, .f32⟩
  | .hbm, ⟨59, _⟩ => ⟨S2048x4x64, .f32⟩
  | .hbm, ⟨60, _⟩ => ⟨S2048x1x64, .f32⟩
  | .hbm, ⟨61, _⟩ => ⟨S2048x1x64, .f32⟩
  | .hbm, ⟨62, _⟩ => ⟨S2048x4x64, .f32⟩
  | .hbm, ⟨63, _⟩ => ⟨S2048x4x64, .f32⟩
  | .hbm, ⟨64, _⟩ => ⟨S2048x4x64, .f32⟩
  | .hbm, ⟨65, _⟩ => ⟨S2048x4x64, .f32⟩
  | .hbm, ⟨66, _⟩ => ⟨S2048x4x64, .f32⟩
  | .hbm, ⟨67, _⟩ => ⟨S2048x4x64, .f32⟩
  | .hbm, ⟨68, _⟩ => ⟨S2048x4x64, .f32⟩
  | .hbm, ⟨69, _⟩ => ⟨S2048x4x64, .f32⟩
  | .hbm, ⟨70, _⟩ => ⟨S2048x4x64, .f32⟩
  | .hbm, ⟨71, _⟩ => ⟨S2048x4x64, .f32⟩
  | .hbm, ⟨72, _⟩ => ⟨S2048x4x128, .f32⟩
  | .hbm, ⟨73, _⟩ => ⟨S_, .f32⟩
  | .hbm, ⟨74, _⟩ => ⟨S2048x4x128, .f32⟩
  | .hbm, ⟨75, _⟩ => ⟨S2048x4x128, .f32⟩
  | .hbm, ⟨76, _⟩ => ⟨S2048x512, .f32⟩
  | .hbm, ⟨77, _⟩ => ⟨S2048x512, .f32⟩
  | .hbm, ⟨78, _⟩ => ⟨S2048x3072, .f32⟩
  | .hbm, ⟨79, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_cst_4 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩

abbrev nD : Nat := 1
abbrev τ : Topo := Topo.v7x

variable {F : FTy → Type} [FloatOps F]
-- ==== Proof.Reals.lean ====
/-
  Arithmetic over the extended reals at values that are real: what stays real, and the three places where the gradient
  as the kernel writes it and the gradient as differentiation writes it differ by the distributive law.
-/
module

public import Idealize.ShloMosaic.Lib.Pointwise
public import Mathlib.Tactic.FieldSimp
public import Mathlib.Tactic.Ring
public import Mathlib.Tactic.Positivity
public import Mathlib.Tactic.Linarith

@[expose] public section

noncomputable section

namespace Cert.Reals

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of reals, as the real sum. -/
theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

/-- A finite sum of reals is real. -/
theorem IsReal.sum {n : ℕ} {f : Fin n → EReal} (h : ∀ k, IsReal (f k)) : IsReal (∑ k, f k) := by
  choose g hg using h
  exact ⟨∑ k, g k, by rw [coe_sum]; exact Finset.sum_congr rfl fun k _ => hg k⟩

/-- A quotient of reals by a number other than zero, as the real quotient. -/
theorem div_coe (a b : ℝ) (hb : b ≠ 0) : Ideal.div (a : EReal) (b : EReal) = ((a / b : ℝ) : EReal) := by
  have h : ((b : ℝ) : EReal) ≠ 0 := fun h => hb (by exact_mod_cast h)
  rw [Ideal.div, if_neg h, ← EReal.coe_inv, ← EReal.coe_mul, div_eq_mul_inv]

/-- The reciprocal square root of a positive real. -/
theorem rsqrt_coe (a : ℝ) (ha : 0 < a) : Ideal.rsqrt (a : EReal) = (((Real.sqrt a)⁻¹ : ℝ) : EReal) := by
  rw [Ideal.rsqrt_coe, if_neg (not_lt.mpr ha.le), if_neg ha.ne']

/-! ## The constants -/

/-- The number of columns of the residual stream, 1024. -/
abbrev width : EReal := Ideal.ofBits .f32 0x44800000#32
/-- The constant that the normalisations add under the root. -/
abbrev eps : EReal := Ideal.ofBits .f32 0x358637BD#32
/-- The kernel's factor 1/1024. -/
abbrev invWidth : EReal := Ideal.ofBits .f32 0x3A800000#32
/-- One half. -/
abbrev half : EReal := Ideal.ofBits .f32 0x3F000000#32
/-- Two. -/
abbrev two : EReal := Ideal.ofBits .f32 0x40000000#32
/-- Minus one half. -/
abbrev negHalf : EReal := Ideal.ofBits .f32 0xBF000000#32

theorem width_eq : width = ((1024 : ℝ) : EReal) := by
  simp [Ideal.ofBits, Ideal.ieee, -EReal.coe_mul]; norm_num
theorem invWidth_eq : invWidth = ((1 / 1024 : ℝ) : EReal) := by
  simp [Ideal.ofBits, Ideal.ieee, -EReal.coe_mul]; norm_num
theorem half_eq : half = ((1 / 2 : ℝ) : EReal) := by
  simp [Ideal.ofBits, Ideal.ieee, -EReal.coe_mul]; norm_num
theorem two_eq : two = ((2 : ℝ) : EReal) := by
  simp [Ideal.ofBits, Ideal.ieee, -EReal.coe_mul]; norm_num
theorem negHalf_eq : negHalf = ((-(1 / 2) : ℝ) : EReal) := by
  simp [Ideal.ofBits, Ideal.ieee, -EReal.coe_mul]; norm_num
/-- The constant under the root is a positive real. -/
theorem eps_eq : ∃ e : ℝ, 0 < e ∧ eps = (e : EReal) := by
  refine ⟨8796093 * (2 : ℝ) ^ (-43 : ℤ), by positivity, ?_⟩
  simp [Ideal.ofBits, Ideal.ieee, -EReal.coe_mul]

/-! ## The root mean square of a row -/

/-- The mean of the squares of a row, plus the constant under the root. -/
def meanSq {n : ℕ} (x : Fin n → EReal) : EReal := Ideal.div (∑ k, x k * x k) width + eps

/-- The reciprocal root mean square of a row. -/
def invRms {n : ℕ} (x : Fin n → EReal) : EReal := Ideal.rsqrt (meanSq x)

/-- For a real row, the mean of squares plus the constant is a positive real. -/
theorem meanSq_coe {n : ℕ} (x : Fin n → ℝ) : ∃ v : ℝ, 0 < v ∧ meanSq (fun k => (x k : EReal)) = (v : EReal) := by
  obtain ⟨e, he, hE⟩ := eps_eq
  refine ⟨(∑ k, x k * x k) / 1024 + e, ?_, ?_⟩
  · have : 0 ≤ ∑ k, x k * x k := Finset.sum_nonneg fun k _ => mul_self_nonneg _
    positivity
  · rw [meanSq, hE, width_eq]
    rw [show (∑ k, (x k : EReal) * (x k : EReal)) = ((∑ k, x k * x k : ℝ) : EReal) by
      rw [coe_sum]; exact Finset.sum_congr rfl fun k _ => (EReal.coe_mul _ _).symm]
    rw [div_coe _ _ (by norm_num), ← EReal.coe_add]

/-- The reciprocal root mean square of a real row is real. -/
theorem IsReal.invRms {n : ℕ} {x : Fin n → EReal} (h : ∀ k, IsReal (x k)) : IsReal (invRms x) := by
  choose g hg using h
  obtain rfl : x = fun k => (g k : EReal) := funext hg
  obtain ⟨v, hv, hV⟩ := meanSq_coe g
  exact ⟨_, by rw [Reals.invRms, hV, rsqrt_coe v hv]⟩

/-- The logistic function, as it is computed. -/
def logi (x : EReal) : EReal := Ideal.div 1 (1 + Ideal.exp (-x))

/-- The logistic function of a real is real. -/
theorem IsReal.logi {x : EReal} (h : IsReal x) : IsReal (logi x) := by
  obtain ⟨a, rfl⟩ := h
  refine ⟨1 / (1 + Real.exp (-a)), ?_⟩
  have h0 : (1 + Real.exp (-a) : ℝ) ≠ 0 := by positivity
  rw [Reals.logi, ← EReal.coe_neg, Ideal.exp_coe, show (1 : EReal) = ((1 : ℝ) : EReal) by norm_cast, ← EReal.coe_add, div_coe _ _ h0]

/-! ## The three equations -/

/-- The gradient of the normalised row with respect to the row, as the kernel computes it from the gradient `t`. -/
def normBack {n : ℕ} (x t : Fin n → EReal) (k : Fin n) : EReal :=
  invRms x * (t k - x k * invRms x * Ideal.div (∑ j, t j * (x j * invRms x)) width)

/-- The factor that differentiation puts on both of its terms through the mean of squares. -/
def normBackCoef {n : ℕ} (x t : Fin n → EReal) : EReal :=
  Ideal.div ((∑ j, x j * t j) * (negHalf * Ideal.div (invRms x) (meanSq x))) width

/-- The kernel's gradient of a normalisation is the one that differentiation gives, on real rows. -/
theorem normBack_eq {n : ℕ} {x t : Fin n → EReal} (hx : ∀ k, IsReal (x k)) (ht : ∀ k, IsReal (t k)) (k : Fin n) :
    normBack x t k = t k * invRms x + x k * normBackCoef x t + normBackCoef x t * x k := by
  choose g hg using hx
  obtain rfl : x = fun k => (g k : EReal) := funext hg
  choose u hu using ht
  obtain rfl : t = fun k => (u k : EReal) := funext hu
  obtain ⟨v, hv, hV⟩ := meanSq_coe g
  have hs : 0 < Real.sqrt v := Real.sqrt_pos.mpr hv
  have hsq : Real.sqrt v * Real.sqrt v = v := Real.mul_self_sqrt hv.le
  have e1 : (∑ j, (u j : EReal) * ((g j : EReal) * (((Real.sqrt v)⁻¹ : ℝ) : EReal))) = (((∑ j, g j * u j) * (Real.sqrt v)⁻¹ : ℝ) : EReal) := by
    rw [Finset.sum_mul, coe_sum]
    refine Finset.sum_congr rfl fun j _ => ?_
    rw [← EReal.coe_mul, ← EReal.coe_mul]; congr 1; ring
  have e2 : (∑ j, (g j : EReal) * (u j : EReal)) = ((∑ j, g j * u j : ℝ) : EReal) := by
    rw [coe_sum]; exact Finset.sum_congr rfl fun j _ => (EReal.coe_mul _ _).symm
  simp only [normBack, normBackCoef, Reals.invRms, hV, rsqrt_coe v hv, width_eq, negHalf_eq, e1, e2]
  simp only [div_coe _ _ hv.ne', div_coe _ _ (show (1024 : ℝ) ≠ 0 by norm_num), ← EReal.coe_mul, ← EReal.coe_sub, ← EReal.coe_add]
  congr 1
  generalize (∑ j, g j * u j) = S
  generalize hr : Real.sqrt v = r at hs hsq
  subst hsq
  field_simp
  ring

/-- The kernel's gradient of `a ↦ a · σ(a)` times `c` is the sum of the two terms that differentiation gives, at reals. -/
theorem siluBack_eq {a c : EReal} (ha : IsReal a) (hc : IsReal c) :
    c * (logi a * (1 + a * (1 - logi a))) = c * logi a + a * c * (logi a * (1 - logi a)) := by
  obtain ⟨s, hs⟩ := ha.logi
  obtain ⟨a, rfl⟩ := ha
  obtain ⟨c, rfl⟩ := hc
  rw [hs, show (1 : EReal) = ((1 : ℝ) : EReal) by norm_cast]
  simp only [← EReal.coe_mul, ← EReal.coe_sub, ← EReal.coe_add]
  congr 1; ring

/-- The gradient of half the mean of the squared errors: the kernel's factor is the product of the factors that
    differentiation multiplies. -/
theorem lossBack_eq (e : EReal) : e * invWidth = Ideal.div (half * 1) width * (two * e) := by
  rw [mul_one, half_eq, width_eq, two_eq, invWidth_eq, div_coe _ _ (by norm_num), ← mul_assoc, ← EReal.coe_mul, mul_comm]
  congr 2; norm_num

end Cert.Reals

end
-- ==== Proof.Rows.lean ====
/-
  The gradient of the gated, convolved feed-forward layer, row by row, as the kernel computes it, over the extended
  reals.
-/
module

public import proofs.«01_k».proof.Proof.Reals
public import Idealize.ShloMosaic.Lib.Pointwise.Sums

@[expose] public section

set_option maxRecDepth 16384

noncomputable section

namespace Cert.Rows

open Idealize.ShloMosaic Cert.Reals

/-- The gradient of the loss with respect to one row `x · rms(x) · g` of predictions, with target row `t`. -/
def dy (x g t : Fin 1024 → EReal) (k : Fin 1024) : EReal := (x k * invRms x * g k - t k) * invWidth

/-- The gradient of the loss with respect to one row `x` before the last normalisation. -/
def dOut (x g t : Fin 1024 → EReal) (k : Fin 1024) : EReal := normBack x (fun j => dy x g t j * g j) k

/-- The gradient with respect to one row of the gated activation, from the gradient `d` of the output row. -/
def dAct (d : Fin 1024 → EReal) (wd : Fin 2816 → Fin 1024 → EReal) (c : Fin 2816) : EReal := ∑ k, d k * wd c k

/-- Column `c` of the gated half. -/
def lo (c : Fin 2816) : Fin 5632 := ⟨c.val, by omega⟩
/-- Column `c` of the linear half. -/
def hi (c : Fin 2816) : Fin 5632 := ⟨2816 + c.val, by omega⟩

/-- The gradient with respect to the gated half of a convolved row with halves `a` and `b`. -/
def dGate (d : Fin 1024 → EReal) (wd : Fin 2816 → Fin 1024 → EReal) (u : Fin 5632 → EReal) (c : Fin 2816) : EReal :=
  dAct d wd c * u (hi c) * (logi (u (lo c)) * (1 + u (lo c) * (1 - logi (u (lo c)))))

/-- The gradient with respect to the linear half of a convolved row. -/
def dLin (d : Fin 1024 → EReal) (wd : Fin 2816 → Fin 1024 → EReal) (u : Fin 5632 → EReal) (c : Fin 2816) : EReal :=
  dAct d wd c * (u (lo c) * logi (u (lo c)))

/-- The gradient with respect to a convolved row: the gated half, then the linear half. -/
def dConv (d : Fin 1024 → EReal) (wd : Fin 2816 → Fin 1024 → EReal) (u : Fin 5632 → EReal) (c : Fin 5632) : EReal :=
  if h : c.val < 2816 then dGate d wd u ⟨c.val, h⟩ else dLin d wd u ⟨c.val - 2816, by omega⟩

theorem dConv_lo (d : Fin 1024 → EReal) (wd : Fin 2816 → Fin 1024 → EReal) (u : Fin 5632 → EReal) (c : Fin 2816) :
    dConv d wd u (lo c) = dGate d wd u c := by
  rw [dConv, dif_pos (show (lo c).val < 2816 from c.isLt)]; rfl

theorem dConv_hi (d : Fin 1024 → EReal) (wd : Fin 2816 → Fin 1024 → EReal) (u : Fin 5632 → EReal) (c : Fin 2816) :
    dConv d wd u (hi c) = dLin d wd u c := by
  rw [dConv, dif_neg (show ¬(hi c).val < 2816 by simp only [hi]; omega)]
  congr 1; apply Fin.ext; simp only [hi]; omega

/-- A sum over the columns of both halves. -/
theorem sum_halves (f : Fin 5632 → EReal) : ∑ c, f c = (∑ c, f (lo c)) + ∑ c, f (hi c) :=
  (Fin.sum_univ_two_halves 2816 2816 rfl f).trans rfl

/-- The gradient of the causal depthwise convolution with respect to its input: taps `w` on this row's gradient and the
    two rows after it. -/
def dPre (d0 d1 d2 : Fin 5632 → EReal) (w : Fin 8 → Fin 5632 → EReal) (c : Fin 5632) : EReal :=
  d0 c * w 2 c + d1 c * w 1 c + d2 c * w 0 c

/-- The gradient with respect to one row entering the up-projection. -/
def dHid (p : Fin 5632 → EReal) (wu : Fin 5632 → Fin 1024 → EReal) (k : Fin 1024) : EReal :=
  (∑ c, p (lo c) * wu (lo c) k) + ∑ c, p (hi c) * wu (hi c) k

theorem dHid_eq (p : Fin 5632 → EReal) (wu : Fin 5632 → Fin 1024 → EReal) (k : Fin 1024) :
    dHid p wu k = ∑ c, p c * wu c k := (sum_halves fun c => p c * wu c k).symm

/-- The gradient with respect to one row of the layer's input: through the residual, and through the normalisation. -/
def dIn (d x g p : Fin 1024 → EReal) (k : Fin 1024) : EReal := d k + normBack x (fun j => p j * g j) k

end Cert.Rows

end
-- ==== Proof.Model.lean ====
/-
  The backward pass of the block, row by row, over whole arrays: what the kernel's six results are, as functions of the arrays it reads.
-/
module

public import proofs.«01_k».proof.Proof.Rows

@[expose] public section

set_option maxRecDepth 16384

noncomputable section

namespace Cert.Model

open Idealize.ShloMosaic Cert.Reals Cert.Rows

/-- The arrays that the backward pass reads: the block's output rows `x`, the targets `t`, the final norm's gain `gf`, the block's input
    rows `x2`, the FFN norm's gain `g2`, the rows `u` that entered the convolution and those, `v`, that left it, the up-projection
    `wu` (a row per column of `u`), the taps `cw` and the down-projection `wd`. -/
structure Arrays where
  x : Fin 2048 → Fin 1024 → EReal
  t : Fin 2048 → Fin 1024 → EReal
  gf : Fin 1024 → EReal
  x2 : Fin 2048 → Fin 1024 → EReal
  g2 : Fin 1024 → EReal
  u : Fin 2048 → Fin 5632 → EReal
  v : Fin 2048 → Fin 5632 → EReal
  wu : Fin 5632 → Fin 1024 → EReal
  cw : Fin 8 → Fin 5632 → EReal
  wd : Fin 2816 → Fin 1024 → EReal

variable (A : Arrays)

/-- The gradient of the output rows. -/
def out (s : Fin 2048) : Fin 1024 → EReal := dOut (A.x s) A.gf (A.t s)

/-- The gradient of the convolved rows. -/
def conv (s : Fin 2048) : Fin 5632 → EReal := dConv (out A s) A.wd (A.v s)

/-- The row `j` after row `s`, zero past the end. -/
def ahead (d : Fin 2048 → Fin 5632 → EReal) (j : ℕ) (s : Fin 2048) (c : Fin 5632) : EReal :=
  if h : s.val + j < 2048 then d ⟨s.val + j, h⟩ c else 0

/-- The gradient of the rows entering the convolution. -/
def pre (s : Fin 2048) : Fin 5632 → EReal := dPre (conv A s) (ahead (conv A) 1 s) (ahead (conv A) 2 s) A.cw

/-- The gradient of the normalised rows. -/
def hid (s : Fin 2048) : Fin 1024 → EReal := dHid (pre A s) A.wu

/-- The gradient of the input rows. -/
def inp (s : Fin 2048) : Fin 1024 → EReal := dIn (out A s) (A.x2 s) A.g2 (hid A s)

/-- One row's part of the gradient of the final norm's gain. -/
def finalRow (s : Fin 2048) (k : Fin 1024) : EReal := dy (A.x s) A.gf (A.t s) k * (A.x s k * invRms (A.x s))

/-- One row's part of the gradient of the FFN norm's gain. -/
def gainRow (s : Fin 2048) (k : Fin 1024) : EReal := hid A s k * (A.x2 s k * invRms (A.x2 s))

/-- One row's part of row `q` of the gradient of the taps (`q < 3`) and of the bias (`q = 3`). -/
def tapRow (q : ℕ) (s : Fin 2048) (c : Fin 5632) : EReal :=
  if q = 0 then ahead (conv A) 2 s c * A.u s c
  else if q = 1 then ahead (conv A) 1 s c * A.u s c
  else if q = 2 then conv A s c * A.u s c
  else if q = 3 then conv A s c
  else 0

/-- Row `r` of the block that grid point `n` works on: the blocks are taken from the last one to the first. -/
def at_ (n : ℕ) (r : Fin 256) : Fin 2048 := ⟨256 * (7 - n) + r.val, by have := r.isLt; omega⟩

/-- The blocks' sums, over all the points, add up all the rows. -/
theorem sum_blocks (f : Fin 2048 → EReal) : ∑ n ∈ Finset.range 8, ∑ r, f (at_ n r) = ∑ s, f s := by
  have e : ∀ s : Fin 8 × Fin 256, at_ (7 - s.1.val) s.2 = finProdFinEquiv s := fun s => Fin.ext (by
    have := s.1.isLt
    simp only [at_, finProdFinEquiv, Equiv.coe_fn_mk]; omega)
  rw [Finset.sum_range, ← Equiv.sum_comp Fin.revPerm, ← Equiv.sum_comp (finProdFinEquiv (m := 8) (n := 256)) f, Fintype.sum_prod_type]
  refine Finset.sum_congr rfl fun n _ => Finset.sum_congr rfl fun r _ => ?_
  rw [← e]
  refine congrArg f (congrArg₂ at_ ?_ rfl)
  simp only [Fin.revPerm_apply, Fin.val_rev]; omega

end Cert.Model

end
-- ==== Proof.Forward.lean ====
/-
  The forward pass of the feed-forward layer and the loss, row by row, over the extended reals: what both programs compute from the
  arrays they are given, and the arrays that the backward pass reads.
-/
module

public import proofs.«01_k».proof.Proof.Model

@[expose] public section

set_option maxRecDepth 16384

noncomputable section

namespace Cert.Forward

open Idealize.ShloMosaic Cert.Reals Cert.Rows

/-- The arrays that the step's part is given: the input rows, the FFN norm's gain, the up-projection, the taps and the bias of the
    convolution, the down-projection, the final norm's gain and the targets. -/
structure Inputs where
  x : Fin 2048 → Fin 1024 → EReal
  g : Fin 1024 → EReal
  wup : Fin 1024 → Fin 5632 → EReal
  cw : Fin 3 → Fin 5632 → EReal
  cb : Fin 5632 → EReal
  wdn : Fin 2816 → Fin 1024 → EReal
  gf : Fin 1024 → EReal
  t : Fin 2048 → Fin 1024 → EReal

variable (I : Inputs)

/-- The normalised rows. -/
def norm (s : Fin 2048) (k : Fin 1024) : EReal := I.x s k * invRms (I.x s) * I.g k

/-- The rows that enter the convolution. -/
def pre (s : Fin 2048) (c : Fin 5632) : EReal := ∑ k, norm I s k * I.wup k c

/-- The row `j` before row `s`, zero before the first. -/
def behind (d : Fin 2048 → Fin 5632 → EReal) (j : ℕ) (s : Fin 2048) (c : Fin 5632) : EReal :=
  if j ≤ s.val then d ⟨s.val - j, by have := s.isLt; omega⟩ c else 0

/-- The convolved rows. -/
def conv (s : Fin 2048) (c : Fin 5632) : EReal :=
  behind (pre I) 2 s c * I.cw 0 c + behind (pre I) 1 s c * I.cw 1 c + pre I s c * I.cw 2 c + I.cb c

/-- The gated activation. -/
def act (s : Fin 2048) (c : Fin 2816) : EReal := conv I s (lo c) * logi (conv I s (lo c)) * conv I s (hi c)

/-- The layer's output rows. -/
def out (s : Fin 2048) (k : Fin 1024) : EReal := I.x s k + ∑ c, act I s c * I.wdn c k

/-- The squared error of the normalised output. -/
def err (s : Fin 2048) (k : Fin 1024) : EReal :=
  (out I s k * invRms (out I s) * I.gf k - I.t s k) * (out I s k * invRms (out I s) * I.gf k - I.t s k)

/-- The arrays that the backward pass reads. -/
def back : Model.Arrays where
  x := out I
  t := I.t
  gf := I.gf
  x2 := I.x
  g2 := I.g
  u := pre I
  v := conv I
  wu := fun c k => I.wup k c
  cw := fun q c => if h : q.val < 3 then I.cw ⟨q.val, h⟩ c else 0
  wd := I.wdn

/-- Two zero rows before the rows `d`, read from the first row on. -/
theorem behind_two (d : Fin 2048 → Fin 5632 → EReal) (s : Fin 2048) (c : Fin 5632) :
    behind d 2 s c = if h : s.val < 2 then 0 else d ⟨s.val - 2, by have := s.isLt; omega⟩ c := by
  unfold behind
  split_ifs <;> first | rfl | omega

/-- Two zero rows before the rows `d`, read from the second row on. -/
theorem behind_one (d : Fin 2048 → Fin 5632 → EReal) (s : Fin 2048) (c : Fin 5632) :
    behind d 1 s c = if h : 1 + s.val < 2 then 0 else d ⟨1 + s.val - 2, by have := s.isLt; omega⟩ c := by
  unfold behind
  split_ifs <;> first | omega | rfl | skip
  exact congrArg (d · c) (Fin.ext (by simp only []; omega))

/-- The row after, zero past the end, times a weight. -/
theorem ahead_mul (d : Fin 2048 → Fin 5632 → EReal) (j : ℕ) (w : EReal) (s : Fin 2048) (c : Fin 5632) :
    Model.ahead d j s c * w = if h : s.val + j < 2048 then d ⟨s.val + j, h⟩ c * w else 0 := by
  unfold Model.ahead
  split_ifs
  · rfl
  · exact zero_mul w

/-- The rows `d` times the rows `j` before them, in total, are the rows `j` after times the rows themselves. -/
theorem sum_behind (d u : Fin 2048 → Fin 5632 → EReal) (j : ℕ) (hj : j ≤ 2048) (c : Fin 5632) :
    ∑ s, Model.ahead d j s c * u s c = ∑ s, behind u j s c * d s c := by
  let D : ℕ → EReal := fun n => if h : n < 2048 then d ⟨n, h⟩ c else 0
  let U : ℕ → EReal := fun n => if h : n < 2048 then u ⟨n, h⟩ c else 0
  have hD : ∀ s : Fin 2048, D s = d s c := fun s => dif_pos s.isLt
  have hU : ∀ s : Fin 2048, U s = u s c := fun s => dif_pos s.isLt
  have l : ∑ s, Model.ahead d j s c * u s c = ∑ n ∈ Finset.range 2048, D (n + j) * U n := by
    rw [Finset.sum_range]
    exact Finset.sum_congr rfl fun s _ => by rw [hU]; rfl
  have r : ∑ s, behind u j s c * d s c = ∑ n ∈ Finset.range 2048, (if j ≤ n then U (n - j) else 0) * D n := by
    rw [Finset.sum_range]
    refine Finset.sum_congr rfl fun s _ => ?_
    rw [hD, behind]
    split_ifs
    · exact congrArg (· * _) (hU ⟨s.val - j, by omega⟩).symm
    · rfl
  have e : 2048 = (2048 - j) + j := by omega
  have e' : 2048 = j + (2048 - j) := by omega
  rw [l, r]
  conv_lhs => rw [e, Finset.sum_range_add]
  conv_rhs => rw [e', Finset.sum_range_add]
  rw [Finset.sum_eq_zero (s := Finset.range j), Finset.sum_eq_zero (s := Finset.range j), add_zero, zero_add]
  · refine Finset.sum_congr rfl fun n _ => ?_
    rw [if_pos (Nat.le_add_right j n), Nat.add_sub_cancel_left, mul_comm, Nat.add_comm n j]
  · intro n hn
    rw [if_neg (by have := Finset.mem_range.mp hn; omega), zero_mul]
  · intro n hn
    have : D (2048 - j + n + j) = 0 := dif_neg (by omega)
    rw [this, zero_mul]

end Cert.Forward

end
-- ==== Proof.Block.lean ====
/-
  What one grid point of the backward kernel computes, entry by entry, from the blocks it reads.
-/
module

public import proofs.«01_k».proof.Proof.Rows
public import Idealize.ShloMosaic.Lib.WordCmp
public import proofs.«01_k».proof.Proof.Gen.KernelIdeal.Skeleton

@[expose] public section

set_option maxRecDepth 16384

noncomputable section

namespace Cert.Block

open Idealize.ShloMosaic Cert.Reals Cert.Rows Cert.KernelIdeal Cert.KernelIdeal.Gen

/-- Row `r` of a matrix. -/
abbrev row {n k : ℕ} (v : Shape.Idx ⟨2, ![n, k]⟩ → EReal) (r : Fin n) : Fin k → EReal := fun j => v (ix2 r j)

theorem pay6_at (v : Vec Ideal S256x1024 .f32) (r : Fin 256) (k : Fin 1024) : k0_pay6 v (ix2 r k) = row v r k := by
  pointwise [k0_pay6, row]

theorem pay7_at (v : Vec Ideal S256x1024 .f32) (r : Fin 256) (z : Fin 1) : k0_pay7 v (ix2 r z) = invRms (row v r) := by
  pointwise [k0_pay7, k0_pay6, row, invRms, meanSq]

theorem pay8_at (v : Vec Ideal S256x1024 .f32) (r : Fin 256) (k : Fin 1024) :
    k0_pay8 v (ix2 r k) = row v r k * invRms (row v r) := by
  pointwise [k0_pay8, pay7_at, pay6_at]

theorem pay9_at (v t : Vec Ideal S256x1024 .f32) (g : Vec Ideal S1x1024 .f32) (r : Fin 256) (k : Fin 1024) :
    k0_pay9 v g t (ix2 r k) = dy (row v r) (row g 0) (row t r) k := by
  pointwise [k0_pay9, pay8_at, dy]

theorem pay10_at (v t : Vec Ideal S256x1024 .f32) (g a : Vec Ideal S1x1024 .f32) (z : Fin 1) (k : Fin 1024) :
    k0_pay10 v g t a (ix2 z k) = a (ix2 z k) + ∑ r, dy (row v r) (row g 0) (row t r) k * (row v r k * invRms (row v r)) := by
  pointwise [k0_pay10, pay8_at, pay9_at]

theorem pay13_at (v t : Vec Ideal S256x1024 .f32) (g : Vec Ideal S1x1024 .f32) (r : Fin 256) (k : Fin 1024) :
    k0_pay13 (k0_pay7 v) (k0_pay8 v) (k0_pay11 v g t g) (k0_pay12 v g t g) (ix2 r k) = dOut (row v r) (row g 0) (row t r) k := by
  pointwise [k0_pay13, k0_pay11, k0_pay12, pay8_at, pay9_at, pay7_at, dOut, normBack]

theorem pay14_at (v t : Vec Ideal S256x1024 .f32) (g : Vec Ideal S1x1024 .f32) (r : Fin 256) (k : Fin 1024) :
    k0_pay14 (k0_pay7 v) (k0_pay8 v) (k0_pay11 v g t g) (k0_pay12 v g t g) (ix2 r k) = dOut (row v r) (row g 0) (row t r) k := by
  pointwise [k0_pay14, pay13_at]

theorem pay16_at (v t : Vec Ideal S256x1024 .f32) (g : Vec Ideal S1x1024 .f32) (wd : Vec Ideal S2816x1024 .bf16) (r : Fin 256) (c : Fin 2816) :
    k0_pay16 (k0_pay7 v) (k0_pay8 v) (k0_pay11 v g t g) (k0_pay12 v g t g) wd (ix2 r c) = dAct (dOut (row v r) (row g 0) (row t r)) (row wd) c := by
  pointwise [k0_pay16, pay14_at, dAct]

theorem pay19_at (v t : Vec Ideal S256x1024 .f32) (g : Vec Ideal S1x1024 .f32) (wd : Vec Ideal S2816x1024 .bf16) (ua ub : Vec Ideal S256x2816 .bf16)
    (r : Fin 256) (c : Fin 2816) :
    k0_pay19 (k0_pay7 v) (k0_pay8 v) (k0_pay11 v g t g) (k0_pay12 v g t g) wd ua ub (ix2 r c)
      = dAct (dOut (row v r) (row g 0) (row t r)) (row wd) c * ub (ix2 r c) * (logi (ua (ix2 r c)) * (1 + ua (ix2 r c) * (1 - logi (ua (ix2 r c))))) := by
  pointwise [k0_pay19, k0_pay18, k0_pay17, pay16_at, logi, zero_sub]

theorem pay20_at (v t : Vec Ideal S256x1024 .f32) (g : Vec Ideal S1x1024 .f32) (wd : Vec Ideal S2816x1024 .bf16) (ua : Vec Ideal S256x2816 .bf16)
    (r : Fin 256) (c : Fin 2816) :
    k0_pay20 (k0_pay7 v) (k0_pay8 v) (k0_pay11 v g t g) (k0_pay12 v g t g) wd ua (ix2 r c)
      = dAct (dOut (row v r) (row g 0) (row t r)) (row wd) c * (ua (ix2 r c) * logi (ua (ix2 r c))) := by
  pointwise [k0_pay20, k0_pay18, k0_pay17, pay16_at, logi, zero_sub]

/-- The row after row `r`, the last one followed by the first of `nx`. -/
def next1 {C : Type} (d : Fin 256 → C → EReal) (nx : Fin 8 → C → EReal) (r : Fin 256) (c : C) : EReal :=
  if h : r.val < 255 then d ⟨r.val + 1, by omega⟩ c else nx 0 c

/-- The row two after row `r`, the last one followed by the first and second of `nx`. -/
def next2 {C : Type} (d : Fin 256 → C → EReal) (nx : Fin 8 → C → EReal) (r : Fin 256) (c : C) : EReal :=
  if h : r.val < 254 then d ⟨r.val + 2, by omega⟩ c else if r.val = 254 then nx 0 c else nx 1 c

/-- A choice by the number of the row. -/
theorem select_row (r : Fin 256) (n : ℕ) (hn : n < 256) (a b : EReal) :
    Scalar.select (IntOp.cmpi .eq (BitVec.ofNat 32 r.val) (BitVec.ofNat 32 n)) a b = if r.val = n then a else b := by
  have := WordCmp.cmpi_eq_ofNat_eq_one_iff (w := 32) (a := r.val) (b := n) (by omega) (by omega)
  simp only [Scalar.select, show (1 : BitVec 1) = 1#1 from rfl, this]

theorem pay22_at (d : Vec Ideal S256x2816 .f32) (nx : Vec Ideal S8x2816 .f32) (r : Fin 256) (c : Fin 2816) :
    k0_pay22 d nx k0_pay21 (ix2 r c) = next1 (row d) (row nx) r c := by
  pointwise [k0_pay22, k0_pay21]
  rw [select_row r 255 (by norm_num), next1]
  split_ifs <;> first | omega | rfl | (congr 2; apply Fin.ext; simp only []; omega)

theorem pay23_at (d : Vec Ideal S256x2816 .f32) (nx : Vec Ideal S8x2816 .f32) (r : Fin 256) (c : Fin 2816) :
    k0_pay23 (iota .tc S256x2816 32 [0] iota_S256x2816_d0_w32) d nx (ix2 r c) = next2 (row d) (row nx) r c := by
  pointwise [k0_pay23]
  rw [select_row r 254 (by norm_num), select_row r 255 (by norm_num), next2]
  split_ifs <;> first | omega | rfl | (congr 2; apply Fin.ext; simp only []; omega)

theorem pay33_at (d : Vec Ideal S256x2816 .f32) (nx : Vec Ideal S8x2816 .f32) (r : Fin 256) (c : Fin 2816) :
    k0_pay33 (iota .tc S256x2816 32 [0] iota_S256x2816_d0_w32) d nx (ix2 r c) = next1 (row d) (row nx) r c := by
  pointwise [k0_pay33]
  rw [select_row r 255 (by norm_num), next1]
  split_ifs <;> first | omega | rfl | (congr 2; apply Fin.ext; simp only []; omega)

theorem pay34_at (d : Vec Ideal S256x2816 .f32) (nx : Vec Ideal S8x2816 .f32) (r : Fin 256) (c : Fin 2816) :
    k0_pay34 (iota .tc S256x2816 32 [0] iota_S256x2816_d0_w32) d nx (ix2 r c) = next2 (row d) (row nx) r c := by
  pointwise [k0_pay34]
  rw [select_row r 254 (by norm_num), select_row r 255 (by norm_num), next2]
  split_ifs <;> first | omega | rfl | (congr 2; apply Fin.ext; simp only []; omega)

theorem pay24_at (d : Vec Ideal S256x2816 .f32) (q : Fin 8) (c : Fin 2816) :
    k0_pay24 (F := Ideal) d (ix2 q c) = d (ix2 ⟨q.val, by omega⟩ c) := by
  pointwise [k0_pay24]

theorem pay35_at (d : Vec Ideal S256x2816 .f32) (q : Fin 8) (c : Fin 2816) :
    k0_pay35 (F := Ideal) d (ix2 q c) = d (ix2 ⟨q.val, by omega⟩ c) := by
  pointwise [k0_pay35]

/-- One entry of the gradient entering the convolution, from this row's gradient and the two after it. -/
def taps (d : Fin 256 → Fin 2816 → EReal) (nx : Fin 8 → Fin 2816 → EReal) (w2 w1 w0 : Fin 2816 → EReal) (r : Fin 256) (c : Fin 2816) : EReal :=
  d r c * w2 c + next1 d nx r c * w1 c + next2 d nx r c * w0 c

theorem pay25_at (d : Vec Ideal S256x2816 .f32) (nx : Vec Ideal S8x2816 .f32) (w2 w1 w0 : Vec Ideal S1x2816 .f32) (r : Fin 256) (c : Fin 2816) :
    k0_pay25 (iota .tc S256x2816 32 [0] iota_S256x2816_d0_w32) d nx k0_pay21 w2 w1 w0 (ix2 r c)
      = taps (row d) (row nx) (row w2 0) (row w1 0) (row w0 0) r c := by
  pointwise [k0_pay25, pay22_at, taps]
  rw [pay23_at]

theorem pay38_at (d : Vec Ideal S256x2816 .f32) (nx : Vec Ideal S8x2816 .f32) (w2 w1 w0 : Vec Ideal S1x2816 .f32) (r : Fin 256) (c : Fin 2816) :
    k0_pay38 (k0_pay34 (iota .tc S256x2816 32 [0] iota_S256x2816_d0_w32) d nx) (k0_pay36 d w2)
      (k0_pay37 (iota .tc S256x2816 32 [0] iota_S256x2816_d0_w32) d nx w1) w0 (ix2 r c)
      = taps (row d) (row nx) (row w2 0) (row w1 0) (row w0 0) r c := by
  pointwise [k0_pay38, k0_pay36, k0_pay37, taps]
  rw [pay33_at, pay34_at]

theorem pay26_at (v : Vec Ideal S256x2816 .bf16) (r : Fin 256) (c : Fin 2816) : k0_pay26 v (ix2 r c) = v (ix2 r c) := by
  pointwise [k0_pay26]

theorem pay39_at (v : Vec Ideal S256x2816 .bf16) (r : Fin 256) (c : Fin 2816) : k0_pay39 v (ix2 r c) = v (ix2 r c) := by
  pointwise [k0_pay39]

theorem pay27_at (d u : Vec Ideal S256x2816 .f32) (a : Vec Ideal S1x1x2816 .f32) (y z : Fin 1) (c : Fin 2816) :
    k0_pay27 d u a (ix3 y z c) = a (ix3 0 0 c) + ∑ r, d (ix2 r c) * u (ix2 r c) := by
  pointwise [k0_pay27]

theorem pay28_at (d u : Vec Ideal S256x2816 .f32) (a : Vec Ideal S1x1x2816 .f32) (y z : Fin 1) (c : Fin 2816) :
    k0_pay28 d u a (ix3 y z c) = a (ix3 0 0 c) + ∑ r, d (ix2 r c) * u (ix2 r c) := by
  pointwise [k0_pay28]

theorem pay29_at (d u : Vec Ideal S256x2816 .f32) (a : Vec Ideal S1x1x2816 .f32) (y z : Fin 1) (c : Fin 2816) :
    k0_pay29 d u a (ix3 y z c) = a (ix3 0 0 c) + ∑ r, d (ix2 r c) * u (ix2 r c) := by
  pointwise [k0_pay29]

theorem pay31_at (d : Vec Ideal S256x2816 .f32) (a : Vec Ideal S1x1x2816 .f32) (y z : Fin 1) (c : Fin 2816) :
    k0_pay31 (k0_pay30 d a) (ix3 y z c) = a (ix3 0 0 c) + ∑ r, d (ix2 r c) := by
  pointwise [k0_pay31, k0_pay30]

theorem pay40_at (d : Vec Ideal S256x2816 .f32) (u : Vec Ideal S256x2816 .bf16) (a : Vec Ideal S1x1x2816 .f32) (y z : Fin 1) (c : Fin 2816) :
    k0_pay40 d u a (ix3 y z c) = a (ix3 0 0 c) + ∑ r, d (ix2 r c) * u (ix2 r c) := by
  pointwise [k0_pay40, pay39_at]

theorem pay41_at (d : Vec Ideal S256x2816 .f32) (u : Vec Ideal S256x2816 .bf16) (a : Vec Ideal S1x1x2816 .f32) (y z : Fin 1) (c : Fin 2816) :
    k0_pay41 d u a (ix3 y z c) = a (ix3 0 0 c) + ∑ r, d (ix2 r c) * u (ix2 r c) := by
  pointwise [k0_pay41, pay39_at]

theorem pay44_at (d : Vec Ideal S256x2816 .f32) (u : Vec Ideal S256x2816 .bf16) (a : Vec Ideal S1x1x2816 .f32) (y z : Fin 1) (c : Fin 2816) :
    k0_pay44 (k0_pay42 a) (k0_pay43 d u) (ix3 y z c) = a (ix3 0 0 c) + ∑ r, d (ix2 r c) * u (ix2 r c) := by
  pointwise [k0_pay44, k0_pay42, k0_pay43, pay39_at]

theorem pay45_at (d : Vec Ideal S256x2816 .f32) (a : Vec Ideal S1x1x2816 .f32) (y z : Fin 1) (c : Fin 2816) :
    k0_pay45 d a (ix3 y z c) = a (ix3 0 0 c) + ∑ r, d (ix2 r c) := by
  pointwise [k0_pay45]

theorem pay46_at (p q : Vec Ideal S256x2816 .bf16) (wa wb : Vec Ideal S2816x1024 .bf16) (r : Fin 256) (k : Fin 1024) :
    k0_pay46 (k0_pay32 k0_pay15 p wa) q wb (ix2 r k) = (∑ c, p (ix2 r c) * wa (ix2 c k)) + ∑ c, q (ix2 r c) * wb (ix2 c k) := by
  pointwise [k0_pay46, k0_pay32, k0_pay15]

theorem pay47_at (v : Vec Ideal S256x1024 .f32) (r : Fin 256) (z : Fin 1) : k0_pay47 v (ix2 r z) = invRms (row v r) := by
  pointwise [k0_pay47, row, invRms, meanSq]

theorem pay48_at (v : Vec Ideal S256x1024 .f32) (r : Fin 256) (k : Fin 1024) :
    k0_pay48 v (ix2 r k) = row v r k * invRms (row v r) := by
  pointwise [k0_pay48, pay47_at]

theorem pay49_at (h : Vec Ideal S256x1024 .f32) (q : Vec Ideal S256x2816 .bf16) (wb : Vec Ideal S2816x1024 .bf16) (v : Vec Ideal S256x1024 .f32)
    (a : Vec Ideal S1x1024 .f32) (z : Fin 1) (k : Fin 1024) :
    k0_pay49 h q wb v a (ix2 z k) = a (ix2 z k) + ∑ r, k0_pay46 h q wb (ix2 r k) * (row v r k * invRms (row v r)) := by
  pointwise [k0_pay49, pay48_at]

theorem pay1_at (d p v : Vec Ideal S256x1024 .f32) (g : Vec Ideal S1x1024 .f32) (r : Fin 256) (k : Fin 1024) :
    k0_pay1 d p (k0_pay47 v) (k0_pay48 v) g (ix2 r k) = dIn (row d r) (row v r) (row g 0) (row p r) k := by
  pointwise [k0_pay1, pay47_at, pay48_at, dIn, normBack]

end Cert.Block
-- ==== Proof.Pieces.lean ====
/-
  What an array holds after rectangular stores into it, at one index.
-/
module

public import Idealize.ShloMosaic.Lib.Pointwise
public import Idealize.ShloMosaic.Lib.Pipeline.ValueKit
public import Idealize.ShloMosaic.Lib.WritesUnit

@[expose] public section

noncomputable section

namespace Cert.Pieces

open Idealize.ShloMosaic

variable {Val : EltTy → Type} {S : Shape} {e : EltTy}

/-- The array `X` after the stores of `L`, the last of them first. -/
def put (X : S.Idx → Val e) : List (View.Piece Val S e) → S.Idx → Val e
  | [] => X
  | p :: L => p.1.overlay (put X L) p.2

/-- Stores over a buffer leave `put` of what it read as before. -/
theorem read_writes_eq_put {sig : RefSig} {κ : Kind} {sp : Space} (v : View sig κ sp S e) (f : v.ty.Contents Val) :
    ∀ L : List (View.Piece Val S e), v.read Val (v.writes Val f L) = put (v.read Val f) L
  | [] => rfl
  | p :: L => by
    funext y
    by_cases hy : y ∈ p.1.set
    · obtain ⟨r, w⟩ := p
      obtain ⟨x, rfl⟩ : ∃ x, r.emb x = y := r.exists_idx_of_mem hy
      rw [View.read_writes_cons_emb, put, Rect.overlay_emb]
    · rw [View.writes_cons, View.read_slice_write_of_not_mem _ _ _ _ (by rwa [Rect.map_emb_univ]), read_writes_eq_put v f L, put,
        Rect.overlay_of_not_mem _ _ _ hy]

/-- The contents that a list of stores alone determines, as stores over an arbitrary array. -/
theorem canon_eq_put [∀ e, Nonempty (Val e)] : ∀ L : List (View.Piece Val S e), View.canon L = put (fun _ => Classical.arbitrary _) L
  | [] => rfl
  | p :: L => by rw [View.canon_cons, canon_eq_put L, put]

/-- The last store, at one index: its payload inside its rectangle, what was there before outside. -/
theorem put_unit (X : S.Idx → Val e) (off size : Fin S.rank → ℕ) (inb : ∀ a, off a + size a ≤ S.size a)
    (w : (Rect.unit off size inb).shape.Idx → Val e) (L : List (View.Piece Val S e)) (y : S.Idx) :
    put X (⟨Rect.unit off size inb, w⟩ :: L) y
      = if h : ∀ a, off a ≤ (y a).val ∧ (y a).val < off a + size a then w (fun a => ⟨(y a).val - off a, by have := h a; show _ < size a; omega⟩)
        else put X L y := by
  by_cases h : ∀ a, off a ≤ (y a).val ∧ (y a).val < off a + size a
  · rw [dif_pos h, put]
    have hy : (Rect.unit off size inb).emb (fun a => ⟨(y a).val - off a, by have := h a; show _ < size a; omega⟩) = y :=
      funext fun a => Fin.ext (by
        show off a + 1 * ((y a).val - off a) = (y a).val
        have := h a; omega)
    conv_lhs => rw [← hy]
    exact Rect.overlay_emb _ _ _ _
  · rw [dif_neg h, put, Rect.overlay_of_not_mem]
    rwa [Rect.mem_set_unit]

/-- A store of a rectangle of a matrix, at one entry. -/
theorem put_unit2 {n k : ℕ} (X : (⟨2, ![n, k]⟩ : Shape).Idx → Val e) (o0 o1 s0 s1 : ℕ)
    (inb : ∀ a, (![o0, o1] : Fin 2 → ℕ) a + (![s0, s1] : Fin 2 → ℕ) a ≤ (⟨2, ![n, k]⟩ : Shape).size a)
    (w : (⟨2, ![s0, s1]⟩ : Shape).Idx → Val e) (L : List (View.Piece Val ⟨2, ![n, k]⟩ e)) (a : Fin n) (b : Fin k) :
    put X (⟨Rect.unit (s := ⟨2, ![n, k]⟩) ![o0, o1] ![s0, s1] inb, w⟩ :: L) (ix2 a b)
      = if h : (o0 ≤ a.val ∧ a.val < o0 + s0) ∧ (o1 ≤ b.val ∧ b.val < o1 + s1) then w (ix2 ⟨a.val - o0, by omega⟩ ⟨b.val - o1, by omega⟩)
        else put X L (ix2 a b) := by
  rw [put_unit]
  have e : (∀ x : Fin (⟨2, ![n, k]⟩ : Shape).rank, (![o0, o1] : Fin 2 → ℕ) x ≤ ((ix2 a b : (⟨2, ![n, k]⟩ : Shape).Idx) x).val
      ∧ ((ix2 a b : (⟨2, ![n, k]⟩ : Shape).Idx) x).val < (![o0, o1] : Fin 2 → ℕ) x + (![s0, s1] : Fin 2 → ℕ) x)
      ↔ (o0 ≤ a.val ∧ a.val < o0 + s0) ∧ (o1 ≤ b.val ∧ b.val < o1 + s1) :=
    ⟨fun h => ⟨h 0, h 1⟩, fun h x => by
      match x with
      | ⟨0, _⟩ => exact h.1
      | ⟨1, _⟩ => exact h.2⟩
  by_cases h : (o0 ≤ a.val ∧ a.val < o0 + s0) ∧ (o1 ≤ b.val ∧ b.val < o1 + s1)
  · rw [dif_pos h, dif_pos (e.mpr h)]
    congr 1
    funext x
    match x with
    | ⟨0, _⟩ => rfl
    | ⟨1, _⟩ => rfl
  · rw [dif_neg h, dif_neg (fun h' => h (e.mp h'))]

/-- A store of a box of an array of three axes, at one entry. -/
theorem put_unit3 {l n k : ℕ} (X : (⟨3, ![l, n, k]⟩ : Shape).Idx → Val e) (o0 o1 o2 s0 s1 s2 : ℕ)
    (inb : ∀ a, (![o0, o1, o2] : Fin 3 → ℕ) a + (![s0, s1, s2] : Fin 3 → ℕ) a ≤ (⟨3, ![l, n, k]⟩ : Shape).size a)
    (w : (⟨3, ![s0, s1, s2]⟩ : Shape).Idx → Val e) (L : List (View.Piece Val ⟨3, ![l, n, k]⟩ e)) (a : Fin l) (b : Fin n) (c : Fin k) :
    put X (⟨Rect.unit (s := ⟨3, ![l, n, k]⟩) ![o0, o1, o2] ![s0, s1, s2] inb, w⟩ :: L) (ix3 a b c)
      = if h : (o0 ≤ a.val ∧ a.val < o0 + s0) ∧ (o1 ≤ b.val ∧ b.val < o1 + s1) ∧ (o2 ≤ c.val ∧ c.val < o2 + s2) then
          w (ix3 ⟨a.val - o0, by omega⟩ ⟨b.val - o1, by omega⟩ ⟨c.val - o2, by omega⟩)
        else put X L (ix3 a b c) := by
  rw [put_unit]
  have e : (∀ x : Fin (⟨3, ![l, n, k]⟩ : Shape).rank, (![o0, o1, o2] : Fin 3 → ℕ) x ≤ ((ix3 a b c : (⟨3, ![l, n, k]⟩ : Shape).Idx) x).val
      ∧ ((ix3 a b c : (⟨3, ![l, n, k]⟩ : Shape).Idx) x).val < (![o0, o1, o2] : Fin 3 → ℕ) x + (![s0, s1, s2] : Fin 3 → ℕ) x)
      ↔ (o0 ≤ a.val ∧ a.val < o0 + s0) ∧ (o1 ≤ b.val ∧ b.val < o1 + s1) ∧ (o2 ≤ c.val ∧ c.val < o2 + s2) :=
    ⟨fun h => ⟨h 0, h 1, h 2⟩, fun h x => by
      match x with
      | ⟨0, _⟩ => exact h.1
      | ⟨1, _⟩ => exact h.2.1
      | ⟨2, _⟩ => exact h.2.2⟩
  by_cases h : (o0 ≤ a.val ∧ a.val < o0 + s0) ∧ (o1 ≤ b.val ∧ b.val < o1 + s1) ∧ (o2 ≤ c.val ∧ c.val < o2 + s2)
  · rw [dif_pos h, dif_pos (e.mpr h)]
    congr 1
    funext x
    match x with
    | ⟨0, _⟩ => rfl
    | ⟨1, _⟩ => rfl
    | ⟨2, _⟩ => rfl
  · rw [dif_neg h, dif_neg (fun h' => h (e.mp h'))]

end Cert.Pieces

end
-- ==== Proof.Stores.lean ====
/-
  What the stores of one grid point of the backward kernel leave in each output block, entry by entry, whatever the
  carried rows `n` and the block found.
-/
module

public import proofs.«01_k».proof.Proof.Block
public import proofs.«01_k».proof.Proof.Pieces

@[expose] public section

set_option maxRecDepth 16384

noncomputable section

namespace Cert.Block

open Idealize.ShloMosaic Cert.Reals Cert.Rows Cert.KernelIdeal Cert.KernelIdeal.Gen Cert.Pieces

variable (x0 x1 : Vec Ideal S256x1024 .f32) (x2 : Vec Ideal S1x1024 .f32) (x3 : Vec Ideal S256x1024 .f32) (x4 : Vec Ideal S1x1024 .f32)
  (x5 x6 : Vec Ideal S256x5632 .bf16) (x7 : Vec Ideal S5632x1024 .bf16) (x8 : Vec Ideal S8x5632 .f32) (x9 : Vec Ideal S2816x1024 .bf16)
  (n : Vec Ideal S8x5632 .f32)

/-- The gradients of the block's output rows. -/
def outRow (r : Fin 256) : Fin 1024 → EReal := dOut (row x0 r) (row x2 0) (row x1 r)

/-- The gradients of the block's convolved rows. -/
def convRow (r : Fin 256) : Fin 5632 → EReal := dConv (outRow x0 x1 x2 r) (row x9) (row x6 r)

/-- The gradients of the rows entering the convolution, from the gradients `d` of the block and those of the rows after it. -/
def preRow (d : Fin 256 → Fin 5632 → EReal) (r : Fin 256) : Fin 5632 → EReal := dPre (d r) (next1 d (row n) r) (next2 d (row n) r) (row x8)

/-- The first half of the columns of an array of 5632. -/
abbrev lows {a : ℕ} (x : (⟨2, ![a, 5632]⟩ : Shape).Idx → EReal) : Fin a → Fin 2816 → EReal := fun r c => x (ix2 r (lo c))
/-- The second half of them. -/
abbrev highs {a : ℕ} (x : (⟨2, ![a, 5632]⟩ : Shape).Idx → EReal) : Fin a → Fin 2816 → EReal := fun r c => x (ix2 r (hi c))

/-- The kernel's gradient of the gated half of the block's convolved rows. -/
abbrev gate : Vec Ideal S256x2816 .f32 :=
  k0_pay19 (k0_pay7 x0) (k0_pay8 x0) (k0_pay11 x0 x2 x1 x2) (k0_pay12 x0 x2 x1 x2) x9
    (View.ld x6 (Rect.unit ![0, 0] ![256, 2816] inb_S256x5632_S256x2816_0_0))
    (View.ld x6 (Rect.unit ![0, 2816] ![256, 2816] inb_S256x5632_S256x2816_0_2816))

/-- The kernel's gradient of the linear half. -/
abbrev lin : Vec Ideal S256x2816 .f32 :=
  k0_pay20 (k0_pay7 x0) (k0_pay8 x0) (k0_pay11 x0 x2 x1 x2) (k0_pay12 x0 x2 x1 x2) x9
    (View.ld x6 (Rect.unit ![0, 0] ![256, 2816] inb_S256x5632_S256x2816_0_0))

theorem gate_row : row (gate x0 x1 x2 x6 x9) = fun r c => convRow x0 x1 x2 x6 x9 r (lo c) := by
  funext r c
  rw [convRow, dConv_lo, dGate]
  exact (pay19_at ..).trans (by pointwise [outRow]; rfl)

theorem lin_row : row (lin x0 x1 x2 x6 x9) = fun r c => convRow x0 x1 x2 x6 x9 r (hi c) := by
  funext r c
  rw [convRow, dConv_hi, dLin]
  exact (pay20_at ..).trans (by pointwise [outRow]; rfl)

theorem ld_lo {a : ℕ} (x : (⟨2, ![a, 5632]⟩ : Shape).Idx → EReal) (s : ℕ) (o : ℕ) (h) :
    row (View.ld (Val := Elt Ideal) (e' := .f32) x (Rect.unit (s := ⟨2, ![a, 5632]⟩) ![o, 0] ![s, 2816] h)) = fun (r : Fin s) c => x (ix2 ⟨o + r.val, by have := h 0; simp at this; omega⟩ (lo c)) := by
  funext r c
  refine congrArg x (funext fun a => Fin.ext ?_)
  match a with
  | ⟨0, _⟩ => show o + 1 * r.val = o + r.val; omega
  | ⟨1, _⟩ => show 0 + 1 * c.val = c.val; omega

theorem ld_hi {a : ℕ} (x : (⟨2, ![a, 5632]⟩ : Shape).Idx → EReal) (s : ℕ) (o : ℕ) (h) :
    row (View.ld (Val := Elt Ideal) (e' := .f32) x (Rect.unit (s := ⟨2, ![a, 5632]⟩) ![o, 2816] ![s, 2816] h)) = fun (r : Fin s) c => x (ix2 ⟨o + r.val, by have := h 0; simp at this; omega⟩ (hi c)) := by
  funext r c
  refine congrArg x (funext fun a => Fin.ext ?_)
  match a with
  | ⟨0, _⟩ => show o + 1 * r.val = o + r.val; omega
  | ⟨1, _⟩ => show 2816 + 1 * c.val = 2816 + c.val; omega

/-- The gated half of the gradient entering the convolution. -/
abbrev gatePre : Vec Ideal S256x2816 .bf16 :=
  k0_pay25 (iota .tc S256x2816 32 [0] iota_S256x2816_d0_w32) (gate x0 x1 x2 x6 x9)
    (View.ld n (Rect.unit ![0, 0] ![8, 2816] inb_S8x5632_S8x2816_0_0)) k0_pay21
    (View.ld x8 (Rect.unit ![2, 0] ![1, 2816] inb_S8x5632_S1x2816_2_0))
    (View.ld x8 (Rect.unit ![1, 0] ![1, 2816] inb_S8x5632_S1x2816_1_0))
    (View.ld x8 (Rect.unit ![0, 0] ![1, 2816] inb_S8x5632_S1x2816_0_0))

/-- The linear half of it. -/
abbrev linPre : Vec Ideal S256x2816 .bf16 :=
  k0_pay38
    (k0_pay34 (iota .tc S256x2816 32 [0] iota_S256x2816_d0_w32) (lin x0 x1 x2 x6 x9)
      (View.ld n (Rect.unit ![0, 2816] ![8, 2816] inb_S8x5632_S8x2816_0_2816)))
    (k0_pay36 (lin x0 x1 x2 x6 x9) (View.ld x8 (Rect.unit ![2, 2816] ![1, 2816] inb_S8x5632_S1x2816_2_2816)))
    (k0_pay37 (iota .tc S256x2816 32 [0] iota_S256x2816_d0_w32) (lin x0 x1 x2 x6 x9)
      (View.ld n (Rect.unit ![0, 2816] ![8, 2816] inb_S8x5632_S8x2816_0_2816))
      (View.ld x8 (Rect.unit ![1, 2816] ![1, 2816] inb_S8x5632_S1x2816_1_2816)))
    (View.ld x8 (Rect.unit ![0, 2816] ![1, 2816] inb_S8x5632_S1x2816_0_2816))

theorem next1_comp {C D : Type} (f : C → D) (d : Fin 256 → D → EReal) (m : Fin 8 → D → EReal) (r : Fin 256) (c : C) :
    next1 (fun r c => d r (f c)) (fun r c => m r (f c)) r c = next1 d m r (f c) := rfl

theorem next2_comp {C D : Type} (f : C → D) (d : Fin 256 → D → EReal) (m : Fin 8 → D → EReal) (r : Fin 256) (c : C) :
    next2 (fun r c => d r (f c)) (fun r c => m r (f c)) r c = next2 d m r (f c) := rfl

theorem gatePre_at (r : Fin 256) (c : Fin 2816) :
    gatePre x0 x1 x2 x6 x8 x9 n (ix2 r c) = preRow x8 n (convRow x0 x1 x2 x6 x9) r (lo c) := by
  refine (pay25_at ..).trans ?_
  rw [gate_row]
  erw [ld_lo, ld_lo, ld_lo, ld_lo]
  simp only [taps, preRow, dPre, zero_add]
  rfl

theorem linPre_at (r : Fin 256) (c : Fin 2816) :
    linPre x0 x1 x2 x6 x8 x9 n (ix2 r c) = preRow x8 n (convRow x0 x1 x2 x6 x9) r (hi c) := by
  refine (pay38_at ..).trans ?_
  rw [lin_row]
  erw [ld_hi, ld_hi, ld_hi, ld_hi]
  simp only [taps, preRow, dPre, zero_add]
  rfl

/-- The two stores of the gradient entering the convolution. -/
theorem pre_stores (X : Vec Ideal S256x5632 .bf16) (r : Fin 256) (c : Fin 5632) :
    put X [⟨Rect.unit ![0, 2816] ![256, 2816] inb_S256x5632_S256x2816_0_2816, linPre x0 x1 x2 x6 x8 x9 n⟩,
      ⟨Rect.unit ![0, 0] ![256, 2816] inb_S256x5632_S256x2816_0_0, gatePre x0 x1 x2 x6 x8 x9 n⟩] (ix2 r c)
      = preRow x8 n (convRow x0 x1 x2 x6 x9) r c := by
  refine (put_unit2 ..).trans ?_
  split_ifs with h
  · refine (linPre_at ..).trans ?_
    congr 1; apply Fin.ext; simp only [hi]; omega
  · refine (put_unit2 ..).trans ?_
    rw [dif_pos (by omega)]
    exact (gatePre_at ..).trans rfl

/-- The kernel's gradient entering the up-projection. -/
abbrev hidPre : Vec Ideal S256x1024 .f32 :=
  k0_pay46 (k0_pay32 k0_pay15 (gatePre x0 x1 x2 x6 x8 x9 n) (View.ld x7 (Rect.unit ![0, 0] ![2816, 1024] inb_S5632x1024_S2816x1024_0_0)))
    (linPre x0 x1 x2 x6 x8 x9 n) (View.ld x7 (Rect.unit ![2816, 0] ![2816, 1024] inb_S5632x1024_S2816x1024_2816_0))

/-- The gradients of the rows entering the up-projection. -/
def hidRow (r : Fin 256) : Fin 1024 → EReal := dHid (preRow x8 n (convRow x0 x1 x2 x6 x9) r) (row x7)

theorem hidPre_at (r : Fin 256) (k : Fin 1024) :
    hidPre x0 x1 x2 x6 x7 x8 x9 n (ix2 r k) = hidRow x0 x1 x2 x6 x7 x8 x9 n r k := by
  refine (pay46_at ..).trans ?_
  rw [hidRow, dHid]
  refine congrArg₂ (· + ·) (Finset.sum_congr rfl fun c _ => ?_) (Finset.sum_congr rfl fun c _ => ?_)
  · rw [gatePre_at]
    refine congrArg₂ (· * ·) rfl (congrArg x7 (funext fun a => Fin.ext ?_))
    match a with
    | ⟨0, _⟩ => show 0 + 1 * c.val = c.val; omega
    | ⟨1, _⟩ => show 0 + 1 * k.val = k.val; omega
  · rw [linPre_at]
    refine congrArg₂ (· * ·) rfl (congrArg x7 (funext fun a => Fin.ext ?_))
    match a with
    | ⟨0, _⟩ => show 2816 + 1 * c.val = 2816 + c.val; omega
    | ⟨1, _⟩ => show 0 + 1 * k.val = k.val; omega

/-- The gradient of the block's input. -/
theorem in_at (r : Fin 256) (k : Fin 1024) :
    k0_pay1 (k0_pay13 (k0_pay7 x0) (k0_pay8 x0) (k0_pay11 x0 x2 x1 x2) (k0_pay12 x0 x2 x1 x2)) (hidPre x0 x1 x2 x6 x7 x8 x9 n)
        (k0_pay47 x3) (k0_pay48 x3) x4 (ix2 r k)
      = dIn (outRow x0 x1 x2 r) (row x3 r) (row x4 0) (hidRow x0 x1 x2 x6 x7 x8 x9 n r) k := by
  refine (pay1_at ..).trans ?_
  congr 1
  · funext j; exact pay13_at ..
  · funext j; exact hidPre_at ..

/-- What the block adds to the gradient of the final norm's gain. -/
def finalTerm (k : Fin 1024) : EReal := ∑ r, dy (row x0 r) (row x2 0) (row x1 r) k * (row x0 r k * invRms (row x0 r))

/-- What the block adds to the gradient of the FFN norm's gain. -/
def gainTerm (k : Fin 1024) : EReal := ∑ r, hidRow x0 x1 x2 x6 x7 x8 x9 n r k * (row x3 r k * invRms (row x3 r))

/-- The store of the first gain's sums. -/
theorem final_stores (X a : Vec Ideal S8x1024 .f32) (L) (q : Fin 8) (k : Fin 1024) :
    put X (⟨Rect.unit ![0, 0] ![1, 1024] inb_S8x1024_S1x1024_0_0,
        k0_pay10 x0 x2 x1 (View.ld a (Rect.unit ![0, 0] ![1, 1024] inb_S8x1024_S1x1024_0_0))⟩ :: L) (ix2 q k)
      = if q.val = 0 then a (ix2 0 k) + finalTerm x0 x1 x2 k else put X L (ix2 q k) := by
  refine (put_unit2 ..).trans ?_
  by_cases h : q.val = 0
  · rw [dif_pos (by omega), if_pos h]
    refine (pay10_at ..).trans ?_
    refine congrArg₂ (· + ·) (congrArg a (funext fun i => Fin.ext ?_)) rfl
    match i with
    | ⟨0, _⟩ => show 0 + 1 * (q.val - 0) = 0; omega
    | ⟨1, _⟩ => show 0 + 1 * (k.val - 0) = k.val; omega
  · rw [dif_neg (by omega), if_neg h]

/-- The store of the second gain's sums. -/
theorem gain_stores (X a : Vec Ideal S8x1024 .f32) (L) (q : Fin 8) (k : Fin 1024) :
    put X (⟨Rect.unit ![0, 0] ![1, 1024] inb_S8x1024_S1x1024_0_0,
        k0_pay49 (k0_pay32 k0_pay15 (gatePre x0 x1 x2 x6 x8 x9 n) (View.ld x7 (Rect.unit ![0, 0] ![2816, 1024] inb_S5632x1024_S2816x1024_0_0)))
          (linPre x0 x1 x2 x6 x8 x9 n) (View.ld x7 (Rect.unit ![2816, 0] ![2816, 1024] inb_S5632x1024_S2816x1024_2816_0)) x3
          (View.ld a (Rect.unit ![0, 0] ![1, 1024] inb_S8x1024_S1x1024_0_0))⟩ :: L) (ix2 q k)
      = if q.val = 0 then a (ix2 0 k) + gainTerm x0 x1 x2 x3 x6 x7 x8 x9 n k else put X L (ix2 q k) := by
  refine (put_unit2 ..).trans ?_
  by_cases h : q.val = 0
  · rw [dif_pos (by omega), if_pos h]
    refine (pay49_at ..).trans ?_
    refine congrArg₂ (· + ·) (congrArg a (funext fun i => Fin.ext ?_)) (Finset.sum_congr rfl fun r _ => ?_)
    · match i with
      | ⟨0, _⟩ => show 0 + 1 * (q.val - 0) = 0; omega
      | ⟨1, _⟩ => show 0 + 1 * (k.val - 0) = k.val; omega
    · exact congrArg₂ (· * ·) (hidPre_at ..) rfl
  · rw [dif_neg (by omega), if_neg h]

/-- The two stores of the rows carried to the next point. -/
theorem carry_stores (X : Vec Ideal S8x5632 .f32) (L) (q : Fin 8) (c : Fin 5632) :
    put X (⟨Rect.unit ![0, 2816] ![8, 2816] inb_S8x5632_S8x2816_0_2816, k0_pay35 (F := Ideal) (lin x0 x1 x2 x6 x9)⟩
      :: ⟨Rect.unit ![0, 0] ![8, 2816] inb_S8x5632_S8x2816_0_0, k0_pay24 (F := Ideal) (gate x0 x1 x2 x6 x9)⟩ :: L) (ix2 q c)
      = convRow x0 x1 x2 x6 x9 ⟨q.val, by omega⟩ c := by
  refine (put_unit2 ..).trans ?_
  split_ifs with h
  · refine (pay35_at ..).trans ?_
    refine (congrFun (congrFun (lin_row x0 x1 x2 x6 x9) _) _).trans ?_
    congr 1; apply Fin.ext; simp only [hi]; omega
  · refine (put_unit2 ..).trans ?_
    rw [dif_pos (by omega)]
    refine (pay24_at ..).trans ?_
    exact (congrFun (congrFun (gate_row x0 x1 x2 x6 x9) _) _).trans rfl

/-- What the block adds to row `q` of the gradient of the taps (and, in row 3, of the bias), from the gradients `d` of its convolved
    rows, those of the rows after it and the rows `u` that entered the convolution. -/
def tapTerm (d : Fin 256 → Fin 5632 → EReal) (m : Fin 8 → Fin 5632 → EReal) (u : Fin 256 → Fin 5632 → EReal) (q : ℕ) (c : Fin 5632) : EReal :=
  if q = 0 then ∑ r, next2 d m r c * u r c
  else if q = 1 then ∑ r, next1 d m r c * u r c
  else if q = 2 then ∑ r, d r c * u r c
  else if q = 3 then ∑ r, d r c
  else 0

/-- The column a half and a column of that half make. -/
def col (h : Fin 2) (c : Fin 2816) : Fin 5632 := ⟨2816 * h.val + c.val, by have := h.isLt; have := c.isLt; omega⟩

theorem ld_plane (a : Vec Ideal S2x8x2816 .f32) (h q : ℕ) (inb) (y z : Fin 1) (c : Fin 2816) (hh : h < 2) (hq : q < 8) :
    View.ld (Val := Elt Ideal) (e' := .f32) a (Rect.unit (s := S2x8x2816) ![h, q, 0] ![1, 1, 2816] inb) (ix3 y z c) = a (ix3 ⟨h, hh⟩ ⟨q, hq⟩ c) := by
  refine congrArg a (funext fun i => Fin.ext ?_)
  match i with
  | ⟨0, _⟩ => show h + 1 * y.val = h; omega
  | ⟨1, _⟩ => show q + 1 * z.val = q; omega
  | ⟨2, _⟩ => show 0 + 1 * c.val = c.val; omega

/-- A store of one row of one half. -/
theorem put_plane (X : Vec Ideal S2x8x2816 .f32) (o p : ℕ) (inb) (w : Vec Ideal S1x1x2816 .f32) (L) (h : Fin 2) (q : Fin 8) (c : Fin 2816) :
    put X (⟨Rect.unit (s := S2x8x2816) ![o, p, 0] ![1, 1, 2816] inb, w⟩ :: L) (ix3 h q c)
      = if h.val = o ∧ q.val = p then w (ix3 0 0 c) else put X L (ix3 h q c) := by
  refine (put_unit3 ..).trans ?_
  by_cases e : h.val = o ∧ q.val = p
  · rw [dif_pos (by omega), if_pos e]
    refine congrArg w (funext fun i => Fin.ext ?_)
    match i with
    | ⟨0, _⟩ => show h.val - o = 0; omega
    | ⟨1, _⟩ => show q.val - p = 0; omega
    | ⟨2, _⟩ => show c.val - 0 = c.val; omega
  · rw [dif_neg (by omega), if_neg e]

/-- The rows that entered the convolution, first half of the columns. -/
abbrev ugate : Vec Ideal S256x2816 .bf16 := View.ld x5 (Rect.unit ![0, 0] ![256, 2816] inb_S256x5632_S256x2816_0_0)
/-- The same, second half. -/
abbrev ulin : Vec Ideal S256x2816 .bf16 := View.ld x5 (Rect.unit ![0, 2816] ![256, 2816] inb_S256x5632_S256x2816_0_2816)

theorem ugate_at (r : Fin 256) (c : Fin 2816) : ugate x5 (ix2 r c) = row x5 r (lo c) := by
  have := congrFun (congrFun (ld_lo x5 256 0 inb_S256x5632_S256x2816_0_0) r) c
  refine Eq.trans this ?_
  simp only [Nat.zero_add]

theorem ulin_at (r : Fin 256) (c : Fin 2816) : ulin x5 (ix2 r c) = row x5 r (hi c) := by
  have := congrFun (congrFun (ld_hi x5 256 0 inb_S256x5632_S256x2816_0_2816) r) c
  refine Eq.trans this ?_
  simp only [Nat.zero_add]

/-- The carried rows, first half of the columns. -/
abbrev ngate : Vec Ideal S8x2816 .f32 := View.ld n (Rect.unit ![0, 0] ![8, 2816] inb_S8x5632_S8x2816_0_0)
/-- The same, second half. -/
abbrev nlin : Vec Ideal S8x2816 .f32 := View.ld n (Rect.unit ![0, 2816] ![8, 2816] inb_S8x5632_S8x2816_0_2816)

theorem ngate_row : row (ngate n) = fun q c => row n q (lo c) := by
  refine (ld_lo n 8 0 inb_S8x5632_S8x2816_0_0).trans ?_
  simp only [Nat.zero_add]

theorem nlin_row : row (nlin n) = fun q c => row n q (hi c) := by
  refine (ld_hi n 8 0 inb_S8x5632_S8x2816_0_2816).trans ?_
  simp only [Nat.zero_add]

/-- The eight stores of the taps' and the bias's sums. -/
theorem tap_stores (X a : Vec Ideal S2x8x2816 .f32) (L) (h : Fin 2) (q : Fin 8) (c : Fin 2816) :
    put X (⟨Rect.unit ![1, 3, 0] ![1, 1, 2816] inb_S2x8x2816_S1x1x2816_1_3_0,
        k0_pay45 (lin x0 x1 x2 x6 x9) (View.ld a (Rect.unit ![1, 3, 0] ![1, 1, 2816] inb_S2x8x2816_S1x1x2816_1_3_0))⟩
      :: ⟨Rect.unit ![1, 2, 0] ![1, 1, 2816] inb_S2x8x2816_S1x1x2816_1_2_0,
        k0_pay44 (k0_pay42 (View.ld a (Rect.unit ![1, 2, 0] ![1, 1, 2816] inb_S2x8x2816_S1x1x2816_1_2_0))) (k0_pay43 (lin x0 x1 x2 x6 x9) (ulin x5))⟩
      :: ⟨Rect.unit ![1, 1, 0] ![1, 1, 2816] inb_S2x8x2816_S1x1x2816_1_1_0,
        k0_pay41 (k0_pay33 (iota .tc S256x2816 32 [0] iota_S256x2816_d0_w32) (lin x0 x1 x2 x6 x9) (nlin n)) (ulin x5)
          (View.ld a (Rect.unit ![1, 1, 0] ![1, 1, 2816] inb_S2x8x2816_S1x1x2816_1_1_0))⟩
      :: ⟨Rect.unit ![1, 0, 0] ![1, 1, 2816] inb_S2x8x2816_S1x1x2816_1_0_0,
        k0_pay40 (k0_pay34 (iota .tc S256x2816 32 [0] iota_S256x2816_d0_w32) (lin x0 x1 x2 x6 x9) (nlin n)) (ulin x5)
          (View.ld a (Rect.unit ![1, 0, 0] ![1, 1, 2816] inb_S2x8x2816_S1x1x2816_1_0_0))⟩
      :: ⟨Rect.unit ![0, 3, 0] ![1, 1, 2816] inb_S2x8x2816_S1x1x2816_0_3_0,
        k0_pay31 (k0_pay30 (gate x0 x1 x2 x6 x9) (View.ld a (Rect.unit ![0, 3, 0] ![1, 1, 2816] inb_S2x8x2816_S1x1x2816_0_3_0)))⟩
      :: ⟨Rect.unit ![0, 2, 0] ![1, 1, 2816] inb_S2x8x2816_S1x1x2816_0_2_0,
        k0_pay29 (gate x0 x1 x2 x6 x9) (k0_pay26 (ugate x5)) (View.ld a (Rect.unit ![0, 2, 0] ![1, 1, 2816] inb_S2x8x2816_S1x1x2816_0_2_0))⟩
      :: ⟨Rect.unit ![0, 1, 0] ![1, 1, 2816] inb_S2x8x2816_S1x1x2816_0_1_0,
        k0_pay28 (k0_pay22 (gate x0 x1 x2 x6 x9) (ngate n) k0_pay21) (k0_pay26 (ugate x5))
          (View.ld a (Rect.unit ![0, 1, 0] ![1, 1, 2816] inb_S2x8x2816_S1x1x2816_0_1_0))⟩
      :: ⟨Rect.unit ![0, 0, 0] ![1, 1, 2816] inb_S2x8x2816_S1x1x2816_0_0_0,
        k0_pay27 (k0_pay23 (iota .tc S256x2816 32 [0] iota_S256x2816_d0_w32) (gate x0 x1 x2 x6 x9) (ngate n)) (k0_pay26 (ugate x5))
          (View.ld a (Rect.unit ![0, 0, 0] ![1, 1, 2816] inb_S2x8x2816_S1x1x2816_0_0_0))⟩ :: L) (ix3 h q c)
      = if q.val < 4 then a (ix3 h q c) + tapTerm (convRow x0 x1 x2 x6 x9) (row n) (row x5) q.val (col h c) else put X L (ix3 h q c) := by
  have hg : ∀ r c, gate x0 x1 x2 x6 x9 (ix2 r c) = convRow x0 x1 x2 x6 x9 r (lo c) := fun r c => congrFun (congrFun (gate_row ..) r) c
  have hl : ∀ r c, lin x0 x1 x2 x6 x9 (ix2 r c) = convRow x0 x1 x2 x6 x9 r (hi c) := fun r c => congrFun (congrFun (lin_row ..) r) c
  have e0 : lo c = col 0 c := Fin.ext (by simp [lo, col])
  have e1 : hi c = col 1 c := Fin.ext (by simp [hi, col])
  simp only [put_plane]
  by_cases hq : q.val < 4
  · rw [if_pos hq]
    fin_cases h <;> fin_cases q <;> first | (exfalso; revert hq; decide) | skip
    all_goals simp only [tapTerm, Fin.isValue, Fin.zero_eta, Fin.mk_one, Fin.val_zero, Fin.val_one, Fin.reduceFinMk, Fin.val_two, Fin.coe_ofNat_eq_mod, Nat.reduceMod, Nat.reduceEqDiff,
      zero_ne_one, one_ne_zero, OfNat.ofNat_ne_zero, OfNat.ofNat_ne_one, OfNat.zero_ne_ofNat, OfNat.one_ne_ofNat, and_true, and_false, true_and, false_and, if_true, if_false, reduceIte, and_self]
    · refine (pay27_at ..).trans (congrArg₂ (· + ·) (ld_plane a 0 0 _ _ _ _ (by omega) (by omega)) (Finset.sum_congr rfl fun r _ => congrArg₂ (· * ·) ?_ ?_))
      · rw [pay23_at, gate_row, ngate_row, ← e0]; rfl
      · rw [pay26_at, ugate_at, e0]
    · refine (pay28_at ..).trans (congrArg₂ (· + ·) (ld_plane a 0 1 _ _ _ _ (by omega) (by omega)) (Finset.sum_congr rfl fun r _ => congrArg₂ (· * ·) ?_ ?_))
      · rw [pay22_at, gate_row, ngate_row, ← e0]; rfl
      · rw [pay26_at, ugate_at, e0]
    · refine (pay29_at ..).trans (congrArg₂ (· + ·) (ld_plane a 0 2 _ _ _ _ (by omega) (by omega)) (Finset.sum_congr rfl fun r _ => congrArg₂ (· * ·) ?_ ?_))
      · rw [hg, e0]
      · rw [pay26_at, ugate_at, e0]
    · refine (pay31_at ..).trans (congrArg₂ (· + ·) (ld_plane a 0 3 _ _ _ _ (by omega) (by omega)) (Finset.sum_congr rfl fun r _ => ?_))
      rw [hg, e0]
    · refine (pay40_at ..).trans (congrArg₂ (· + ·) (ld_plane a 1 0 _ _ _ _ (by omega) (by omega)) (Finset.sum_congr rfl fun r _ => congrArg₂ (· * ·) ?_ ?_))
      · rw [pay34_at, lin_row, nlin_row, ← e1]; rfl
      · rw [ulin_at, e1]
    · refine (pay41_at ..).trans (congrArg₂ (· + ·) (ld_plane a 1 1 _ _ _ _ (by omega) (by omega)) (Finset.sum_congr rfl fun r _ => congrArg₂ (· * ·) ?_ ?_))
      · rw [pay33_at, lin_row, nlin_row, ← e1]; rfl
      · rw [ulin_at, e1]
    · refine (pay44_at ..).trans (congrArg₂ (· + ·) (ld_plane a 1 2 _ _ _ _ (by omega) (by omega)) (Finset.sum_congr rfl fun r _ => congrArg₂ (· * ·) ?_ ?_))
      · rw [hl, e1]
      · rw [ulin_at, e1]
    · refine (pay45_at ..).trans (congrArg₂ (· + ·) (ld_plane a 1 3 _ _ _ _ (by omega) (by omega)) (Finset.sum_congr rfl fun r _ => ?_))
      rw [hl, e1]
  · rw [if_neg hq, if_neg (by omega), if_neg (by omega), if_neg (by omega), if_neg (by omega), if_neg (by omega), if_neg (by omega), if_neg (by omega),
      if_neg (by omega)]

end Cert.Block

end
-- ==== Proof.Blocks.lean ====
/-
  The blocks that a grid point of the backward kernel reads, as rows of the arrays that it finds.
-/
module

public import proofs.«01_k».proof.Proof.Model
public import proofs.«01_k».proof.Proof.Stores
public import proofs.«01_k».proof.Proof.Gen.KernelIdeal.Frame
public import Idealize.ShloMosaic.Lib.Pipeline.ValueKit

@[expose] public section

set_option maxRecDepth 16384

noncomputable section

namespace Cert.Blocks

open Idealize.ShloMosaic Idealize.ShloMosaic.TcCoe Idealize.ShloMosaic.Pipeline Cert.Reals Cert.Rows Cert.KernelIdeal Cert.KernelIdeal.Gen Cert.Block Cert.Model

variable (m : (ℓ : Loc nD τ sig) → Buf (Elt Ideal) ℓ) (c : Dev nD)

/-- The arrays that the kernel finds. -/
def found : Arrays where
  x := row (V m c main_v57 : Vec Ideal S2048x1024 .f32)
  t := row (V m c main_arg7 : Vec Ideal S2048x1024 .f32)
  gf := row (V m c main_v7 : Vec Ideal S1x1024 .f32) 0
  x2 := row (V m c main_arg0 : Vec Ideal S2048x1024 .f32)
  g2 := row (V m c main_arg1 : Vec Ideal S1x1024 .f32) 0
  u := row (V m c main_v58 : Vec Ideal S2048x5632 .bf16)
  v := row (V m c main_v59 : Vec Ideal S2048x5632 .bf16)
  wu := row (V m c main_v2 : Vec Ideal S5632x1024 .bf16)
  cw := row (V m c main_v6 : Vec Ideal S8x5632 .f32)
  wd := row (V m c main_v4 : Vec Ideal S2816x1024 .bf16)

variable (t : Fin cfg0.N)

theorem idx : ∀ t : Fin cfg0.N, win0_0.index t = ![7 - t.val, 0] ∧ win0_1.index t = ![7 - t.val, 0] ∧ win0_2.index t = ![0, 0] ∧ win0_3.index t = ![7 - t.val, 0]
    ∧ win0_4.index t = ![0, 0] ∧ win0_5.index t = ![7 - t.val, 0] ∧ win0_6.index t = ![7 - t.val, 0] ∧ win0_7.index t = ![0, 0]
    ∧ win0_8.index t = ![0, 0] ∧ win0_9.index t = ![0, 0] := by decide +kernel

theorem row0 (r : Fin 256) : row (iblk m c 0 t : Vec Ideal S256x1024 .f32) r = (found m c).x (at_ t.val r) := by
  funext k; have := (idx t).1
  simp only [row, found, at_]
  blk_ext [iblk, this]
theorem row1 (r : Fin 256) : row (iblk m c 1 t : Vec Ideal S256x1024 .f32) r = (found m c).t (at_ t.val r) := by
  funext k; have := (idx t).2.1
  simp only [row, found, at_]
  blk_ext [iblk, this]
theorem row2 : row (iblk m c 2 t : Vec Ideal S1x1024 .f32) 0 = (found m c).gf := by
  funext k; have := (idx t).2.2.1
  simp only [row, found]
  blk_ext [iblk, this]
theorem row3 (r : Fin 256) : row (iblk m c 3 t : Vec Ideal S256x1024 .f32) r = (found m c).x2 (at_ t.val r) := by
  funext k; have := (idx t).2.2.2.1
  simp only [row, found, at_]
  blk_ext [iblk, this]
theorem row4 : row (iblk m c 4 t : Vec Ideal S1x1024 .f32) 0 = (found m c).g2 := by
  funext k; have := (idx t).2.2.2.2.1
  simp only [row, found]
  blk_ext [iblk, this]
theorem row5 (r : Fin 256) : row (iblk m c 5 t : Vec Ideal S256x5632 .bf16) r = (found m c).u (at_ t.val r) := by
  funext k; have := (idx t).2.2.2.2.2.1
  simp only [row, found, at_]
  blk_ext [iblk, this]
theorem row6 (r : Fin 256) : row (iblk m c 6 t : Vec Ideal S256x5632 .bf16) r = (found m c).v (at_ t.val r) := by
  funext k; have := (idx t).2.2.2.2.2.2.1
  simp only [row, found, at_]
  blk_ext [iblk, this]
theorem row7 : row (iblk m c 7 t : Vec Ideal S5632x1024 .bf16) = (found m c).wu := by
  funext r k; have := (idx t).2.2.2.2.2.2.2.1
  simp only [row, found]
  blk_ext [iblk, this]
theorem row8 : row (iblk m c 8 t : Vec Ideal S8x5632 .f32) = (found m c).cw := by
  funext r k; have := (idx t).2.2.2.2.2.2.2.2.1
  simp only [row, found]
  blk_ext [iblk, this]
theorem row9 : row (iblk m c 9 t : Vec Ideal S2816x1024 .bf16) = (found m c).wd := by
  funext r k; have := (idx t).2.2.2.2.2.2.2.2.2
  simp only [row, found]
  blk_ext [iblk, this]

end Cert.Blocks

end
-- ==== Proof.Host.lean ====
/-
  The arrays that the backward kernel finds when it is launched, from the program's arguments.
-/
module

public import proofs.«01_k».proof.Proof.Forward
public import proofs.«01_k».proof.Proof.Blocks
public import Idealize.ShloMosaic.Lib.KernelVsHost

@[expose] public section

set_option maxRecDepth 16384

noncomputable section

namespace Cert.Host

open Idealize.ShloMosaic Idealize.ShloMosaic.TcCoe Idealize.ShloMosaic.Pipeline Cert.Reals Cert.Rows Cert.KernelIdeal Cert.KernelIdeal.Gen Cert.Block Cert.Forward

variable (m : (ℓ : Loc nD τ sig) → Buf (Elt Ideal) ℓ) (c : Dev nD)

/-- The program's arguments. -/
def inputs : Inputs where
  x := fun s k => (m (c, Proc.tc.devRef main_arg0) : Vec Ideal S2048x1024 .f32) (ix2 s k)
  g := fun k => (m (c, Proc.tc.devRef main_arg1) : Vec Ideal S1x1024 .f32) (ix2 0 k)
  wup := fun k j => (m (c, Proc.tc.devRef main_arg2) : Vec Ideal S1x1024x5632 .f32) (ix3 0 k j)
  cw := fun q j => (m (c, Proc.tc.devRef main_arg3) : Vec Ideal S1x3x5632 .f32) (ix3 0 q j)
  cb := fun j => (m (c, Proc.tc.devRef main_arg4) : Vec Ideal S1x5632 .f32) (ix2 0 j)
  wdn := fun j k => (m (c, Proc.tc.devRef main_arg5) : Vec Ideal S1x2816x1024 .f32) (ix3 0 j k)
  gf := fun k => (m (c, Proc.tc.devRef main_arg6) : Vec Ideal S1024 .f32) (ix1 k)
  t := fun s k => (m (c, Proc.tc.devRef main_arg7) : Vec Ideal S2048x1024 .f32) (ix2 s k)

theorem wu (j : Fin 5632) (k : Fin 1024) : (V m c main_v2 : Vec Ideal S5632x1024 .bf16) (ix2 j k) = (inputs m c).wup k j := by
  unfold V
  simp only [hostOps0, hostOps0_1, hostOps0_2, hostOps0_3, hostOps0_4, List.flatten_cons, List.flatten_nil, List.append_nil, List.cons_append, List.nil_append]
  simp only [StableHlo.after_cons, StableHlo.after_nil]
  after_results_simp
  pointwise
  rfl

theorem wd (j : Fin 2816) (k : Fin 1024) : (V m c main_v4 : Vec Ideal S2816x1024 .bf16) (ix2 j k) = (inputs m c).wdn j k := by
  unfold V
  simp only [hostOps0, hostOps0_1, hostOps0_2, hostOps0_3, hostOps0_4, List.flatten_cons, List.flatten_nil, List.append_nil, List.cons_append, List.nil_append]
  simp only [StableHlo.after_cons, StableHlo.after_nil]
  after_results_simp
  pointwise
  rfl

theorem cw (q : Fin 8) (j : Fin 5632) : (V m c main_v6 : Vec Ideal S8x5632 .f32) (ix2 q j) = (back (inputs m c)).cw q j := by
  unfold V
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.toBuf, StableHlo.TRef.ofBuf, cast_eq]
  simp only [StableHlo.after_cons, StableHlo.after_nil]
  after_results_simp
  pointwise [back]
  rw [show FloatOps.sitofp (F := Ideal) FTy.f32 (0#32) = 0 from sitofp_zero]
  rfl

theorem gf (k : Fin 1024) : (V m c main_v7 : Vec Ideal S1x1024 .f32) (ix2 0 k) = (inputs m c).gf k := by
  unfold V
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.toBuf, StableHlo.TRef.ofBuf, cast_eq]
  simp only [StableHlo.after_cons, StableHlo.after_nil]
  after_results_simp
  pointwise
  rfl

theorem pre (s : Fin 2048) (j : Fin 5632) : (V m c main_v58 : Vec Ideal S2048x5632 .bf16) (ix2 s j) = Forward.pre (inputs m c) s j := by
  unfold V
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.toBuf, StableHlo.TRef.ofBuf, cast_eq]
  simp only [StableHlo.after_cons, StableHlo.after_nil]
  after_results_simp
  pointwise
  rfl

theorem conv (s : Fin 2048) (j : Fin 5632) : (V m c main_v59 : Vec Ideal S2048x5632 .bf16) (ix2 s j) = Forward.conv (inputs m c) s j := by
  unfold V
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.toBuf, StableHlo.TRef.ofBuf, cast_eq]
  simp only [StableHlo.after_cons, StableHlo.after_nil]
  after_results_simp
  pointwise
  after_results_simp
  pointwise
  rw [Forward.conv, behind_two, behind_one]
  rfl

theorem out (s : Fin 2048) (k : Fin 1024) : (V m c main_v57 : Vec Ideal S2048x1024 .f32) (ix2 s k) = Forward.out (inputs m c) s k := by
  unfold V
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.toBuf, StableHlo.TRef.ofBuf, cast_eq]
  simp only [StableHlo.after_cons, StableHlo.after_nil]
  after_results_simp
  pointwise
  after_results_simp
  pointwise
  simp only [Forward.out, Forward.act, Forward.conv, behind_two, behind_one]
  rfl

/-- The arrays that the backward kernel finds are those that the forward pass leaves. -/
theorem found_eq : Blocks.found m c = back (inputs m c) := by
  unfold Blocks.found back
  rw [V_main_arg7, V_main_arg0, V_main_arg1]
  congr 1
  · exact funext fun s => funext fun k => out m c s k
  · exact funext fun k => gf m c k
  · exact funext fun s => funext fun k => pre m c s k
  · exact funext fun s => funext fun k => conv m c s k
  · exact funext fun s => funext fun k => wu m c s k
  · exact funext fun s => funext fun k => cw m c s k
  · exact funext fun s => funext fun k => wd m c s k

end Cert.Host

end
-- ==== Proof.Point.lean ====
/-
  What one grid point of the backward kernel leaves in each of its windows, entry by entry: `A` is the first point, which starts the
  sums and the carried rows at zero; `B` every later one, which goes on from what the point before it left.
-/
module

public import proofs.«01_k».proof.Proof.Stores
public import proofs.«01_k».proof.Proof.Gen.KernelIdeal.Frame
public import Idealize.ShloMosaic.Lib.Pipeline.ValueKit
public import Idealize.ShloMosaic.Lib.Pipeline.ReadBack

@[expose] public section

set_option maxRecDepth 16384
set_option maxHeartbeats 400000

noncomputable section

namespace Cert.Block

open Idealize.ShloMosaic Cert.Reals Cert.Rows Cert.KernelIdeal Cert.KernelIdeal.Gen Cert.Pieces Idealize.ShloMosaic.Pipeline

theorem zero2 (q : Fin 8) (c : Fin 5632) : k0_pay2 (F := Ideal) (ix2 q c) = 0 := by pointwise [k0_pay2]
theorem zero3 (q : Fin 8) (k : Fin 1024) : k0_pay3 (F := Ideal) (ix2 q k) = 0 := by pointwise [k0_pay3]
theorem zero4 (q : Fin 8) (k : Fin 1024) : k0_pay4 (F := Ideal) (ix2 q k) = 0 := by pointwise [k0_pay4]
theorem zero5 (h : Fin 2) (q : Fin 8) (c : Fin 2816) : k0_pay5 (F := Ideal) (ix3 h q c) = 0 := by pointwise [k0_pay5]

/-- A store of a whole matrix. -/
theorem put_whole2 {n k : ℕ} {e : EltTy} (X w : (⟨2, ![n, k]⟩ : Shape).Idx → Elt Ideal e) (inb) (L) (a : Fin n) (b : Fin k) :
    put X (⟨Rect.unit (s := ⟨2, ![n, k]⟩) ![0, 0] ![n, k] inb, w⟩ :: L) (ix2 a b) = w (ix2 a b) := by
  refine (put_unit2 ..).trans ?_
  rw [dif_pos (by omega)]
  rfl

/-- A store of a whole array of three axes. -/
theorem put_whole3 {l n k : ℕ} {e : EltTy} (X w : (⟨3, ![l, n, k]⟩ : Shape).Idx → Elt Ideal e) (inb) (L) (a : Fin l) (b : Fin n) (c : Fin k) :
    put X (⟨Rect.unit (s := ⟨3, ![l, n, k]⟩) ![0, 0, 0] ![l, n, k] inb, w⟩ :: L) (ix3 a b c) = w (ix3 a b c) := by
  refine (put_unit3 ..).trans ?_
  rw [dif_pos (by omega)]
  rfl

/-- The gradient of the block's output rows, at the first point. -/
theorem out10_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x5632 .bf16) (harg6 : arg6.IsWhole) (arg7 : Memref sig .tc .vmem S256x5632 .bf16) (harg7 : arg7.IsWhole) (arg8 : Memref sig .tc .vmem S5632x1024 .bf16) (harg8 : arg8.IsWhole) (arg9 : Memref sig .tc .vmem S8x5632 .f32) (harg9 : arg9.IsWhole) (arg10 : Memref sig .tc .vmem S2816x1024 .bf16) (harg10 : arg10.IsWhole) (arg11 : Memref sig .tc .vmem S256x1024 .bf16) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S8x1024 .f32) (harg14 : arg14.IsWhole) (arg15 : Memref sig .tc .vmem S8x1024 .f32) (harg15 : arg15.IsWhole) (arg16 : Memref sig .tc .vmem S2x8x2816 .f32) (harg16 : arg16.IsWhole) (arg17 : Memref sig .tc .vmem S8x5632 .f32) (harg17 : arg17.IsWhole) (hc0 : cond0_0 i)
    (x0 : Vec Ideal S256x1024 .f32) (x1 : Vec Ideal S256x1024 .f32) (x2 : Vec Ideal S1x1024 .f32) (x3 : Vec Ideal S256x1024 .f32) (x4 : Vec Ideal S1x1024 .f32) (x5 : Vec Ideal S256x5632 .bf16) (x6 : Vec Ideal S256x5632 .bf16) (x7 : Vec Ideal S5632x1024 .bf16) (x8 : Vec Ideal S8x5632 .f32) (x9 : Vec Ideal S2816x1024 .bf16)
    (r : Fin 256) (k : Fin 1024) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix2 r k) = outRow x0 x1 x2 r k := by
  frame_open
  frame_out
  exact pay14_at ..

/-- The gradient of the rows entering the convolution, at the first point. -/
theorem out11_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x5632 .bf16) (harg6 : arg6.IsWhole) (arg7 : Memref sig .tc .vmem S256x5632 .bf16) (harg7 : arg7.IsWhole) (arg8 : Memref sig .tc .vmem S5632x1024 .bf16) (harg8 : arg8.IsWhole) (arg9 : Memref sig .tc .vmem S8x5632 .f32) (harg9 : arg9.IsWhole) (arg10 : Memref sig .tc .vmem S2816x1024 .bf16) (harg10 : arg10.IsWhole) (arg11 : Memref sig .tc .vmem S256x1024 .bf16) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S8x1024 .f32) (harg14 : arg14.IsWhole) (arg15 : Memref sig .tc .vmem S8x1024 .f32) (harg15 : arg15.IsWhole) (arg16 : Memref sig .tc .vmem S2x8x2816 .f32) (harg16 : arg16.IsWhole) (arg17 : Memref sig .tc .vmem S8x5632 .f32) (harg17 : arg17.IsWhole) (hc0 : cond0_0 i)
    (x0 : Vec Ideal S256x1024 .f32) (x1 : Vec Ideal S256x1024 .f32) (x2 : Vec Ideal S1x1024 .f32) (x3 : Vec Ideal S256x1024 .f32) (x4 : Vec Ideal S1x1024 .f32) (x5 : Vec Ideal S256x5632 .bf16) (x6 : Vec Ideal S256x5632 .bf16) (x7 : Vec Ideal S5632x1024 .bf16) (x8 : Vec Ideal S8x5632 .f32) (x9 : Vec Ideal S2816x1024 .bf16)
    (r : Fin 256) (j : Fin 5632) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix2 r j) = preRow x8 (k0_pay2 (F := Ideal)) (convRow x0 x1 x2 x6 x9) r j := by
  frame_open
  simp (disch := decide) only [↓ View.readCov_skip, ↓ View.readCov_cons_toLoadRect, ↓ View.readCov_fill]
  frame_out
  generalize k0_pay2 (F := Ideal) = z2
  exact (congrFun (canon_eq_put _) _).trans (pre_stores x0 x1 x2 x6 x8 x9 z2 _ r j)

/-- The gradient of the block's input rows, at the first point. -/
theorem out12_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x5632 .bf16) (harg6 : arg6.IsWhole) (arg7 : Memref sig .tc .vmem S256x5632 .bf16) (harg7 : arg7.IsWhole) (arg8 : Memref sig .tc .vmem S5632x1024 .bf16) (harg8 : arg8.IsWhole) (arg9 : Memref sig .tc .vmem S8x5632 .f32) (harg9 : arg9.IsWhole) (arg10 : Memref sig .tc .vmem S2816x1024 .bf16) (harg10 : arg10.IsWhole) (arg11 : Memref sig .tc .vmem S256x1024 .bf16) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S8x1024 .f32) (harg14 : arg14.IsWhole) (arg15 : Memref sig .tc .vmem S8x1024 .f32) (harg15 : arg15.IsWhole) (arg16 : Memref sig .tc .vmem S2x8x2816 .f32) (harg16 : arg16.IsWhole) (arg17 : Memref sig .tc .vmem S8x5632 .f32) (harg17 : arg17.IsWhole) (hc0 : cond0_0 i)
    (x0 : Vec Ideal S256x1024 .f32) (x1 : Vec Ideal S256x1024 .f32) (x2 : Vec Ideal S1x1024 .f32) (x3 : Vec Ideal S256x1024 .f32) (x4 : Vec Ideal S1x1024 .f32) (x5 : Vec Ideal S256x5632 .bf16) (x6 : Vec Ideal S256x5632 .bf16) (x7 : Vec Ideal S5632x1024 .bf16) (x8 : Vec Ideal S8x5632 .f32) (x9 : Vec Ideal S2816x1024 .bf16)
    (r : Fin 256) (k : Fin 1024) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix2 r k) = dIn (outRow x0 x1 x2 r) (row x3 r) (row x4 0) (hidRow x0 x1 x2 x6 x7 x8 x9 (k0_pay2 (F := Ideal)) r) k := by
  frame_open
  simp (disch := decide) only [↓ View.readCov_skip, ↓ View.readCov_cons_toLoadRect, ↓ View.readCov_fill]
  frame_out
  generalize k0_pay2 (F := Ideal) = z2
  exact in_at x0 x1 x2 x3 x4 x6 x7 x8 x9 z2 r k

/-- The sums of the final norm's gain gradient, at the first point. -/
theorem out13_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x5632 .bf16) (harg6 : arg6.IsWhole) (arg7 : Memref sig .tc .vmem S256x5632 .bf16) (harg7 : arg7.IsWhole) (arg8 : Memref sig .tc .vmem S5632x1024 .bf16) (harg8 : arg8.IsWhole) (arg9 : Memref sig .tc .vmem S8x5632 .f32) (harg9 : arg9.IsWhole) (arg10 : Memref sig .tc .vmem S2816x1024 .bf16) (harg10 : arg10.IsWhole) (arg11 : Memref sig .tc .vmem S256x1024 .bf16) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S8x1024 .f32) (harg14 : arg14.IsWhole) (arg15 : Memref sig .tc .vmem S8x1024 .f32) (harg15 : arg15.IsWhole) (arg16 : Memref sig .tc .vmem S2x8x2816 .f32) (harg16 : arg16.IsWhole) (arg17 : Memref sig .tc .vmem S8x5632 .f32) (harg17 : arg17.IsWhole) (hc0 : cond0_0 i)
    (x0 : Vec Ideal S256x1024 .f32) (x1 : Vec Ideal S256x1024 .f32) (x2 : Vec Ideal S1x1024 .f32) (x3 : Vec Ideal S256x1024 .f32) (x4 : Vec Ideal S1x1024 .f32) (x5 : Vec Ideal S256x5632 .bf16) (x6 : Vec Ideal S256x5632 .bf16) (x7 : Vec Ideal S5632x1024 .bf16) (x8 : Vec Ideal S8x5632 .f32) (x9 : Vec Ideal S2816x1024 .bf16)
    (q : Fin 8) (k : Fin 1024) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix2 q k) = if q.val = 0 then finalTerm x0 x1 x2 k else 0 := by
  frame_open
  simp (disch := decide) only [↓ View.readCov_skip, ↓ View.readCov_cons_toLoadRect, ↓ View.readCov_fill]
  frame_out
  have h3 := zero3
  generalize k0_pay3 (F := Ideal) = z3 at h3 ⊢
  refine (congrFun (canon_eq_put _) _).trans ((final_stores x0 x1 x2 _ z3 _ q k).trans ?_)
  split_ifs
  · rw [h3, zero_add]
  · exact (put_whole2 ..).trans (h3 ..)

/-- The sums of the FFN norm's gain gradient, at the first point. -/
theorem out14_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x5632 .bf16) (harg6 : arg6.IsWhole) (arg7 : Memref sig .tc .vmem S256x5632 .bf16) (harg7 : arg7.IsWhole) (arg8 : Memref sig .tc .vmem S5632x1024 .bf16) (harg8 : arg8.IsWhole) (arg9 : Memref sig .tc .vmem S8x5632 .f32) (harg9 : arg9.IsWhole) (arg10 : Memref sig .tc .vmem S2816x1024 .bf16) (harg10 : arg10.IsWhole) (arg11 : Memref sig .tc .vmem S256x1024 .bf16) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S8x1024 .f32) (harg14 : arg14.IsWhole) (arg15 : Memref sig .tc .vmem S8x1024 .f32) (harg15 : arg15.IsWhole) (arg16 : Memref sig .tc .vmem S2x8x2816 .f32) (harg16 : arg16.IsWhole) (arg17 : Memref sig .tc .vmem S8x5632 .f32) (harg17 : arg17.IsWhole) (hc0 : cond0_0 i)
    (x0 : Vec Ideal S256x1024 .f32) (x1 : Vec Ideal S256x1024 .f32) (x2 : Vec Ideal S1x1024 .f32) (x3 : Vec Ideal S256x1024 .f32) (x4 : Vec Ideal S1x1024 .f32) (x5 : Vec Ideal S256x5632 .bf16) (x6 : Vec Ideal S256x5632 .bf16) (x7 : Vec Ideal S5632x1024 .bf16) (x8 : Vec Ideal S8x5632 .f32) (x9 : Vec Ideal S2816x1024 .bf16)
    (q : Fin 8) (k : Fin 1024) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix2 q k) = if q.val = 0 then gainTerm x0 x1 x2 x3 x6 x7 x8 x9 (k0_pay2 (F := Ideal)) k else 0 := by
  frame_open
  simp (disch := decide) only [↓ View.readCov_skip, ↓ View.readCov_cons_toLoadRect, ↓ View.readCov_fill]
  frame_out
  generalize k0_pay2 (F := Ideal) = z2
  have h4 := zero4
  generalize k0_pay4 (F := Ideal) = z4 at h4 ⊢
  refine (congrFun (canon_eq_put _) _).trans ((gain_stores x0 x1 x2 x3 x6 x7 x8 x9 z2 _ z4 _ q k).trans ?_)
  split_ifs
  · rw [h4, zero_add]
  · exact (put_whole2 ..).trans (h4 ..)

/-- The sums of the taps' and the bias's gradients, at the first point. -/
theorem out15_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x5632 .bf16) (harg6 : arg6.IsWhole) (arg7 : Memref sig .tc .vmem S256x5632 .bf16) (harg7 : arg7.IsWhole) (arg8 : Memref sig .tc .vmem S5632x1024 .bf16) (harg8 : arg8.IsWhole) (arg9 : Memref sig .tc .vmem S8x5632 .f32) (harg9 : arg9.IsWhole) (arg10 : Memref sig .tc .vmem S2816x1024 .bf16) (harg10 : arg10.IsWhole) (arg11 : Memref sig .tc .vmem S256x1024 .bf16) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S8x1024 .f32) (harg14 : arg14.IsWhole) (arg15 : Memref sig .tc .vmem S8x1024 .f32) (harg15 : arg15.IsWhole) (arg16 : Memref sig .tc .vmem S2x8x2816 .f32) (harg16 : arg16.IsWhole) (arg17 : Memref sig .tc .vmem S8x5632 .f32) (harg17 : arg17.IsWhole) (hc0 : cond0_0 i)
    (x0 : Vec Ideal S256x1024 .f32) (x1 : Vec Ideal S256x1024 .f32) (x2 : Vec Ideal S1x1024 .f32) (x3 : Vec Ideal S256x1024 .f32) (x4 : Vec Ideal S1x1024 .f32) (x5 : Vec Ideal S256x5632 .bf16) (x6 : Vec Ideal S256x5632 .bf16) (x7 : Vec Ideal S5632x1024 .bf16) (x8 : Vec Ideal S8x5632 .f32) (x9 : Vec Ideal S2816x1024 .bf16)
    (h : Fin 2) (q : Fin 8) (j : Fin 2816) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix3 h q j) = tapTerm (convRow x0 x1 x2 x6 x9) (row (k0_pay2 (F := Ideal))) (row x5) q.val (col h j) := by
  frame_open
  simp (disch := decide) only [↓ View.readCov_skip, ↓ View.readCov_cons_toLoadRect, ↓ View.readCov_fill]
  frame_out
  generalize k0_pay2 (F := Ideal) = z2
  have h5 := zero5
  generalize k0_pay5 (F := Ideal) = z5 at h5 ⊢
  refine (congrFun (canon_eq_put _) _).trans ((tap_stores x0 x1 x2 x5 x6 x9 z2 _ z5 _ h q j).trans ?_)
  split_ifs with hq
  · rw [h5, zero_add]
  · refine (put_whole3 ..).trans ((h5 ..).trans ?_)
    rw [tapTerm, if_neg (by omega), if_neg (by omega), if_neg (by omega), if_neg (by omega)]

/-- The rows carried on, at the first point. -/
theorem carry_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x5632 .bf16) (harg6 : arg6.IsWhole) (arg7 : Memref sig .tc .vmem S256x5632 .bf16) (harg7 : arg7.IsWhole) (arg8 : Memref sig .tc .vmem S5632x1024 .bf16) (harg8 : arg8.IsWhole) (arg9 : Memref sig .tc .vmem S8x5632 .f32) (harg9 : arg9.IsWhole) (arg10 : Memref sig .tc .vmem S2816x1024 .bf16) (harg10 : arg10.IsWhole) (arg11 : Memref sig .tc .vmem S256x1024 .bf16) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S8x1024 .f32) (harg14 : arg14.IsWhole) (arg15 : Memref sig .tc .vmem S8x1024 .f32) (harg15 : arg15.IsWhole) (arg16 : Memref sig .tc .vmem S2x8x2816 .f32) (harg16 : arg16.IsWhole) (arg17 : Memref sig .tc .vmem S8x5632 .f32) (harg17 : arg17.IsWhole) (hc0 : cond0_0 i)
    (x0 : Vec Ideal S256x1024 .f32) (x1 : Vec Ideal S256x1024 .f32) (x2 : Vec Ideal S1x1024 .f32) (x3 : Vec Ideal S256x1024 .f32) (x4 : Vec Ideal S1x1024 .f32) (x5 : Vec Ideal S256x5632 .bf16) (x6 : Vec Ideal S256x5632 .bf16) (x7 : Vec Ideal S5632x1024 .bf16) (x8 : Vec Ideal S8x5632 .f32) (x9 : Vec Ideal S2816x1024 .bf16)
    (q : Fin 8) (j : Fin 5632) : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix2 q j) = convRow x0 x1 x2 x6 x9 ⟨q.val, by omega⟩ j := by
  frame_open
  frame_out
  exact (congrFun (canon_eq_put _) _).trans (carry_stores x0 x1 x2 x6 x9 _ _ q j)

/-- The gradient of the block's output rows, at a later point. -/
theorem out10_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x5632 .bf16) (harg6 : arg6.IsWhole) (arg7 : Memref sig .tc .vmem S256x5632 .bf16) (harg7 : arg7.IsWhole) (arg8 : Memref sig .tc .vmem S5632x1024 .bf16) (harg8 : arg8.IsWhole) (arg9 : Memref sig .tc .vmem S8x5632 .f32) (harg9 : arg9.IsWhole) (arg10 : Memref sig .tc .vmem S2816x1024 .bf16) (harg10 : arg10.IsWhole) (arg11 : Memref sig .tc .vmem S256x1024 .bf16) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S8x1024 .f32) (harg14 : arg14.IsWhole) (arg15 : Memref sig .tc .vmem S8x1024 .f32) (harg15 : arg15.IsWhole) (arg16 : Memref sig .tc .vmem S2x8x2816 .f32) (harg16 : arg16.IsWhole) (arg17 : Memref sig .tc .vmem S8x5632 .f32) (harg17 : arg17.IsWhole) (hc0 : ¬cond0_0 i)
    (x0 : Vec Ideal S256x1024 .f32) (x1 : Vec Ideal S256x1024 .f32) (x2 : Vec Ideal S1x1024 .f32) (x3 : Vec Ideal S256x1024 .f32) (x4 : Vec Ideal S1x1024 .f32) (x5 : Vec Ideal S256x5632 .bf16) (x6 : Vec Ideal S256x5632 .bf16) (x7 : Vec Ideal S5632x1024 .bf16) (x8 : Vec Ideal S8x5632 .f32) (x9 : Vec Ideal S2816x1024 .bf16) (xo13 : Vec Ideal S8x1024 .f32) (xo14 : Vec Ideal S8x1024 .f32) (xo15 : Vec Ideal S2x8x2816 .f32) (xs0 : Vec Ideal S8x5632 .f32)
    (r : Fin 256) (k : Fin 1024) : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo13 xo14 xo15 xs0 (ix2 r k) = outRow x0 x1 x2 r k := by
  frame_open
  frame_out
  exact pay14_at ..

/-- The gradient of the rows entering the convolution, at a later point. -/
theorem out11_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x5632 .bf16) (harg6 : arg6.IsWhole) (arg7 : Memref sig .tc .vmem S256x5632 .bf16) (harg7 : arg7.IsWhole) (arg8 : Memref sig .tc .vmem S5632x1024 .bf16) (harg8 : arg8.IsWhole) (arg9 : Memref sig .tc .vmem S8x5632 .f32) (harg9 : arg9.IsWhole) (arg10 : Memref sig .tc .vmem S2816x1024 .bf16) (harg10 : arg10.IsWhole) (arg11 : Memref sig .tc .vmem S256x1024 .bf16) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S8x1024 .f32) (harg14 : arg14.IsWhole) (arg15 : Memref sig .tc .vmem S8x1024 .f32) (harg15 : arg15.IsWhole) (arg16 : Memref sig .tc .vmem S2x8x2816 .f32) (harg16 : arg16.IsWhole) (arg17 : Memref sig .tc .vmem S8x5632 .f32) (harg17 : arg17.IsWhole) (hc0 : ¬cond0_0 i)
    (x0 : Vec Ideal S256x1024 .f32) (x1 : Vec Ideal S256x1024 .f32) (x2 : Vec Ideal S1x1024 .f32) (x3 : Vec Ideal S256x1024 .f32) (x4 : Vec Ideal S1x1024 .f32) (x5 : Vec Ideal S256x5632 .bf16) (x6 : Vec Ideal S256x5632 .bf16) (x7 : Vec Ideal S5632x1024 .bf16) (x8 : Vec Ideal S8x5632 .f32) (x9 : Vec Ideal S2816x1024 .bf16) (xo13 : Vec Ideal S8x1024 .f32) (xo14 : Vec Ideal S8x1024 .f32) (xo15 : Vec Ideal S2x8x2816 .f32) (xs0 : Vec Ideal S8x5632 .f32)
    (r : Fin 256) (j : Fin 5632) : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo13 xo14 xo15 xs0 (ix2 r j) = preRow x8 xs0 (convRow x0 x1 x2 x6 x9) r j := by
  frame_open
  frame_out
  exact (congrFun (canon_eq_put _) _).trans (pre_stores x0 x1 x2 x6 x8 x9 xs0 _ r j)

/-- The gradient of the block's input rows, at a later point. -/
theorem out12_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x5632 .bf16) (harg6 : arg6.IsWhole) (arg7 : Memref sig .tc .vmem S256x5632 .bf16) (harg7 : arg7.IsWhole) (arg8 : Memref sig .tc .vmem S5632x1024 .bf16) (harg8 : arg8.IsWhole) (arg9 : Memref sig .tc .vmem S8x5632 .f32) (harg9 : arg9.IsWhole) (arg10 : Memref sig .tc .vmem S2816x1024 .bf16) (harg10 : arg10.IsWhole) (arg11 : Memref sig .tc .vmem S256x1024 .bf16) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S8x1024 .f32) (harg14 : arg14.IsWhole) (arg15 : Memref sig .tc .vmem S8x1024 .f32) (harg15 : arg15.IsWhole) (arg16 : Memref sig .tc .vmem S2x8x2816 .f32) (harg16 : arg16.IsWhole) (arg17 : Memref sig .tc .vmem S8x5632 .f32) (harg17 : arg17.IsWhole) (hc0 : ¬cond0_0 i)
    (x0 : Vec Ideal S256x1024 .f32) (x1 : Vec Ideal S256x1024 .f32) (x2 : Vec Ideal S1x1024 .f32) (x3 : Vec Ideal S256x1024 .f32) (x4 : Vec Ideal S1x1024 .f32) (x5 : Vec Ideal S256x5632 .bf16) (x6 : Vec Ideal S256x5632 .bf16) (x7 : Vec Ideal S5632x1024 .bf16) (x8 : Vec Ideal S8x5632 .f32) (x9 : Vec Ideal S2816x1024 .bf16) (xo13 : Vec Ideal S8x1024 .f32) (xo14 : Vec Ideal S8x1024 .f32) (xo15 : Vec Ideal S2x8x2816 .f32) (xs0 : Vec Ideal S8x5632 .f32)
    (r : Fin 256) (k : Fin 1024) : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo13 xo14 xo15 xs0 (ix2 r k) = dIn (outRow x0 x1 x2 r) (row x3 r) (row x4 0) (hidRow x0 x1 x2 x6 x7 x8 x9 xs0 r) k := by
  frame_open
  frame_out
  exact in_at x0 x1 x2 x3 x4 x6 x7 x8 x9 xs0 r k

/-- The sums of the final norm's gain gradient, at a later point. -/
theorem out13_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x5632 .bf16) (harg6 : arg6.IsWhole) (arg7 : Memref sig .tc .vmem S256x5632 .bf16) (harg7 : arg7.IsWhole) (arg8 : Memref sig .tc .vmem S5632x1024 .bf16) (harg8 : arg8.IsWhole) (arg9 : Memref sig .tc .vmem S8x5632 .f32) (harg9 : arg9.IsWhole) (arg10 : Memref sig .tc .vmem S2816x1024 .bf16) (harg10 : arg10.IsWhole) (arg11 : Memref sig .tc .vmem S256x1024 .bf16) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S8x1024 .f32) (harg14 : arg14.IsWhole) (arg15 : Memref sig .tc .vmem S8x1024 .f32) (harg15 : arg15.IsWhole) (arg16 : Memref sig .tc .vmem S2x8x2816 .f32) (harg16 : arg16.IsWhole) (arg17 : Memref sig .tc .vmem S8x5632 .f32) (harg17 : arg17.IsWhole) (hc0 : ¬cond0_0 i)
    (x0 : Vec Ideal S256x1024 .f32) (x1 : Vec Ideal S256x1024 .f32) (x2 : Vec Ideal S1x1024 .f32) (x3 : Vec Ideal S256x1024 .f32) (x4 : Vec Ideal S1x1024 .f32) (x5 : Vec Ideal S256x5632 .bf16) (x6 : Vec Ideal S256x5632 .bf16) (x7 : Vec Ideal S5632x1024 .bf16) (x8 : Vec Ideal S8x5632 .f32) (x9 : Vec Ideal S2816x1024 .bf16) (xo13 : Vec Ideal S8x1024 .f32) (xo14 : Vec Ideal S8x1024 .f32) (xo15 : Vec Ideal S2x8x2816 .f32) (xs0 : Vec Ideal S8x5632 .f32)
    (q : Fin 8) (k : Fin 1024) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo13 xo14 xo15 xs0 (ix2 q k) = xo13 (ix2 q k) + (if q.val = 0 then finalTerm x0 x1 x2 k else 0) := by
  frame_open
  frame_out
  refine (congrFun (read_writes_eq_put ..) _).trans ((final_stores x0 x1 x2 _ xo13 _ q k).trans ?_)
  split_ifs with hq
  · rw [show q = 0 from Fin.ext hq]
  · rw [add_zero]; exact congrFun (harg14.read_unread xo13) _

/-- The sums of the FFN norm's gain gradient, at a later point. -/
theorem out14_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x5632 .bf16) (harg6 : arg6.IsWhole) (arg7 : Memref sig .tc .vmem S256x5632 .bf16) (harg7 : arg7.IsWhole) (arg8 : Memref sig .tc .vmem S5632x1024 .bf16) (harg8 : arg8.IsWhole) (arg9 : Memref sig .tc .vmem S8x5632 .f32) (harg9 : arg9.IsWhole) (arg10 : Memref sig .tc .vmem S2816x1024 .bf16) (harg10 : arg10.IsWhole) (arg11 : Memref sig .tc .vmem S256x1024 .bf16) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S8x1024 .f32) (harg14 : arg14.IsWhole) (arg15 : Memref sig .tc .vmem S8x1024 .f32) (harg15 : arg15.IsWhole) (arg16 : Memref sig .tc .vmem S2x8x2816 .f32) (harg16 : arg16.IsWhole) (arg17 : Memref sig .tc .vmem S8x5632 .f32) (harg17 : arg17.IsWhole) (hc0 : ¬cond0_0 i)
    (x0 : Vec Ideal S256x1024 .f32) (x1 : Vec Ideal S256x1024 .f32) (x2 : Vec Ideal S1x1024 .f32) (x3 : Vec Ideal S256x1024 .f32) (x4 : Vec Ideal S1x1024 .f32) (x5 : Vec Ideal S256x5632 .bf16) (x6 : Vec Ideal S256x5632 .bf16) (x7 : Vec Ideal S5632x1024 .bf16) (x8 : Vec Ideal S8x5632 .f32) (x9 : Vec Ideal S2816x1024 .bf16) (xo13 : Vec Ideal S8x1024 .f32) (xo14 : Vec Ideal S8x1024 .f32) (xo15 : Vec Ideal S2x8x2816 .f32) (xs0 : Vec Ideal S8x5632 .f32)
    (q : Fin 8) (k : Fin 1024) : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo13 xo14 xo15 xs0 (ix2 q k) = xo14 (ix2 q k) + (if q.val = 0 then gainTerm x0 x1 x2 x3 x6 x7 x8 x9 xs0 k else 0) := by
  frame_open
  frame_out
  refine (congrFun (read_writes_eq_put ..) _).trans ((gain_stores x0 x1 x2 x3 x6 x7 x8 x9 xs0 _ xo14 _ q k).trans ?_)
  split_ifs with hq
  · rw [show q = 0 from Fin.ext hq]
  · rw [add_zero]; exact congrFun (harg15.read_unread xo14) _

/-- The sums of the taps' and the bias's gradients, at a later point. -/
theorem out15_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x5632 .bf16) (harg6 : arg6.IsWhole) (arg7 : Memref sig .tc .vmem S256x5632 .bf16) (harg7 : arg7.IsWhole) (arg8 : Memref sig .tc .vmem S5632x1024 .bf16) (harg8 : arg8.IsWhole) (arg9 : Memref sig .tc .vmem S8x5632 .f32) (harg9 : arg9.IsWhole) (arg10 : Memref sig .tc .vmem S2816x1024 .bf16) (harg10 : arg10.IsWhole) (arg11 : Memref sig .tc .vmem S256x1024 .bf16) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S8x1024 .f32) (harg14 : arg14.IsWhole) (arg15 : Memref sig .tc .vmem S8x1024 .f32) (harg15 : arg15.IsWhole) (arg16 : Memref sig .tc .vmem S2x8x2816 .f32) (harg16 : arg16.IsWhole) (arg17 : Memref sig .tc .vmem S8x5632 .f32) (harg17 : arg17.IsWhole) (hc0 : ¬cond0_0 i)
    (x0 : Vec Ideal S256x1024 .f32) (x1 : Vec Ideal S256x1024 .f32) (x2 : Vec Ideal S1x1024 .f32) (x3 : Vec Ideal S256x1024 .f32) (x4 : Vec Ideal S1x1024 .f32) (x5 : Vec Ideal S256x5632 .bf16) (x6 : Vec Ideal S256x5632 .bf16) (x7 : Vec Ideal S5632x1024 .bf16) (x8 : Vec Ideal S8x5632 .f32) (x9 : Vec Ideal S2816x1024 .bf16) (xo13 : Vec Ideal S8x1024 .f32) (xo14 : Vec Ideal S8x1024 .f32) (xo15 : Vec Ideal S2x8x2816 .f32) (xs0 : Vec Ideal S8x5632 .f32)
    (h : Fin 2) (q : Fin 8) (j : Fin 2816) : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo13 xo14 xo15 xs0 (ix3 h q j) = xo15 (ix3 h q j) + tapTerm (convRow x0 x1 x2 x6 x9) (row xs0) (row x5) q.val (col h j) := by
  frame_open
  frame_out
  refine (congrFun (read_writes_eq_put ..) _).trans ((tap_stores x0 x1 x2 x5 x6 x9 xs0 _ xo15 _ h q j).trans ?_)
  split_ifs with hq
  · rfl
  · rw [tapTerm, if_neg (by omega), if_neg (by omega), if_neg (by omega), if_neg (by omega), add_zero]
    exact congrFun (harg16.read_unread xo15) _

/-- The rows carried on, at a later point. -/
theorem carry_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x5632 .bf16) (harg6 : arg6.IsWhole) (arg7 : Memref sig .tc .vmem S256x5632 .bf16) (harg7 : arg7.IsWhole) (arg8 : Memref sig .tc .vmem S5632x1024 .bf16) (harg8 : arg8.IsWhole) (arg9 : Memref sig .tc .vmem S8x5632 .f32) (harg9 : arg9.IsWhole) (arg10 : Memref sig .tc .vmem S2816x1024 .bf16) (harg10 : arg10.IsWhole) (arg11 : Memref sig .tc .vmem S256x1024 .bf16) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S8x1024 .f32) (harg14 : arg14.IsWhole) (arg15 : Memref sig .tc .vmem S8x1024 .f32) (harg15 : arg15.IsWhole) (arg16 : Memref sig .tc .vmem S2x8x2816 .f32) (harg16 : arg16.IsWhole) (arg17 : Memref sig .tc .vmem S8x5632 .f32) (harg17 : arg17.IsWhole) (hc0 : ¬cond0_0 i)
    (x0 : Vec Ideal S256x1024 .f32) (x1 : Vec Ideal S256x1024 .f32) (x2 : Vec Ideal S1x1024 .f32) (x3 : Vec Ideal S256x1024 .f32) (x4 : Vec Ideal S1x1024 .f32) (x5 : Vec Ideal S256x5632 .bf16) (x6 : Vec Ideal S256x5632 .bf16) (x7 : Vec Ideal S5632x1024 .bf16) (x8 : Vec Ideal S8x5632 .f32) (x9 : Vec Ideal S2816x1024 .bf16) (xo13 : Vec Ideal S8x1024 .f32) (xo14 : Vec Ideal S8x1024 .f32) (xo15 : Vec Ideal S2x8x2816 .f32) (xs0 : Vec Ideal S8x5632 .f32)
    (q : Fin 8) (j : Fin 5632) : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo13 xo14 xo15 xs0 (ix2 q j) = convRow x0 x1 x2 x6 x9 ⟨q.val, by omega⟩ j := by
  frame_open
  frame_out
  exact (congrFun (canon_eq_put _) _).trans (carry_stores x0 x1 x2 x6 x9 _ _ q j)

end Cert.Block

end
-- ==== Proof.Sweep.lean ====
/-
  What each grid point of the backward kernel leaves, over the arrays that the kernel finds: the carried rows, the three blocks it writes
  back, and the three running sums.
-/
module

public import proofs.«01_k».proof.Proof.Blocks
public import proofs.«01_k».proof.Proof.Point

@[expose] public section

set_option maxRecDepth 16384

noncomputable section

namespace Cert.Sweep

open Idealize.ShloMosaic Idealize.ShloMosaic.TcCoe Idealize.ShloMosaic.Pipeline Cert.Reals Cert.Rows Cert.KernelIdeal Cert.KernelIdeal.Gen Cert.Block Cert.Model
  Cert.Blocks

variable (m : (ℓ : Loc nD τ sig) → Buf (Elt Ideal) ℓ) (c : Dev nD) (t : Fin cfg0.N)

theorem points (t : Fin cfg0.N) : t.val < 8 := lt_of_lt_of_eq t.isLt (by decide +kernel)

theorem out_row (r : Fin 256) : outRow (iblk m c 0 t) (iblk m c 1 t) (iblk m c 2 t) r = out (found m c) (at_ t.val r) := by
  rw [outRow, out, row0, row1, row2]

theorem conv_row (r : Fin 256) :
    convRow (iblk m c 0 t) (iblk m c 1 t) (iblk m c 2 t) (iblk m c 6 t) (iblk m c 9 t) r = conv (found m c) (at_ t.val r) := by
  funext k
  rw [convRow, conv, out_row, row6, row9]

/-- Carried rows that are the gradients of the rows after the block. -/
def Follows (d : Fin 2048 → Fin 5632 → EReal) (n : ℕ) (x : Vec Ideal S8x5632 .f32) : Prop :=
  ∀ (q : Fin 8) (k : Fin 5632), q.val < 2 → x (ix2 q k) = ahead d (q.val + 1) (at_ n 255) k

variable {m c t} {x : Vec Ideal S8x5632 .f32}

theorem next1_eq {d : Fin 2048 → Fin 5632 → EReal} (hx : Follows d t.val x) (r : Fin 256) (k : Fin 5632) :
    next1 (fun r => d (at_ t.val r)) (row x) r k = ahead d 1 (at_ t.val r) k := by
  have ht := points t
  rw [next1]
  split_ifs with h
  · rw [ahead, dif_pos (by simp only [at_]; omega)]
    exact congrFun (congrArg d (Fin.ext (by simp only [at_]; omega))) k
  · rw [row, hx 0 k (by decide)]
    have : r = 255 := Fin.ext (by have := r.isLt; show r.val = 255; omega)
    rw [this]; rfl

theorem next2_eq {d : Fin 2048 → Fin 5632 → EReal} (hx : Follows d t.val x) (r : Fin 256) (k : Fin 5632) :
    next2 (fun r => d (at_ t.val r)) (row x) r k = ahead d 2 (at_ t.val r) k := by
  have ht := points t
  rw [next2]
  split_ifs with h h'
  · rw [ahead, dif_pos (by simp only [at_]; omega)]
    exact congrFun (congrArg d (Fin.ext (by simp only [at_]; omega))) k
  · rw [row, hx 0 k (by decide)]
    have : r = 254 := Fin.ext h'
    rw [this]
    simp only [ahead, at_, Fin.coe_ofNat_eq_mod]
    rfl
  · rw [row, hx 1 k (by decide)]
    have : r = 255 := Fin.ext (by have := r.isLt; show r.val = 255; omega)
    rw [this]; rfl

theorem conv_rows :
    convRow (iblk m c 0 t) (iblk m c 1 t) (iblk m c 2 t) (iblk m c 6 t) (iblk m c 9 t) = fun r => conv (found m c) (at_ t.val r) :=
  funext (conv_row m c t)

theorem pre_row (hx : Follows (conv (found m c)) t.val x) (r : Fin 256) :
    preRow (iblk m c 8 t) x (convRow (iblk m c 0 t) (iblk m c 1 t) (iblk m c 2 t) (iblk m c 6 t) (iblk m c 9 t)) r = pre (found m c) (at_ t.val r) := by
  have e1 := fun k => next1_eq hx r k
  have e2 := fun k => next2_eq hx r k
  rw [preRow, pre, conv_rows, row8]
  rw [show next1 (fun r => conv (found m c) (at_ t.val r)) (row x) r = _ from funext e1,
    show next2 (fun r => conv (found m c) (at_ t.val r)) (row x) r = _ from funext e2]

theorem hid_row (hx : Follows (conv (found m c)) t.val x) (r : Fin 256) :
    hidRow (iblk m c 0 t) (iblk m c 1 t) (iblk m c 2 t) (iblk m c 6 t) (iblk m c 7 t) (iblk m c 8 t) (iblk m c 9 t) x r = hid (found m c) (at_ t.val r) := by
  rw [hidRow, hid, pre_row hx, row7]

theorem in_row (hx : Follows (conv (found m c)) t.val x) (r : Fin 256) :
    dIn (outRow (iblk m c 0 t) (iblk m c 1 t) (iblk m c 2 t) r) (row (iblk m c 3 t : Vec Ideal S256x1024 .f32) r) (row (iblk m c 4 t : Vec Ideal S1x1024 .f32) 0)
      (hidRow (iblk m c 0 t) (iblk m c 1 t) (iblk m c 2 t) (iblk m c 6 t) (iblk m c 7 t) (iblk m c 8 t) (iblk m c 9 t) x r) = inp (found m c) (at_ t.val r) := by
  rw [inp, out_row, row3, row4, hid_row hx]

theorem final_term (k : Fin 1024) :
    finalTerm (iblk m c 0 t) (iblk m c 1 t) (iblk m c 2 t) k = ∑ r, finalRow (found m c) (at_ t.val r) k := by
  refine Finset.sum_congr rfl fun r _ => ?_
  rw [finalRow, row0, row1, row2]

theorem gain_term (hx : Follows (conv (found m c)) t.val x) (k : Fin 1024) :
    gainTerm (iblk m c 0 t) (iblk m c 1 t) (iblk m c 2 t) (iblk m c 3 t) (iblk m c 6 t) (iblk m c 7 t) (iblk m c 8 t) (iblk m c 9 t) x k
      = ∑ r, gainRow (found m c) (at_ t.val r) k := by
  refine Finset.sum_congr rfl fun r _ => ?_
  rw [gainRow, row3, hid_row hx]

theorem tap_term (hx : Follows (conv (found m c)) t.val x) (q : ℕ) (k : Fin 5632) :
    tapTerm (convRow (iblk m c 0 t) (iblk m c 1 t) (iblk m c 2 t) (iblk m c 6 t) (iblk m c 9 t)) (row x) (row (iblk m c 5 t : Vec Ideal S256x5632 .bf16)) q k
      = ∑ r, tapRow (found m c) q (at_ t.val r) k := by
  have e1 := fun r k => next1_eq hx r k
  have e2 := fun r k => next2_eq hx r k
  have e5 : (row (iblk m c 5 t : Vec Ideal S256x5632 .bf16)) = fun r => (found m c).u (at_ t.val r) := funext (row5 m c t)
  rw [conv_rows, e5]
  unfold tapTerm tapRow
  by_cases h0 : q = 0
  · simp only [h0, if_true, e2]
  by_cases h1 : q = 1
  · simp only [h1, one_ne_zero, if_false, if_true, e1]
  by_cases h2 : q = 2
  · simp only [h2, OfNat.ofNat_ne_zero, OfNat.ofNat_ne_one, if_false, if_true]
  by_cases h3 : q = 3
  · simp only [h3, OfNat.ofNat_ne_zero, OfNat.ofNat_ne_one, Nat.reduceEqDiff, if_false, if_true]
  · simp only [h0, h1, h2, h3, if_false, Finset.sum_const_zero]

variable (m c t)

/-- The carried rows after a point are the gradients of the block's first rows. -/
theorem carry_at (q : Fin 8) (k : Fin 5632) :
    (outsAt0 m c t.val t.isLt).2.2.2.2.2.2 (ix2 q k) = conv (found m c) (at_ t.val ⟨q.val, by omega⟩) k := by
  by_cases h0 : t.val % 8 = 0
  · refine (congrFun (congrArg (fun p => p.2.2.2.2.2.2) (outsAt0_A m c t h0)) (ix2 q k)).trans ?_
    dsimp only
    rw [carry_A]
    exact congrFun (conv_row ..) _
  · refine (congrFun (congrArg (fun p => p.2.2.2.2.2.2) (outsAt0_B m c t h0)) (ix2 q k)).trans ?_
    dsimp only
    rw [carry_B]
    exact congrFun (conv_row ..) _

/-- The first point's carried rows: zero, there being no row after the last. -/
theorem follows_A (h0 : t.val % 8 = 0) : Follows (conv (found m c)) t.val (k0_pay2 (F := Ideal)) := by
  intro q k hq
  have ht := points t
  rw [zero2, ahead, dif_neg]
  simp only [at_, Fin.coe_ofNat_eq_mod]; omega

/-- A later point's: the first rows of the block before. -/
theorem follows_B (h0 : ¬ t.val % 8 = 0) :
    Follows (conv (found m c)) t.val (outsAt0 m c (t.val - 1) (Nat.lt_of_le_of_lt (Nat.sub_le _ _) t.isLt)).2.2.2.2.2.2 := by
  intro q k hq
  have ht := points t
  refine (carry_at m c ⟨t.val - 1, Nat.lt_of_le_of_lt (Nat.sub_le _ _) t.isLt⟩ q k).trans ?_
  rw [ahead, dif_pos (by simp only [at_, Fin.coe_ofNat_eq_mod]; omega)]
  exact congrFun (congrArg _ (Fin.ext (by simp only [at_, Fin.coe_ofNat_eq_mod]; omega))) k

/-- The block of the gradient of the output rows. -/
theorem out_at (r : Fin 256) (k : Fin 1024) : (outsAt0 m c t.val t.isLt).1 (ix2 r k) = out (found m c) (at_ t.val r) k := by
  by_cases h0 : t.val % 8 = 0
  · refine (congrFun (congrArg (fun p => p.1) (outsAt0_A m c t h0)) (ix2 r k)).trans ?_
    dsimp only
    rw [out10_A]
    exact congrFun (out_row ..) _
  · refine (congrFun (congrArg (fun p => p.1) (outsAt0_B m c t h0)) (ix2 r k)).trans ?_
    dsimp only
    rw [out10_B]
    exact congrFun (out_row ..) _

/-- The block of the gradient of the rows entering the convolution. -/
theorem pre_at (r : Fin 256) (k : Fin 5632) : (outsAt0 m c t.val t.isLt).2.1 (ix2 r k) = pre (found m c) (at_ t.val r) k := by
  by_cases h0 : t.val % 8 = 0
  · refine (congrFun (congrArg (fun p => p.2.1) (outsAt0_A m c t h0)) (ix2 r k)).trans ?_
    dsimp only
    rw [out11_A]
    exact congrFun (pre_row (follows_A m c t h0) r) k
  · refine (congrFun (congrArg (fun p => p.2.1) (outsAt0_B m c t h0)) (ix2 r k)).trans ?_
    dsimp only
    rw [out11_B]
    exact congrFun (pre_row (follows_B m c t h0) r) k

/-- The block of the gradient of the input rows. -/
theorem inp_at (r : Fin 256) (k : Fin 1024) : (outsAt0 m c t.val t.isLt).2.2.1 (ix2 r k) = inp (found m c) (at_ t.val r) k := by
  by_cases h0 : t.val % 8 = 0
  · refine (congrFun (congrArg (fun p => p.2.2.1) (outsAt0_A m c t h0)) (ix2 r k)).trans ?_
    dsimp only
    rw [out12_A]
    exact congrFun (in_row (follows_A m c t h0) r) k
  · refine (congrFun (congrArg (fun p => p.2.2.1) (outsAt0_B m c t h0)) (ix2 r k)).trans ?_
    dsimp only
    rw [out12_B]
    exact congrFun (in_row (follows_B m c t h0) r) k

/-- A quantity that starts at its first point's term and adds each later point's. -/
theorem running (g : (n : ℕ) → n < cfg0.N → EReal) (f : ℕ → EReal) (hA : ∀ t : Fin cfg0.N, t.val % 8 = 0 → g t.val t.isLt = f t.val)
    (hB : ∀ t : Fin cfg0.N, ¬ t.val % 8 = 0 → g t.val t.isLt = g (t.val - 1) (Nat.lt_of_le_of_lt (Nat.sub_le _ _) t.isLt) + f t.val) :
    ∀ (n : ℕ) (h : n < cfg0.N), g n h = ∑ s ∈ Finset.range (n + 1), f s
  | 0, h => by rw [hA ⟨0, h⟩ rfl]; simp
  | n + 1, h => by
    have := points ⟨n + 1, h⟩
    rw [hB ⟨n + 1, h⟩ (by show ¬ (n + 1) % 8 = 0; simp only at this; omega), Finset.sum_range_succ]
    exact congrArg (· + f (n + 1)) (running g f hA hB n (Nat.lt_of_succ_lt h))

/-- The final norm's gain gradient after a point. -/
theorem final_at (q : Fin 8) (k : Fin 1024) : ∀ (n : ℕ) (h : n < cfg0.N), (outsAt0 m c n h).2.2.2.1 (ix2 q k)
    = ∑ s ∈ Finset.range (n + 1), if q.val = 0 then ∑ r, finalRow (found m c) (at_ s r) k else 0 := by
  refine running (fun n h => (outsAt0 m c n h).2.2.2.1 (ix2 q k)) _ (fun t h0 => ?_) (fun t h0 => ?_)
  · refine (congrFun (congrArg (fun p => p.2.2.2.1) (outsAt0_A m c t h0)) (ix2 q k)).trans ?_
    dsimp only
    rw [out13_A, final_term]
  · refine (congrFun (congrArg (fun p => p.2.2.2.1) (outsAt0_B m c t h0)) (ix2 q k)).trans ?_
    dsimp only
    rw [out13_B, final_term]

/-- The FFN norm's gain gradient after a point. -/
theorem gain_at (q : Fin 8) (k : Fin 1024) : ∀ (n : ℕ) (h : n < cfg0.N), (outsAt0 m c n h).2.2.2.2.1 (ix2 q k)
    = ∑ s ∈ Finset.range (n + 1), if q.val = 0 then ∑ r, gainRow (found m c) (at_ s r) k else 0 := by
  refine running (fun n h => (outsAt0 m c n h).2.2.2.2.1 (ix2 q k)) _ (fun t h0 => ?_) (fun t h0 => ?_)
  · refine (congrFun (congrArg (fun p => p.2.2.2.2.1) (outsAt0_A m c t h0)) (ix2 q k)).trans ?_
    dsimp only
    rw [out14_A, gain_term (follows_A m c t h0)]
  · refine (congrFun (congrArg (fun p => p.2.2.2.2.1) (outsAt0_B m c t h0)) (ix2 q k)).trans ?_
    dsimp only
    rw [out14_B, gain_term (follows_B m c t h0)]

/-- The taps' and the bias's gradients after a point. -/
theorem tap_at (h : Fin 2) (q : Fin 8) (j : Fin 2816) : ∀ (n : ℕ) (hn : n < cfg0.N), (outsAt0 m c n hn).2.2.2.2.2.1 (ix3 h q j)
    = ∑ s ∈ Finset.range (n + 1), ∑ r, tapRow (found m c) q.val (at_ s r) (col h j) := by
  refine running (fun n hn => (outsAt0 m c n hn).2.2.2.2.2.1 (ix3 h q j)) _ (fun t h0 => ?_) (fun t h0 => ?_)
  · refine (congrFun (congrArg (fun p => p.2.2.2.2.2.1) (outsAt0_A m c t h0)) (ix3 h q j)).trans ?_
    dsimp only
    rw [out15_A, tap_term (follows_A m c t h0)]
  · refine (congrFun (congrArg (fun p => p.2.2.2.2.2.1) (outsAt0_B m c t h0)) (ix3 h q j)).trans ?_
    dsimp only
    rw [out15_B, tap_term (follows_B m c t h0)]

end Cert.Sweep

end
-- ==== Proof.Arrays.lean ====
/-
  The six arrays that the backward kernel leaves, entry by entry.
-/
module

public import proofs.«01_k».proof.Proof.Sweep
public import proofs.«01_k».proof.Proof.Gen.KernelIdeal.Value

@[expose] public section

set_option maxRecDepth 16384

noncomputable section

namespace Cert.Arrays

open Idealize.ShloMosaic Idealize.ShloMosaic.TcCoe Idealize.ShloMosaic.Pipeline Cert.KernelIdeal Cert.KernelIdeal.Gen Cert.Block Cert.Model
  Cert.Blocks Cert.Sweep

variable (m : (ℓ : Loc nD τ sig) → Buf (Elt Ideal) ℓ) (c : Dev nD)

theorem places : ∀ t : Fin cfg0.N, win0_10.index t = ![7 - t.val, 0] ∧ win0_11.index t = ![7 - t.val, 0] ∧ win0_12.index t = ![7 - t.val, 0] := by
  decide +kernel

theorem array10 (s : Fin 2048) (k : Fin 1024) : (dats m 0 c).arrAt 10 cfg0.N (ix2 s k) = out (found m c) s k := by
  have e : (dats m 0 c).arrAt 10 cfg0.N = fun i : S2048x1024.Idx => out (found m c) (i 0) (i 1) := by
    refine (dats m 0 c).arrAt_eq_of_covers 10 _ (by decide +kernel) fun t hf y => ?_
    blk_simp
    rw [after0_10]
    obtain ⟨r, k, rfl⟩ : ∃ (r : Fin 256) (k : Fin 1024), y = ix2 r k := ⟨y 0, y 1, eq_ix2 y⟩
    refine (out_at m c t r k).trans ?_
    have := (places t).1
    refine congrArg₂ (out (found m c)) (Fin.ext ?_) (Fin.ext ?_)
    · blk_simp [this, at_]
      first | done | (show 256 * (7 - t.val) + r.val = (7 - t.val) * 256 + r.val; omega)
    · blk_simp [this]
      first | done | (show _ = 0 * 1024 + k.val; omega)
  rw [e]; rfl

theorem array11 (s : Fin 2048) (k : Fin 5632) : (dats m 0 c).arrAt 11 cfg0.N (ix2 s k) = pre (found m c) s k := by
  have e : (dats m 0 c).arrAt 11 cfg0.N = fun i : S2048x5632.Idx => pre (found m c) (i 0) (i 1) := by
    refine (dats m 0 c).arrAt_eq_of_covers 11 _ (by decide +kernel) fun t hf y => ?_
    blk_simp
    rw [after0_11]
    obtain ⟨r, k, rfl⟩ : ∃ (r : Fin 256) (k : Fin 5632), y = ix2 r k := ⟨y 0, y 1, eq_ix2 y⟩
    refine (pre_at m c t r k).trans ?_
    have := (places t).2.1
    refine congrArg₂ (pre (found m c)) (Fin.ext ?_) (Fin.ext ?_)
    · blk_simp [this, at_]
      first | done | (show 256 * (7 - t.val) + r.val = (7 - t.val) * 256 + r.val; omega)
    · blk_simp [this]
      first | done | (show _ = 0 * 5632 + k.val; omega)
  rw [e]; rfl

theorem array12 (s : Fin 2048) (k : Fin 1024) : (dats m 0 c).arrAt 12 cfg0.N (ix2 s k) = inp (found m c) s k := by
  have e : (dats m 0 c).arrAt 12 cfg0.N = fun i : S2048x1024.Idx => inp (found m c) (i 0) (i 1) := by
    refine (dats m 0 c).arrAt_eq_of_covers 12 _ (by decide +kernel) fun t hf y => ?_
    blk_simp
    rw [after0_12]
    obtain ⟨r, k, rfl⟩ : ∃ (r : Fin 256) (k : Fin 1024), y = ix2 r k := ⟨y 0, y 1, eq_ix2 y⟩
    refine (inp_at m c t r k).trans ?_
    have := (places t).2.2
    refine congrArg₂ (inp (found m c)) (Fin.ext ?_) (Fin.ext ?_)
    · blk_simp [this, at_]
      first | done | (show 256 * (7 - t.val) + r.val = (7 - t.val) * 256 + r.val; omega)
    · blk_simp [this]
      first | done | (show _ = 0 * 1024 + k.val; omega)
  rw [e]; rfl

theorem array13 (q : Fin 8) (k : Fin 1024) :
    (dats m 0 c).arrAt 13 cfg0.N (ix2 q k) = if q.val = 0 then ∑ s, finalRow (found m c) s k else 0 := by
  have e : (dats m 0 c).arrAt 13 cfg0.N = fun i : S8x1024.Idx => if (i 0).val = 0 then ∑ s, finalRow (found m c) s (i 1) else 0 := by
    refine (dats m 0 c).arrAt_eq_of_after_last 13 t0_7 (by decide +kernel) _ fun j => ?_
    blk_simp
    rw [after0_13]
    obtain ⟨q, k, rfl⟩ : ∃ (q : Fin 8) (k : Fin 1024), j = ix2 q k := ⟨j 0, j 1, eq_ix2 j⟩
    refine (final_at m c q k _ _).trans ?_
    refine (?_ : _ = if q.val = 0 then ∑ s, finalRow (found m c) s k else 0)
    rw [← sum_blocks]
    split_ifs
    · rfl
    · exact Finset.sum_const_zero
  rw [e]; rfl

theorem array14 (q : Fin 8) (k : Fin 1024) :
    (dats m 0 c).arrAt 14 cfg0.N (ix2 q k) = if q.val = 0 then ∑ s, gainRow (found m c) s k else 0 := by
  have e : (dats m 0 c).arrAt 14 cfg0.N = fun i : S8x1024.Idx => if (i 0).val = 0 then ∑ s, gainRow (found m c) s (i 1) else 0 := by
    refine (dats m 0 c).arrAt_eq_of_after_last 14 t0_7 (by decide +kernel) _ fun j => ?_
    blk_simp
    rw [after0_14]
    obtain ⟨q, k, rfl⟩ : ∃ (q : Fin 8) (k : Fin 1024), j = ix2 q k := ⟨j 0, j 1, eq_ix2 j⟩
    refine (gain_at m c q k _ _).trans ?_
    refine (?_ : _ = if q.val = 0 then ∑ s, gainRow (found m c) s k else 0)
    rw [← sum_blocks]
    split_ifs
    · rfl
    · exact Finset.sum_const_zero
  rw [e]; rfl

theorem array15 (h : Fin 2) (q : Fin 8) (j : Fin 2816) :
    (dats m 0 c).arrAt 15 cfg0.N (ix3 h q j) = ∑ s, tapRow (found m c) q.val s (col h j) := by
  have e : (dats m 0 c).arrAt 15 cfg0.N = fun i : S2x8x2816.Idx => ∑ s, tapRow (found m c) (i 1).val s (col (i 0) (i 2)) := by
    refine (dats m 0 c).arrAt_eq_of_after_last 15 t0_7 (by decide +kernel) _ fun y => ?_
    blk_simp
    rw [after0_15]
    obtain ⟨h, q, j, rfl⟩ : ∃ (h : Fin 2) (q : Fin 8) (j : Fin 2816), y = ix3 h q j := ⟨y 0, y 1, y 2, eq_ix3 y⟩
    refine (tap_at m c h q j _ _).trans ?_
    refine (?_ : _ = ∑ s, tapRow (found m c) q.val s (col h j))
    rw [← sum_blocks]
    rfl
  rw [e]; rfl

end Cert.Arrays

end
-- ==== Proof.Finite.lean ====
/-
  When the arguments are real numbers, so is everything that the forward and the backward pass compute from them.
-/
module

public import proofs.«01_k».proof.Proof.Forward

@[expose] public section

set_option maxRecDepth 16384

noncomputable section

namespace Cert.Forward

open Idealize.ShloMosaic Cert.Reals Cert.Rows

/-- Every argument is an array of real numbers. -/
structure Finite (I : Inputs) : Prop where
  x : ∀ s k, IsReal (I.x s k)
  g : ∀ k, IsReal (I.g k)
  wup : ∀ k c, IsReal (I.wup k c)
  cw : ∀ q c, IsReal (I.cw q c)
  cb : ∀ c, IsReal (I.cb c)
  wdn : ∀ c k, IsReal (I.wdn c k)
  gf : ∀ k, IsReal (I.gf k)
  t : ∀ s k, IsReal (I.t s k)

/-- A quotient of a real by the number of columns is real. -/
theorem _root_.Cert.Reals.IsReal.div_width {a : EReal} (h : IsReal a) : IsReal (Ideal.div a width) := by
  obtain ⟨r, rfl⟩ := h
  exact ⟨r / 1024, by rw [width_eq, div_coe _ _ (by norm_num)]⟩

/-- The gradient through a normalisation of real rows is real. -/
theorem _root_.Cert.Reals.IsReal.normBack {n : ℕ} {x t : Fin n → EReal} (hx : ∀ k, IsReal (x k)) (ht : ∀ k, IsReal (t k)) (k : Fin n) :
    IsReal (normBack x t k) :=
  (IsReal.invRms hx).mul ((ht k).sub (((hx k).mul (IsReal.invRms hx)).mul
    (IsReal.sum fun j => (ht j).mul ((hx j).mul (IsReal.invRms hx))).div_width))

theorem isReal_invWidth : IsReal invWidth := ⟨_, invWidth_eq⟩

variable {I : Inputs} (h : Finite I)
include h

namespace Finite

theorem norm (s : Fin 2048) (k : Fin 1024) : IsReal (Forward.norm I s k) :=
  ((h.x s k).mul (IsReal.invRms (h.x s))).mul (h.g k)

theorem pre (s : Fin 2048) (c : Fin 5632) : IsReal (Forward.pre I s c) :=
  IsReal.sum fun k => (h.norm s k).mul (h.wup k c)

omit h in
theorem behind {d : Fin 2048 → Fin 5632 → EReal} (hd : ∀ s c, IsReal (d s c)) (j : ℕ) (s : Fin 2048) (c : Fin 5632) :
    IsReal (Forward.behind d j s c) := by
  unfold Forward.behind; split_ifs
  · exact hd _ _
  · exact IsReal.zero

omit h in
theorem ahead {d : Fin 2048 → Fin 5632 → EReal} (hd : ∀ s c, IsReal (d s c)) (j : ℕ) (s : Fin 2048) (c : Fin 5632) :
    IsReal (Model.ahead d j s c) := by
  unfold Model.ahead; split_ifs
  · exact hd _ _
  · exact IsReal.zero

theorem conv (s : Fin 2048) (c : Fin 5632) : IsReal (Forward.conv I s c) :=
  ((((behind h.pre 2 s c).mul (h.cw 0 c)).add ((behind h.pre 1 s c).mul (h.cw 1 c))).add ((h.pre s c).mul (h.cw 2 c))).add (h.cb c)

theorem act (s : Fin 2048) (c : Fin 2816) : IsReal (Forward.act I s c) :=
  ((h.conv s (lo c)).mul (h.conv s (lo c)).logi).mul (h.conv s (hi c))

theorem out (s : Fin 2048) (k : Fin 1024) : IsReal (Forward.out I s k) :=
  (h.x s k).add (IsReal.sum fun c => (h.act s c).mul (h.wdn c k))

theorem dy (s : Fin 2048) (k : Fin 1024) : IsReal (Rows.dy (Forward.out I s) I.gf (I.t s) k) :=
  ((((h.out s k).mul (IsReal.invRms (h.out s))).mul (h.gf k)).sub (h.t s k)).mul isReal_invWidth

theorem dOut (s : Fin 2048) (k : Fin 1024) : IsReal (Model.out (back I) s k) :=
  IsReal.normBack (h.out s) (fun i => (h.dy s i).mul (h.gf i)) k

theorem dAct (s : Fin 2048) (c : Fin 2816) : IsReal (Rows.dAct (Model.out (back I) s) I.wdn c) :=
  IsReal.sum fun k => (h.dOut s k).mul (h.wdn c k)

theorem dConv (s : Fin 2048) (c : Fin 5632) : IsReal (Model.conv (back I) s c) := by
  unfold Model.conv Rows.dConv
  split_ifs
  · exact ((h.dAct s _).mul (h.conv s _)).mul ((h.conv s _).logi.mul (IsReal.one.add ((h.conv s _).mul (IsReal.one.sub (h.conv s _).logi))))
  · exact (h.dAct s _).mul ((h.conv s _).mul (h.conv s _).logi)

theorem dPre (s : Fin 2048) (c : Fin 5632) : IsReal (Model.pre (back I) s c) := by
  have w : ∀ q : Fin 8, IsReal ((back I).cw q c) := fun q => by
    unfold back; dsimp only; split_ifs
    · exact h.cw _ _
    · exact IsReal.zero
  exact (((h.dConv s c).mul (w 2)).add ((ahead h.dConv 1 s c).mul (w 1))).add ((ahead h.dConv 2 s c).mul (w 0))

theorem dHid (s : Fin 2048) (k : Fin 1024) : IsReal (Model.hid (back I) s k) := by
  rw [Model.hid, dHid_eq]
  exact IsReal.sum fun c => (h.dPre s c).mul (h.wup k c)

end Finite

end Cert.Forward

end
-- ==== Proof.Reference.lean ====
/-
  What the backward reference computes, index by index, from its arguments: the forward pass first, and then the gradients in the order
  in which differentiation takes them.
-/
module

public import proofs.«01_k».proof.Proof.Finite
public import proofs.«01_k».proof.Proof.Gen.ReferenceIdeal.Run
public import Idealize.ShloMosaic.Lib.KernelVsHost

@[expose] public section

set_option maxRecDepth 16384

noncomputable section

namespace Cert.Reference

open Idealize.ShloMosaic Idealize.ShloMosaic.TcCoe Cert.Reals Cert.Rows Cert.ReferenceIdeal Cert.ReferenceIdeal.Gen Cert.ReferenceIdeal.Value Cert.Forward

variable (V : Valuation τ sig (Elt Ideal))

/-- The program's arguments. -/
def inputs : Inputs where
  x := fun s k => (V (Proc.devRef .tc main_arg0) : Vec Ideal S2048x1024 .f32) (ix2 s k)
  g := fun k => (V (Proc.devRef .tc main_arg1) : Vec Ideal S1x1024 .f32) (ix2 0 k)
  wup := fun k j => (V (Proc.devRef .tc main_arg2) : Vec Ideal S1x1024x5632 .f32) (ix3 0 k j)
  cw := fun q j => (V (Proc.devRef .tc main_arg3) : Vec Ideal S1x3x5632 .f32) (ix3 0 q j)
  cb := fun j => (V (Proc.devRef .tc main_arg4) : Vec Ideal S1x5632 .f32) (ix2 0 j)
  wdn := fun j k => (V (Proc.devRef .tc main_arg5) : Vec Ideal S1x2816x1024 .f32) (ix3 0 j k)
  gf := fun k => (V (Proc.devRef .tc main_arg6) : Vec Ideal S1024 .f32) (ix1 k)
  t := fun s k => (V (Proc.devRef .tc main_arg7) : Vec Ideal S2048x1024 .f32) (ix2 s k)

variable (s : Fin 2048) (k : Fin 1024) (c : Fin 5632) (j : Fin 2816)

theorem v1 : (res_main_v1 V : Vec Ideal S1024x5632 .f32) (ix2 k c) = (inputs V).wup k c := by
  pointwise [res_main_v1]; rfl
theorem v8 (z : Fin 1) : (res_main_v8 V : Vec Ideal S2048x1 .f32) (ix2 s z) = meanSq ((inputs V).x s) := by
  obtain rfl : z = 0 := Subsingleton.elim _ _
  pointwise [res_main_v8]; rfl
theorem v9 (z : Fin 1) : (res_main_v9 V : Vec Ideal S2048x1 .f32) (ix2 s z) = invRms ((inputs V).x s) := by
  obtain rfl : z = 0 := Subsingleton.elim _ _
  pointwise [res_main_v9, v8]; rfl
theorem v14 : (res_main_v14 V : Vec Ideal S2048x1024 .f32) (ix2 s k) = (inputs V).x s k * invRms ((inputs V).x s) := by
  pointwise [res_main_v14, v9]; rfl
theorem v15 : (res_main_v15 V : Vec Ideal S1x1024 .f32) (ix2 0 k) = (inputs V).g k := by
  pointwise [res_main_v15]; rfl
theorem v19 (q : Fin 3) : (res_main_v19 V : Vec Ideal S3x5632 .f32) (ix2 q c) = (inputs V).cw q c := by
  pointwise [res_main_v19]; rfl
theorem v21 : (res_main_v21 V : Vec Ideal S2816x1024 .f32) (ix2 j k) = (inputs V).wdn j k := by
  pointwise [res_main_v21]; rfl
theorem v25 : (res_main_v25 V : Vec Ideal S2048x5632 .f32) (ix2 s c) = behind (pre (inputs V)) 2 s c := by
  rw [behind_two]; pointwise [res_main_v25, res_main_v23, v14, v15, v1]; rfl
theorem v31 : (res_main_v31 V : Vec Ideal S2048x5632 .f32) (ix2 s c) = behind (pre (inputs V)) 1 s c := by
  rw [behind_one]; pointwise [res_main_v31, res_main_v23, v14, v15, v1]; rfl
theorem v38 : (res_main_v38 V : Vec Ideal S2048x5632 .f32) (ix2 s c) = pre (inputs V) s c := by
  pointwise [res_main_v38, res_main_v23, v14, v15, v1]; rfl
theorem v28 : (res_main_v28 V : Vec Ideal S1x5632 .f32) (ix2 0 c) = (inputs V).cw 0 c := by
  pointwise [res_main_v28, v19]
theorem v34 : (res_main_v34 V : Vec Ideal S1x5632 .f32) (ix2 0 c) = (inputs V).cw 1 c := by
  pointwise [res_main_v34, v19]
theorem v41 : (res_main_v41 V : Vec Ideal S1x5632 .f32) (ix2 0 c) = (inputs V).cw 2 c := by
  pointwise [res_main_v41, v19]
theorem v47 : (res_main_v47 V : Vec Ideal S2048x5632 .f32) (ix2 s c) = conv (inputs V) s c := by
  pointwise [res_main_v47, v25, v28, v31, v34, v38, v41]; rfl
theorem v48 : (res_main_v48 V : Vec Ideal S2048x2816 .f32) (ix2 s j) = conv (inputs V) s (lo j) := by
  pointwise [res_main_v48, v47]; rfl
theorem v49 : (res_main_v49 V : Vec Ideal S2048x2816 .f32) (ix2 s j) = conv (inputs V) s (hi j) := by
  pointwise [res_main_v49, v47]; rfl
theorem v50_2 : (res_main_v50_2 V : Vec Ideal S2048x2816 .f32) (ix2 s j) = logi (conv (inputs V) s (lo j)) := by
  pointwise [res_main_v50_2, v48]; rfl
theorem v50_0 : (res_main_v50_0 V : Vec Ideal S2048x2816 .f32) (ix2 s j) = conv (inputs V) s (lo j) * logi (conv (inputs V) s (lo j)) := by
  pointwise [res_main_v50_0, v48, v50_2]
theorem v53 : (res_main_v53 V : Vec Ideal S2048x1024 .f32) (ix2 s k) = out (inputs V) s k := by
  pointwise [res_main_v53, v50_0, v49, v21]; rfl
theorem v60 (z : Fin 1) : (res_main_v60 V : Vec Ideal S2048x1 .f32) (ix2 s z) = meanSq (out (inputs V) s) := by
  obtain rfl : z = 0 := Subsingleton.elim _ _
  pointwise [res_main_v60, v53]; rfl
theorem v61 (z : Fin 1) : (res_main_v61 V : Vec Ideal S2048x1 .f32) (ix2 s z) = invRms (out (inputs V) s) := by
  obtain rfl : z = 0 := Subsingleton.elim _ _
  pointwise [res_main_v61, v60]; rfl
theorem v66 : (res_main_v66 V : Vec Ideal S2048x1024 .f32) (ix2 s k) = out (inputs V) s k * invRms (out (inputs V) s) := by
  pointwise [res_main_v66, v53, v61]
theorem v67 : (res_main_v67 V : Vec Ideal S1x1024 .f32) (ix2 0 k) = (inputs V).gf k := by
  pointwise [res_main_v67]; rfl
theorem v70 : (res_main_v70 V : Vec Ideal S2048x1024 .f32) (ix2 s k)
    = out (inputs V) s k * invRms (out (inputs V) s) * (inputs V).gf k - (inputs V).t s k := by
  pointwise [res_main_v70, v66, v67]; rfl
theorem v84 : (res_main_v84 V : Vec Ideal S2048x1024 .f32) (ix2 s k) = dy (out (inputs V) s) (inputs V).gf ((inputs V).t s) k := by
  rw [dy, lossBack_eq]; pointwise [res_main_v84, v70]
theorem v89 : (res_main_v89 V : Vec Ideal S2048x1024 .f32) (ix2 s k)
    = dy (out (inputs V) s) (inputs V).gf ((inputs V).t s) k * (inputs V).gf k := by
  pointwise [res_main_v89, v84, v67]
theorem v100 : (res_main_v100 V : Vec Ideal S2048x1024 .f32) (ix2 s k)
    = normBackCoef (out (inputs V) s) (fun i => dy (out (inputs V) s) (inputs V).gf ((inputs V).t s) i * (inputs V).gf i) := by
  pointwise [res_main_v100, v53, v89]
  refine (Fin.sum_univ_one (M := EReal) _).trans ?_
  simp only [v60, v61]
  rfl

/-- Three arrays of rows, put at row two, one and zero of two rows more, added and read from row two on: each row's own, the next
    row's and the one's after that. -/
theorem padded (x y z : FVec Ideal S2048x5632 .f32) :
    (extractStridedSlice S2048x5632 ![2, 0] (addf (addf
      (pad S2050x5632 ![2, 0] ![0, 0] ![0, 0] x (constant (F := Ideal) S_ .f32 0x00000000#32) pads_S2048x5632_S2050x5632_200_000 h_S_)
      (pad S2050x5632 ![1, 0] ![1, 0] ![0, 0] y (constant (F := Ideal) S_ .f32 0x00000000#32) pads_S2048x5632_S2050x5632_110_000 h_S_))
      (pad S2050x5632 ![0, 0] ![2, 0] ![0, 0] z (constant (F := Ideal) S_ .f32 0x00000000#32) pads_S2048x5632_S2050x5632_020_000 h_S_) : FVec Ideal S2050x5632 .f32)
      slices_S2050x5632_S2048x5632_2_0 : FVec Ideal S2048x5632 .f32) (ix2 s c)
    = x (ix2 s c) + (if h : s.val + 1 < 2048 then y (ix2 ⟨s.val + 1, h⟩ c) else 0) + (if h : s.val + 2 < 2048 then z (ix2 ⟨s.val + 2, h⟩ c) else 0) := by
  have e : s.val + 2 - 1 = s.val + 1 := by omega
  have e' : 2 + s.val = s.val + 2 := by omega
  pointwise
  simp only [e', e, and_true, true_and, Nat.le_add_left, show 1 ≤ s.val + 2 by omega]

variable (h : Finite (inputs V))
include h

/-- The gradient of the layer's output rows. -/
theorem v104 : (res_main_v104 V : Vec Ideal S2048x1024 .f32) (ix2 s k) = Model.out (back (inputs V)) s k := by
  refine Eq.trans ?_ (normBack_eq (h.out s) (fun i => (h.dy s i).mul (h.gf i)) k).symm
  pointwise [res_main_v104, v53, v89, v61, v100]
theorem v105 : (res_main_v105 V : Vec Ideal S2048x2816 .f32) (ix2 s j) = dAct (Model.out (back (inputs V)) s) (inputs V).wdn j := by
  pointwise [res_main_v105, v104, v21, h]; rfl
theorem v107 : (res_main_v107 V : Vec Ideal S2048x2816 .f32) (ix2 s j)
    = dAct (Model.out (back (inputs V)) s) (inputs V).wdn j * conv (inputs V) s (hi j) := by
  pointwise [res_main_v107, v105, v49, h]
/-- The gradient of the convolved rows. -/
theorem v109 : (res_main_v109 V : Vec Ideal S2048x5632 .f32) (ix2 s c) = Model.conv (back (inputs V)) s c := by
  pointwise [res_main_v109, v107, v105, v48, v50_2, v50_0, h]
  unfold Model.conv dConv
  refine dite_congr rfl (fun hc => ?_) fun hc => ?_
  · exact (siluBack_eq (h.conv s (lo ⟨c.val, hc⟩)) ((h.dAct s ⟨c.val, hc⟩).mul (h.conv s (hi ⟨c.val, hc⟩)))).symm
  · exact mul_comm (G := EReal) _ _
/-- The gradient of the rows that enter the convolution. -/
theorem v145 : (res_main_v145 V : Vec Ideal S2048x5632 .f32) (ix2 s c) = Model.pre (back (inputs V)) s c := by
  rw [res_main_v145, res_main_v143]
  refine (padded s c _ _ _).trans ?_
  pointwise [v109, v28, v34, v41, h]
  refine congrArg₂ (fun a b : EReal => _ + a + b) (ahead_mul _ 1 _ s c).symm (ahead_mul _ 2 _ s c).symm
theorem v146 : (res_main_v146 V : Vec Ideal S2048x1024 .f32) (ix2 s k) = Model.hid (back (inputs V)) s k := by
  rw [Model.hid, dHid_eq]
  pointwise [res_main_v146, v145, v1, h]; rfl
theorem v151 : (res_main_v151 V : Vec Ideal S2048x1024 .f32) (ix2 s k) = Model.hid (back (inputs V)) s k * (inputs V).g k := by
  pointwise [res_main_v151, v146, v15, h]
theorem v162 : (res_main_v162 V : Vec Ideal S2048x1024 .f32) (ix2 s k)
    = normBackCoef ((inputs V).x s) (fun i => Model.hid (back (inputs V)) s i * (inputs V).g i) := by
  pointwise [res_main_v162, v151, h]
  refine (Fin.sum_univ_one (M := EReal) _).trans ?_
  simp only [v8, v9]
  rfl

theorem v169 (q : Fin 8) : (res_main_v169 V : Vec Ideal S8x5632 .f32) (ix2 q c) = ∑ s, Model.tapRow (back (inputs V)) q.val s c := by
  pointwise [res_main_v169, v109, v25, v31, v38, h]
  rw [show FloatOps.sitofp (F := Ideal) FTy.f32 (0#32) = 0 from sitofp_zero]
  simp only [Finset.univ_unique, Finset.sum_singleton]
  fin_cases q
  all_goals norm_num [Model.tapRow]
  · exact (sum_behind _ _ 2 (by decide) c).symm
  · exact (sum_behind _ _ 1 (by decide) c).symm
  · exact Finset.sum_congr (M := EReal) rfl fun s _ => mul_comm (G := EReal) _ _

end Cert.Reference

end
-- ==== Proof.Results.lean ====
/-
  The six results of the backward reference, entry by entry, for real arguments.
-/
module

public import proofs.«01_k».proof.Proof.Reference

@[expose] public section

set_option maxRecDepth 16384

noncomputable section

namespace Cert.Reference

open Idealize.ShloMosaic Idealize.ShloMosaic.TcCoe Cert.Reals Cert.Rows Cert.ReferenceIdeal Cert.ReferenceIdeal.Gen Cert.ReferenceIdeal.Value Cert.Forward

variable (V : Valuation τ sig (Elt Ideal)) (h : Finite (inputs V)) (s : Fin 2048) (k : Fin 1024) (c : Fin 5632)
include h

/-- The gradient of the layer's output rows. -/
theorem result0 : (truncf .bf16 (res_main_v104 V) bitsLt_bf16_f32 : FVec Ideal S2048x1024 .bf16) (ix2 s k) = Model.out (back (inputs V)) s k :=
  v104 V s k h

/-- The gradient of the rows that enter the convolution. -/
theorem result1 : (truncf .bf16 (res_main_v145 V) bitsLt_bf16_f32 : FVec Ideal S2048x5632 .bf16) (ix2 s c) = Model.pre (back (inputs V)) s c :=
  v145 V s c h

/-- The gradient of the layer's input rows. -/
theorem result2 : (addf (res_main_v104 V) (addf (addf (mulf (res_main_v151 V) (broadcastInDim S2048x1024 ![0, 1] bcast_S2048x1_S2048x1024_0_1 (res_main_v9 V)))
      (mulf (V (Proc.devRef .tc main_arg0)) (res_main_v162 V))) (mulf (res_main_v162 V) (V (Proc.devRef .tc main_arg0)))) : FVec Ideal S2048x1024 .f32) (ix2 s k)
    = Model.inp (back (inputs V)) s k := by
  refine Eq.trans ?_ (congrArg (Model.out (back (inputs V)) s k + ·) (normBack_eq (h.x s) (fun i => (h.dHid s i).mul (h.g i)) k).symm)
  pointwise [v104, v151, v162, v9, h]
  rfl

/-- The gradient of the final norm's gain, in the first of eight rows. -/
theorem result3 (q : Fin 8) : (pad S8x1024 ![0, 0] ![7, 0] ![0, 0] (broadcastInDim S1x1024 ![1] bcast_S1024_S1x1024_1 (Host.reduceAdd
      (shapeCast _ (Host.reduceAdd (mulf (res_main_v66 V) (res_main_v84 V) : FVec Ideal S2048x1024 .f32) (constant S_ .f32 0x00000000#32) reducesTo_S2048x1024_S1024_d0 h_S_) shapeCasts_S1024_S1x1024)
      (constant S_ .f32 0x00000000#32) reducesTo_S1x1024_S1024_d0 h_S_)) (sitofp .f32 (constantI S_ 32 0#32)) pads_S1x1024_S8x1024_070_000 h_S_ : FVec Ideal S8x1024 .f32) (ix2 q k)
    = if q.val = 0 then ∑ s, Model.finalRow (back (inputs V)) s k else 0 := by
  pointwise [v66, v84]
  rw [show FloatOps.sitofp (F := Ideal) FTy.f32 (0#32) = 0 from sitofp_zero]
  refine (dite_eq_ite).trans ?_
  simp only [Finset.univ_unique, Finset.sum_singleton, Nat.lt_one_iff]
  exact if_congr Iff.rfl (Finset.sum_congr (M := EReal) rfl fun s _ => mul_comm (G := EReal) _ _) rfl

/-- The gradient of the FFN norm's gain, in the first of eight rows. -/
theorem result4 (q : Fin 8) : (pad S8x1024 ![0, 0] ![7, 0] ![0, 0] (broadcastInDim S1x1024 ![1] bcast_S1024_S1x1024_1 (Host.reduceAdd
      (shapeCast _ (Host.reduceAdd (mulf (res_main_v14 V) (res_main_v146 V) : FVec Ideal S2048x1024 .f32) (constant S_ .f32 0x00000000#32) reducesTo_S2048x1024_S1024_d0 h_S_) shapeCasts_S1024_S1x1024)
      (constant S_ .f32 0x00000000#32) reducesTo_S1x1024_S1024_d0 h_S_)) (sitofp .f32 (constantI S_ 32 0#32)) pads_S1x1024_S8x1024_070_000 h_S_ : FVec Ideal S8x1024 .f32) (ix2 q k)
    = if q.val = 0 then ∑ s, Model.gainRow (back (inputs V)) s k else 0 := by
  pointwise [v14, v146, h]
  rw [show FloatOps.sitofp (F := Ideal) FTy.f32 (0#32) = 0 from sitofp_zero]
  refine (dite_eq_ite).trans ?_
  simp only [Finset.univ_unique, Finset.sum_singleton, Nat.lt_one_iff]
  exact if_congr Iff.rfl (Finset.sum_congr (M := EReal) rfl fun s _ => mul_comm (G := EReal) _ _) rfl

/-- The gradient of the taps, in the first three of eight rows, and of the bias in the fourth, for both halves of the columns. -/
theorem result5 (b : Fin 2) (q : Fin 8) (j : Fin 2816) : (concatenate S2x8x2816 0
      [⟨S1x8x2816, (broadcastInDim S1x8x2816 ![1, 2] bcast_S8x2816_S1x8x2816_1_2 (extractStridedSlice S8x2816 ![0, 0] (res_main_v169 V) slices_S8x5632_S8x2816_0_0))⟩,
       ⟨S1x8x2816, (broadcastInDim S1x8x2816 ![1, 2] bcast_S8x2816_S1x8x2816_1_2 (extractStridedSlice S8x2816 ![0, 2816] (res_main_v169 V) slices_S8x5632_S8x2816_0_2816))⟩]
      concatenates_S1x8x2816_S1x8x2816_S2x8x2816_d0 : FVec Ideal S2x8x2816 .f32) (ix3 b q j)
    = ∑ s, Model.tapRow (back (inputs V)) q.val s ⟨2816 * b.val + j.val, by have := b.isLt; have := j.isLt; omega⟩ := by
  pointwise [v169, h]
  simp only [Nat.lt_one_iff]
  split_ifs with e
  · exact Finset.sum_congr (M := EReal) rfl fun s _ => congrArg (Model.tapRow _ _ s) (Fin.ext (by simp [e]))
  · exact Finset.sum_congr (M := EReal) rfl fun s _ => congrArg (Model.tapRow _ _ s) (Fin.ext (by have := b.isLt; simp only []; omega))

end Cert.Reference

end
-- ==== Proof.Precondition.lean ====
/-
  What the precondition says: every entry of every argument is a real number.
-/
module

public import proofs.«01_k».proof.Pre_finite
public import proofs.«01_k».proof.Proof.Reals
public import Idealize.ShloMosaic.Lib.KernelVsHost
public import Idealize.ShloMosaic.Lib.ReduceAll

@[expose] public section

noncomputable section

namespace Cert.Pre_finite

open Idealize.ShloMosaic Cert.Reals

/-- The shapes of the precondition's operations fit. -/
instance facts : Facts where
  bcast_S_S2048x1024 := by decide
  reducesTo_S2048x1024_S_d0_1 := by decide
  h_S_ := by decide
  bcast_S_S1x1024 := by decide
  reducesTo_S1x1024_S_d0_1 := by decide
  bcast_S_S1x1024x5632 := by decide
  reducesTo_S1x1024x5632_S_d0_1_2 := by decide
  bcast_S_S1x3x5632 := by decide
  reducesTo_S1x3x5632_S_d0_1_2 := by decide
  bcast_S_S1x5632 := by decide
  reducesTo_S1x5632_S_d0_1 := by decide
  bcast_S_S1x2816x1024 := by decide
  reducesTo_S1x2816x1024_S_d0_1_2 := by decide
  bcast_S_S1024 := by decide
  reducesTo_S1024_S_d0 := by decide

/-- A number whose magnitude is less than infinity is real. -/
theorem isReal_of_lt (x : Ideal .f32)
    (h : FloatOps.cmpf .olt (FloatOps.hostAbsf x) (FloatOps.ofBits (F := Ideal) .f32 0x7F800000#32) = 1#1) : IsReal (x : EReal) := by
  rw [← Ideal.xori_weird_eq_hostAbsf_olt_inf] at h
  change IntOp.xori (BitVec.ofBool (decide ((x : EReal) = ⊤ ∨ (x : EReal) = ⊥))) 1#1 = 1#1 at h
  by_cases e : (x : EReal) = ⊤ ∨ (x : EReal) = ⊥
  · rw [decide_eq_true e] at h
    exact absurd h (by decide)
  · rw [not_or] at e
    exact ⟨EReal.toReal x, (EReal.coe_toReal e.1 e.2).symm⟩

/-- An array all of whose entries are less than infinity in magnitude is an array of reals. -/
theorem isReal_of_all {s : Shape} {axes : List (Fin s.rank)} (a : FVec Ideal s .f32) (hb : S_.BroadcastsInDim s (![] : Fin 0 → Fin s.rank))
    (hr : s.ReducesTo axes S_) (j : S_.Idx)
    (h : Host.reduce IntOp.andi (cmpf .olt (Host.absf a) (broadcastInDim s ![] hb (constant (F := Ideal) S_ .f32 0x7F800000#32))) (constantI S_ 1 1#1) hr Facts.h_S_ j = 1#1)
    (i : s.Idx) : IsReal (a i : EReal) :=
  isReal_of_lt (a i) (Host.reduce_andi_all _ _ _ _ j h i)

/-- The precondition makes every argument an array of reals. -/
theorem isReal_of_fn (a0 : FVec Ideal S2048x1024 .f32) (a1 : FVec Ideal S1x1024 .f32) (a2 : FVec Ideal S1x1024x5632 .f32)
    (a3 : FVec Ideal S1x3x5632 .f32) (a4 : FVec Ideal S1x5632 .f32) (a5 : FVec Ideal S1x2816x1024 .f32) (a6 : FVec Ideal S1024 .f32)
    (a7 : FVec Ideal S2048x1024 .f32) (h : fn a0 a1 a2 a3 a4 a5 a6 a7 = fun _ => 1#1) :
    (∀ i, IsReal (a0 i : EReal)) ∧ (∀ i, IsReal (a1 i : EReal)) ∧ (∀ i, IsReal (a2 i : EReal)) ∧ (∀ i, IsReal (a3 i : EReal))
    ∧ (∀ i, IsReal (a4 i : EReal)) ∧ (∀ i, IsReal (a5 i : EReal)) ∧ (∀ i, IsReal (a6 i : EReal)) ∧ ∀ i, IsReal (a7 i : EReal) := by
  let j : S_.Idx := fun a => a.elim0
  have e := congrFun h j
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨isReal_of_all a0 _ _ j e0, isReal_of_all a1 _ _ j e1, isReal_of_all a2 _ _ j e2, isReal_of_all a3 _ _ j e3,
    isReal_of_all a4 _ _ j e4, isReal_of_all a5 _ _ j e5, isReal_of_all a6 _ _ j e6, isReal_of_all a7 _ _ j e7⟩

end Cert.Pre_finite

end
-- ==== Proof.Backward.lean ====
/-
  The backward kernel and its reference compute the same six arrays from the same real arguments.
-/
module

public import proofs.«01_k».proof.Proof.Host
public import proofs.«01_k».proof.Proof.Arrays
public import proofs.«01_k».proof.Proof.Results
public import proofs.«01_k».proof.Proof.Precondition
public import proofs.«01_k».proof.Defs

@[expose] public section

set_option maxRecDepth 16384

noncomputable section

namespace Cert.Backward

open Idealize.ShloMosaic Idealize.ShloMosaic.TcCoe Idealize.SL.Sem Cert.Reals

abbrev Mem := (ℓ : Loc Cert.KernelIdeal.nD Cert.KernelIdeal.τ Cert.KernelIdeal.sig) → Buf (Elt Ideal) ℓ
abbrev Mem' := (ℓ : Loc Cert.ReferenceIdeal.nD Cert.ReferenceIdeal.τ Cert.ReferenceIdeal.sig) → Buf (Elt Ideal) ℓ

/-- The precondition makes the arguments real. -/
theorem finite (m : Mem) (h : Cert.Pre_KernelIdeal_finite m) (c : Dev Cert.KernelIdeal.nD) : Forward.Finite (Host.inputs m c) := by
  obtain ⟨h0, h1, h2, h3, h4, h5, h6, h7⟩ := Cert.Pre_finite.isReal_of_fn _ _ _ _ _ _ _ _ (h c)
  exact ⟨fun s k => h0 (ix2 s k), fun k => h1 (ix2 0 k), fun k j => h2 (ix3 0 k j), fun q j => h3 (ix3 0 q j), fun j => h4 (ix2 0 j),
    fun j k => h5 (ix3 0 j k), fun k => h6 (ix1 k), fun s k => h7 (ix2 s k)⟩

/-- Over real arguments the kernel computes what the reference computes. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  have hin : ∀ c : Dev Cert.KernelIdeal.nD, Reference.inputs (StableHlo.launchContents m' c) = Host.inputs m c := fun c => by
    obtain ⟨h0, h1, h2, h3, h4, h5, h6, h7⟩ := hargs c
    unfold Reference.inputs Host.inputs
    congr 1
    · exact funext fun s => funext fun k => congrFun h0 (ix2 s k)
    · exact funext fun k => congrFun h1 (ix2 0 k)
    · exact funext fun k => funext fun j => congrFun h2 (ix3 0 k j)
    · exact funext fun q => funext fun j => congrFun h3 (ix3 0 q j)
    · exact funext fun j => congrFun h4 (ix2 0 j)
    · exact funext fun j => funext fun k => congrFun h5 (ix3 0 j k)
    · exact funext fun k => congrFun h6 (ix1 k)
    · exact funext fun s => funext fun k => congrFun h7 (ix2 s k)
  have hfin : ∀ c : Dev Cert.KernelIdeal.nD, Forward.Finite (Reference.inputs (StableHlo.launchContents m' c)) := fun c => by
    rw [hin c]; exact finite m hpre c
  have hfound : ∀ c : Dev Cert.KernelIdeal.nD, Blocks.found m c = Forward.back (Reference.inputs (StableHlo.launchContents m' c)) := fun c => by
    rw [hin c]; exact Host.found_eq m c
  refine ⟨_, _, _, _, _, _, Cert.KernelIdeal.Value.run_blocks m g, ?_⟩
  refine (θ_run Cert.ReferenceIdeal.defs _ _).mono (fun r hr c => ?_) (Cert.ReferenceIdeal.Value.run m' g')
  obtain ⟨r0, r1, r2, r3, r4, r5, hr⟩ := hr c
  refine ⟨r0.trans ?_, r1.trans ?_, r2.trans ?_, r3.trans ?_, r4.trans ?_, r5.trans ?_, hr⟩
  · funext y
    obtain ⟨s, k, rfl⟩ : ∃ (s : Fin 2048) (k : Fin 1024), y = ix2 s k := ⟨y 0, y 1, eq_ix2 y⟩
    refine (Reference.result0 _ (hfin c) s k).trans ((Arrays.array10 m c s k).trans ?_).symm
    rw [hfound c]
  · funext y
    obtain ⟨s, k, rfl⟩ : ∃ (s : Fin 2048) (k : Fin 5632), y = ix2 s k := ⟨y 0, y 1, eq_ix2 y⟩
    refine (Reference.result1 _ (hfin c) s k).trans ((Arrays.array11 m c s k).trans ?_).symm
    rw [hfound c]
  · funext y
    obtain ⟨s, k, rfl⟩ : ∃ (s : Fin 2048) (k : Fin 1024), y = ix2 s k := ⟨y 0, y 1, eq_ix2 y⟩
    refine (Reference.result2 _ (hfin c) s k).trans ((Arrays.array12 m c s k).trans ?_).symm
    rw [hfound c]
  · funext y
    obtain ⟨q, k, rfl⟩ : ∃ (q : Fin 8) (k : Fin 1024), y = ix2 q k := ⟨y 0, y 1, eq_ix2 y⟩
    refine (Reference.result3 _ (hfin c) k q).trans ((Arrays.array13 m c q k).trans ?_).symm
    rw [hfound c]
  · funext y
    obtain ⟨q, k, rfl⟩ : ∃ (q : Fin 8) (k : Fin 1024), y = ix2 q k := ⟨y 0, y 1, eq_ix2 y⟩
    refine (Reference.result4 _ (hfin c) k q).trans ((Arrays.array14 m c q k).trans ?_).symm
    rw [hfound c]
  · funext y
    obtain ⟨b, q, j, rfl⟩ : ∃ (b : Fin 2) (q : Fin 8) (j : Fin 2816), y = ix3 b q j := ⟨y 0, y 1, y 2, eq_ix3 y⟩
    refine (Reference.result5 _ (hfin c) b q j).trans ((Arrays.array15 m c b q j).trans ?_).symm
    rw [hfound c]; rfl

end Cert.Backward

end
-- ==== Proof.FwdBlock.lean ====
/-
  What one grid point of the forward kernel computes, entry by entry, from the blocks it reads.
-/
module

public import proofs.«01_k».proof.Proof.Block
public import proofs.«01_k».proof.Proof.Gen.Kernel2Ideal.Skeleton

@[expose] public section

set_option maxRecDepth 16384

noncomputable section

namespace Cert.FwdBlock

open Idealize.ShloMosaic Cert.Reals Cert.Rows Cert.Kernel2Ideal Cert.Kernel2Ideal.Gen
open Cert.Block (row select_row)

/-- One normalised row. -/
def normed (x g : Fin 1024 → EReal) (k : Fin 1024) : EReal := x k * invRms x * g k

/-- The squared error of one output row. -/
def error (x g t : Fin 1024 → EReal) (k : Fin 1024) : EReal :=
  (x k * invRms x * g k - t k) * (x k * invRms x * g k - t k)

/-- A gated product. -/
def gated (a b : EReal) : EReal := a * logi a * b

/-- The row before row `r`, the first one preceded by the last of `pv`. -/
def prev1 {C : Type} (d : Fin 256 → C → EReal) (pv : Fin 8 → C → EReal) (r : Fin 256) (c : C) : EReal :=
  if r.val = 0 then pv 7 c else d ⟨r.val - 1, by have := r.isLt; omega⟩ c

/-- The row two before row `r`, the first one preceded by the last two of `pv`. -/
def prev2 {C : Type} (d : Fin 256 → C → EReal) (pv : Fin 8 → C → EReal) (r : Fin 256) (c : C) : EReal :=
  if r.val = 0 then pv 6 c else if r.val = 1 then pv 7 c else d ⟨r.val - 2, by have := r.isLt; omega⟩ c

/-- One entry of the convolved rows without the bias, from this row and the two before it. -/
def taps {C : Type} (d : Fin 256 → C → EReal) (pv : Fin 8 → C → EReal) (w0 w1 w2 : C → EReal) (r : Fin 256) (c : C) : EReal :=
  prev2 d pv r c * w0 c + prev1 d pv r c * w1 c + d r c * w2 c

theorem pay3_at (x : Vec Ideal S256x1024 .f32) (g : Vec Ideal S1x1024 .f32) (r : Fin 256) (k : Fin 1024) :
    k0_pay3 x g (ix2 r k) = normed (row x r) (row g 0) k := by
  pointwise [k0_pay3, row, normed, invRms, meanSq]

theorem pay4_at (x : Vec Ideal S256x1024 .f32) (g : Vec Ideal S1x1024 .f32) (w : Vec Ideal S2816x1024 .bf16) (r : Fin 256) (c : Fin 2816) :
    k0_pay4 x g w (ix2 r c) = ∑ k, normed (row x r) (row g 0) k * w (ix2 c k) := by
  pointwise [k0_pay4, pay3_at]

theorem pay5_at (x : Vec Ideal S256x1024 .f32) (g : Vec Ideal S1x1024 .f32) (w : Vec Ideal S2816x1024 .bf16) (r : Fin 256) (c : Fin 2816) :
    k0_pay5 x g w (ix2 r c) = ∑ k, normed (row x r) (row g 0) k * w (ix2 c k) := by
  pointwise [k0_pay5, pay4_at]

theorem pay11_at (x : Vec Ideal S256x1024 .f32) (g : Vec Ideal S1x1024 .f32) (w : Vec Ideal S2816x1024 .bf16) (r : Fin 256) (c : Fin 2816) :
    k0_pay11 (k0_pay3 x g) w (ix2 r c) = ∑ k, normed (row x r) (row g 0) k * w (ix2 c k) := by
  pointwise [k0_pay11, pay3_at]

theorem pay12_at (x : Vec Ideal S256x1024 .f32) (g : Vec Ideal S1x1024 .f32) (w : Vec Ideal S2816x1024 .bf16) (r : Fin 256) (c : Fin 2816) :
    k0_pay12 (k0_pay3 x g) w (ix2 r c) = ∑ k, normed (row x r) (row g 0) k * w (ix2 c k) := by
  pointwise [k0_pay12, pay11_at]

theorem pay6_at (x : Vec Ideal S256x1024 .f32) (g : Vec Ideal S1x1024 .f32) (w : Vec Ideal S2816x1024 .bf16) (pv : Vec Ideal S8x2816 .f32)
    (r : Fin 256) (c : Fin 2816) : k0_pay6 x g w pv (ix2 r c) = prev1 (row (k0_pay4 x g w)) (row pv) r c := by
  unfold k0_pay6
  generalize k0_pay4 x g w = d
  pointwise
  rw [select_row r 0 (by norm_num), prev1]
  split_ifs <;> first | omega | rfl | (congr 2; apply Fin.ext; simp only []; omega)

theorem pay9_at (d : Vec Ideal S256x2816 .f32) (pv : Vec Ideal S8x2816 .f32) (d1 : Vec Ideal S256x2816 .f32) (w0 w1 w2 b : Vec Ideal S1x2816 .f32)
    (h : ∀ (r : Fin 256) (c : Fin 2816), d1 (ix2 r c) = prev1 (row d) (row pv) r c) (r : Fin 256) (c : Fin 2816) :
    k0_pay9 d pv (iota .tc S256x2816 32 [0] iota_S256x2816_d0_w32) d1 k0_pay7 w0 w1 w2 b (ix2 r c)
      = taps (row d) (row pv) (row w0 0) (row w1 0) (row w2 0) r c + row b 0 c := by
  pointwise [k0_pay9, k0_pay7, taps, h]
  rw [select_row r 0 (by norm_num), select_row r 1 (by norm_num), prev2]
  refine congrArg (fun z => z * _ + _ + _ + _) ?_
  split_ifs <;> first | omega | rfl | (congr 2; apply Fin.ext; simp only []; omega)

theorem pay10_at (d : Vec Ideal S256x2816 .f32) (pv : Vec Ideal S8x2816 .f32) (d1 : Vec Ideal S256x2816 .f32) (w0 w1 w2 b : Vec Ideal S1x2816 .f32)
    (h : ∀ (r : Fin 256) (c : Fin 2816), d1 (ix2 r c) = prev1 (row d) (row pv) r c) (r : Fin 256) (c : Fin 2816) :
    k0_pay10 d pv (iota .tc S256x2816 32 [0] iota_S256x2816_d0_w32) d1 k0_pay7 w0 w1 w2 b (ix2 r c)
      = taps (row d) (row pv) (row w0 0) (row w1 0) (row w2 0) r c + row b 0 c :=
  Eq.trans (by pointwise [k0_pay10]) (pay9_at d pv d1 w0 w1 w2 b h r c)

theorem pay14_at (d : Vec Ideal S256x2816 .f32) (pv : Vec Ideal S8x2816 .f32) (w0 w1 w2 : Vec Ideal S1x2816 .f32) (r : Fin 256) (c : Fin 2816) :
    k0_pay14 d pv w0 w1 w2 (ix2 r c) = taps (row d) (row pv) (row w0 0) (row w1 0) (row w2 0) r c := by
  pointwise [k0_pay14, taps]
  rw [select_row r 0 (by norm_num), select_row r 0 (by norm_num), select_row r 1 (by norm_num), prev2, prev1]
  refine congrArg₂ (fun y z => y * _ + z * _ + _) ?_ ?_ <;>
    split_ifs <;> first | omega | rfl | (congr 2; apply Fin.ext; simp only []; omega)

theorem pay15_at (d : Vec Ideal S256x2816 .f32) (b : Vec Ideal S1x2816 .f32) (r : Fin 256) (c : Fin 2816) :
    k0_pay15 d b (ix2 r c) = d (ix2 r c) + row b 0 c := by
  pointwise [k0_pay15]

theorem pay16_at (d : Vec Ideal S256x2816 .f32) (b : Vec Ideal S1x2816 .f32) (r : Fin 256) (c : Fin 2816) :
    k0_pay16 d b (ix2 r c) = d (ix2 r c) + row b 0 c := by
  pointwise [k0_pay16, pay15_at]

theorem pay17_at (u d : Vec Ideal S256x2816 .f32) (b : Vec Ideal S1x2816 .f32) (r : Fin 256) (c : Fin 2816) :
    k0_pay17 u d b (ix2 r c) = gated (u (ix2 r c)) (d (ix2 r c) + row b 0 c) := by
  pointwise [k0_pay17, pay15_at, gated, logi, zero_sub]

theorem pay18_at (x : Vec Ideal S256x1024 .f32) (u d : Vec Ideal S256x2816 .f32) (b : Vec Ideal S1x2816 .f32) (w : Vec Ideal S2816x1024 .bf16)
    (r : Fin 256) (k : Fin 1024) :
    k0_pay18 x u d b w (ix2 r k) = x (ix2 r k) + ∑ c, gated (u (ix2 r c)) (d (ix2 r c) + row b 0 c) * w (ix2 c k) := by
  pointwise [k0_pay18, pay17_at]

theorem pay19_at (x : Vec Ideal S256x1024 .f32) (u d : Vec Ideal S256x2816 .f32) (b : Vec Ideal S1x2816 .f32) (w : Vec Ideal S2816x1024 .bf16)
    (g : Vec Ideal S1x1024 .f32) (t : Vec Ideal S256x1024 .f32) (r : Fin 256) (k : Fin 1024) :
    k0_pay19 x u d b w g t (ix2 r k) = error (row (k0_pay18 x u d b w) r) (row g 0) (row t r) k := by
  unfold k0_pay19
  generalize k0_pay18 x u d b w = y
  pointwise [row, error, invRms, meanSq]

theorem pay1_at (e : Vec Ideal S256x1024 .f32) (z : Fin 1) (q : Fin 8) (j : Fin 128) :
    k0_pay1 (F := Ideal) e (ix3 z q j) = half * ∑ r, Ideal.div (∑ k, e (ix2 r k)) width := by
  pointwise [k0_pay1]

theorem pay2_at (q : Fin 8) (c : Fin 5632) : k0_pay2 (F := Ideal) (ix2 q c) = 0 := by
  pointwise [k0_pay2]

theorem pay8_at (d : Vec Ideal S256x2816 .f32) (q : Fin 8) (c : Fin 2816) :
    k0_pay8 (F := Ideal) d (ix2 q c) = d (ix2 ⟨248 + q.val, by omega⟩ c) := by
  pointwise [k0_pay8]

theorem pay13_at (d : Vec Ideal S256x2816 .f32) (q : Fin 8) (c : Fin 2816) :
    k0_pay13 (F := Ideal) d (ix2 q c) = d (ix2 ⟨248 + q.val, by omega⟩ c) := by
  pointwise [k0_pay13]

end Cert.FwdBlock

end
-- ==== Proof.FwdStores.lean ====
/-
  What the stores of one grid point of the forward kernel leave in each output block, entry by entry, whatever the
  carried rows `n`.
-/
module

public import proofs.«01_k».proof.Proof.FwdBlock
public import proofs.«01_k».proof.Proof.Stores

@[expose] public section

set_option maxRecDepth 16384

noncomputable section

namespace Cert.FwdBlock

open Idealize.ShloMosaic Cert.Reals Cert.Rows Cert.Kernel2Ideal Cert.Kernel2Ideal.Gen Cert.Pieces
open Cert.Block (row ld_lo ld_hi)

variable (x0 : Vec Ideal S256x1024 .f32) (x1 : Vec Ideal S1x1024 .f32) (x2 : Vec Ideal S5632x1024 .bf16) (x3 : Vec Ideal S8x5632 .f32)
  (x4 : Vec Ideal S1x5632 .f32) (x5 : Vec Ideal S2816x1024 .bf16) (x6 : Vec Ideal S1x1024 .f32) (x7 : Vec Ideal S256x1024 .f32)
  (n : Vec Ideal S8x5632 .f32)

/-- The block's rows that enter the convolution. -/
def preRow (r : Fin 256) (c : Fin 5632) : EReal := ∑ k, normed (row x0 r) (row x1 0) k * x2 (ix2 c k)

/-- The block's convolved rows. -/
def convRow (r : Fin 256) (c : Fin 5632) : EReal :=
  taps (preRow x0 x1 x2) (row n) (row x3 0) (row x3 1) (row x3 2) r c + row x4 0 c

/-- The block's gated activations. -/
def actRow (r : Fin 256) (c : Fin 2816) : EReal := gated (convRow x0 x1 x2 x3 x4 n r (lo c)) (convRow x0 x1 x2 x3 x4 n r (hi c))

/-- The block's output rows. -/
def outRow (r : Fin 256) (k : Fin 1024) : EReal := x0 (ix2 r k) + ∑ c, actRow x0 x1 x2 x3 x4 n r c * x5 (ix2 c k)

/-- The block's part of the loss. -/
def lossTerm : EReal :=
  half * ∑ r, Ideal.div (∑ k, error (outRow x0 x1 x2 x3 x4 x5 n r) (row x6 0) (row x7 r) k) width

/-- The kernel's first half of the rows entering the convolution. -/
abbrev upLo : Vec Ideal S256x2816 .f32 :=
  k0_pay4 x0 x1 (View.ld x2 (Rect.unit ![0, 0] ![2816, 1024] inb_S5632x1024_S2816x1024_0_0))

/-- The kernel's second half of them. -/
abbrev upHi : Vec Ideal S256x2816 .f32 :=
  k0_pay11 (k0_pay3 x0 x1) (View.ld x2 (Rect.unit ![2816, 0] ![2816, 1024] inb_S5632x1024_S2816x1024_2816_0))

theorem upLo_row : row (upLo x0 x1 x2) = fun r c => preRow x0 x1 x2 r (lo c) := by
  funext r c
  refine (pay4_at ..).trans (Finset.sum_congr rfl fun k _ => congrArg₂ (· * ·) rfl (congrArg x2 (funext fun a => Fin.ext ?_)))
  match a with
  | ⟨0, _⟩ => show 0 + 1 * c.val = c.val; omega
  | ⟨1, _⟩ => show 0 + 1 * k.val = k.val; omega

theorem upHi_row : row (upHi x0 x1 x2) = fun r c => preRow x0 x1 x2 r (hi c) := by
  funext r c
  refine (pay11_at ..).trans (Finset.sum_congr rfl fun k _ => congrArg₂ (· * ·) rfl (congrArg x2 (funext fun a => Fin.ext ?_)))
  match a with
  | ⟨0, _⟩ => show 2816 + 1 * c.val = 2816 + c.val; omega
  | ⟨1, _⟩ => show 0 + 1 * k.val = k.val; omega

/-- The two stores of the rows entering the convolution. -/
theorem pre_stores (X : Vec Ideal S256x5632 .bf16) (r : Fin 256) (c : Fin 5632) :
    put X [⟨Rect.unit ![0, 2816] ![256, 2816] inb_S256x5632_S256x2816_0_2816,
        k0_pay12 (k0_pay3 x0 x1) (View.ld x2 (Rect.unit ![2816, 0] ![2816, 1024] inb_S5632x1024_S2816x1024_2816_0))⟩,
      ⟨Rect.unit ![0, 0] ![256, 2816] inb_S256x5632_S256x2816_0_0,
        k0_pay5 x0 x1 (View.ld x2 (Rect.unit ![0, 0] ![2816, 1024] inb_S5632x1024_S2816x1024_0_0))⟩] (ix2 r c)
      = preRow x0 x1 x2 r c := by
  refine (put_unit2 ..).trans ?_
  split_ifs with h
  · refine (pay12_at ..).trans ((pay11_at ..).symm.trans ((congrFun (congrFun (upHi_row x0 x1 x2) _) _).trans ?_))
    congr 1; apply Fin.ext; simp only [hi]; omega
  · refine (put_unit2 ..).trans ?_
    rw [dif_pos (by omega)]
    exact (pay5_at ..).trans ((pay4_at ..).symm.trans (congrFun (congrFun (upLo_row x0 x1 x2) _) _))

/-- The two stores of the rows carried on: the block's last rows. -/
theorem carry_stores (X : Vec Ideal S8x5632 .f32) (L) (q : Fin 8) (c : Fin 5632) :
    put X (⟨Rect.unit ![0, 2816] ![8, 2816] inb_S8x5632_S8x2816_0_2816, k0_pay13 (F := Ideal) (upHi x0 x1 x2)⟩
      :: ⟨Rect.unit ![0, 0] ![8, 2816] inb_S8x5632_S8x2816_0_0, k0_pay8 (F := Ideal) (upLo x0 x1 x2)⟩ :: L) (ix2 q c)
      = preRow x0 x1 x2 ⟨248 + q.val, by omega⟩ c := by
  refine (put_unit2 ..).trans ?_
  split_ifs with h
  · refine (pay13_at ..).trans ((congrFun (congrFun (upHi_row x0 x1 x2) _) _).trans ?_)
    congr 1; apply Fin.ext; simp only [hi]; omega
  · refine (put_unit2 ..).trans ?_
    rw [dif_pos (by omega)]
    exact (pay8_at ..).trans (congrFun (congrFun (upLo_row x0 x1 x2) _) _)

theorem taps_comp {C D : Type} (f : C → D) (d : Fin 256 → D → EReal) (m : Fin 8 → D → EReal) (w0 w1 w2 : D → EReal) (r : Fin 256) (c : C) :
    taps (fun r c => d r (f c)) (fun r c => m r (f c)) (fun c => w0 (f c)) (fun c => w1 (f c)) (fun c => w2 (f c)) r c
      = taps d m w0 w1 w2 r (f c) := rfl

/-- The kernel's gated half of the convolved rows. -/
abbrev convLo : Vec Ideal S256x2816 .f32 :=
  k0_pay9 (upLo x0 x1 x2) (View.ld n (Rect.unit ![0, 0] ![8, 2816] inb_S8x5632_S8x2816_0_0)) (iota .tc S256x2816 32 [0] iota_S256x2816_d0_w32)
    (k0_pay6 x0 x1 (View.ld x2 (Rect.unit ![0, 0] ![2816, 1024] inb_S5632x1024_S2816x1024_0_0))
      (View.ld n (Rect.unit ![0, 0] ![8, 2816] inb_S8x5632_S8x2816_0_0))) k0_pay7
    (View.ld x3 (Rect.unit ![0, 0] ![1, 2816] inb_S8x5632_S1x2816_0_0)) (View.ld x3 (Rect.unit ![1, 0] ![1, 2816] inb_S8x5632_S1x2816_1_0))
    (View.ld x3 (Rect.unit ![2, 0] ![1, 2816] inb_S8x5632_S1x2816_2_0)) (View.ld x4 (Rect.unit ![0, 0] ![1, 2816] inb_S1x5632_S1x2816_0_0))

/-- The kernel's linear half of them, before the bias. -/
abbrev tapsHi : Vec Ideal S256x2816 .f32 :=
  k0_pay14 (upHi x0 x1 x2) (View.ld n (Rect.unit ![0, 2816] ![8, 2816] inb_S8x5632_S8x2816_0_2816))
    (View.ld x3 (Rect.unit ![0, 2816] ![1, 2816] inb_S8x5632_S1x2816_0_2816)) (View.ld x3 (Rect.unit ![1, 2816] ![1, 2816] inb_S8x5632_S1x2816_1_2816))
    (View.ld x3 (Rect.unit ![2, 2816] ![1, 2816] inb_S8x5632_S1x2816_2_2816))

/-- Their bias. -/
abbrev biasHi : Vec Ideal S1x2816 .f32 := View.ld x4 (Rect.unit ![0, 2816] ![1, 2816] inb_S1x5632_S1x2816_0_2816)

theorem convLo_at (r : Fin 256) (c : Fin 2816) : convLo x0 x1 x2 x3 x4 n (ix2 r c) = convRow x0 x1 x2 x3 x4 n r (lo c) := by
  refine (pay9_at _ _ _ _ _ _ _ (fun r c => pay6_at ..) r c).trans ?_
  rw [upLo_row]
  erw [ld_lo, ld_lo, ld_lo, ld_lo, ld_lo]
  simp only [convRow, zero_add]
  rfl

theorem convHi_at (r : Fin 256) (c : Fin 2816) :
    tapsHi x0 x1 x2 x3 n (ix2 r c) + row (biasHi x4) 0 c = convRow x0 x1 x2 x3 x4 n r (hi c) := by
  rw [show tapsHi x0 x1 x2 x3 n (ix2 r c) = _ from pay14_at .., upHi_row]
  erw [ld_hi, ld_hi, ld_hi, ld_hi, ld_hi]
  simp only [convRow, zero_add]
  rfl

/-- The two stores of the convolved rows. -/
theorem conv_stores (X : Vec Ideal S256x5632 .bf16) (r : Fin 256) (c : Fin 5632) :
    put X [⟨Rect.unit ![0, 2816] ![256, 2816] inb_S256x5632_S256x2816_0_2816, k0_pay16 (tapsHi x0 x1 x2 x3 n) (biasHi x4)⟩,
      ⟨Rect.unit ![0, 0] ![256, 2816] inb_S256x5632_S256x2816_0_0,
        k0_pay10 (upLo x0 x1 x2) (View.ld n (Rect.unit ![0, 0] ![8, 2816] inb_S8x5632_S8x2816_0_0)) (iota .tc S256x2816 32 [0] iota_S256x2816_d0_w32)
          (k0_pay6 x0 x1 (View.ld x2 (Rect.unit ![0, 0] ![2816, 1024] inb_S5632x1024_S2816x1024_0_0))
            (View.ld n (Rect.unit ![0, 0] ![8, 2816] inb_S8x5632_S8x2816_0_0))) k0_pay7
          (View.ld x3 (Rect.unit ![0, 0] ![1, 2816] inb_S8x5632_S1x2816_0_0)) (View.ld x3 (Rect.unit ![1, 0] ![1, 2816] inb_S8x5632_S1x2816_1_0))
          (View.ld x3 (Rect.unit ![2, 0] ![1, 2816] inb_S8x5632_S1x2816_2_0)) (View.ld x4 (Rect.unit ![0, 0] ![1, 2816] inb_S1x5632_S1x2816_0_0))⟩]
        (ix2 r c)
      = convRow x0 x1 x2 x3 x4 n r c := by
  refine (put_unit2 ..).trans ?_
  split_ifs with h
  · refine (pay16_at ..).trans ((convHi_at ..).trans ?_)
    congr 1; apply Fin.ext; simp only [hi]; omega
  · refine (put_unit2 ..).trans ?_
    rw [dif_pos (by omega)]
    exact (pay10_at _ _ _ _ _ _ _ (fun r c => pay6_at ..) _ _).trans
      ((pay9_at _ _ _ _ _ _ _ (fun r c => pay6_at ..) _ _).symm.trans (convLo_at ..))

/-- The gated activations. -/
theorem act_at (r : Fin 256) (c : Fin 2816) :
    k0_pay17 (convLo x0 x1 x2 x3 x4 n) (tapsHi x0 x1 x2 x3 n) (biasHi x4) (ix2 r c) = actRow x0 x1 x2 x3 x4 n r c := by
  refine (pay17_at ..).trans ?_
  rw [convLo_at, convHi_at, actRow]

/-- The output rows. -/
theorem out_at (r : Fin 256) (k : Fin 1024) :
    k0_pay18 x0 (convLo x0 x1 x2 x3 x4 n) (tapsHi x0 x1 x2 x3 n) (biasHi x4) x5 (ix2 r k) = outRow x0 x1 x2 x3 x4 x5 n r k := by
  refine (pay18_at ..).trans ?_
  rw [outRow]
  refine congrArg₂ (· + ·) rfl (Finset.sum_congr rfl fun c _ => ?_)
  rw [convLo_at, convHi_at, actRow]

/-- The block's part of the loss, in every entry. -/
theorem loss_at (z : Fin 1) (q : Fin 8) (j : Fin 128) :
    k0_pay1 (F := Ideal) (k0_pay19 x0 (convLo x0 x1 x2 x3 x4 n) (tapsHi x0 x1 x2 x3 n) (biasHi x4) x5 x6 x7) (ix3 z q j)
      = lossTerm x0 x1 x2 x3 x4 x5 x6 x7 n := by
  refine (pay1_at ..).trans ?_
  rw [lossTerm]
  refine congrArg₂ (· * ·) rfl (Finset.sum_congr rfl fun r _ => congrArg₂ Ideal.div (Finset.sum_congr rfl fun k _ => ?_) rfl)
  refine (pay19_at ..).trans ?_
  rw [show row (k0_pay18 x0 (convLo x0 x1 x2 x3 x4 n) (tapsHi x0 x1 x2 x3 n) (biasHi x4) x5) r = outRow x0 x1 x2 x3 x4 x5 n r from
    funext fun k => out_at ..]

end Cert.FwdBlock

end
-- ==== Proof.FwdBlocks.lean ====
/-
  The blocks that a grid point of the forward kernel reads, as rows of the arrays that it finds.
-/
module

public import proofs.«01_k».proof.Proof.Forward
public import proofs.«01_k».proof.Proof.FwdStores
public import proofs.«01_k».proof.Proof.Gen.Kernel2Ideal.Frame
public import Idealize.ShloMosaic.Lib.Pipeline.ValueKit

@[expose] public section

set_option maxRecDepth 16384

noncomputable section

namespace Cert.FwdBlocks

open Idealize.ShloMosaic Idealize.ShloMosaic.TcCoe Idealize.ShloMosaic.Pipeline Cert.Reals Cert.Rows Cert.Kernel2Ideal Cert.Kernel2Ideal.Gen Cert.Forward
open Cert.Block (row)

/-- Row `r` of the block that grid point `n` works on. -/
def at_ (n : Fin 8) (r : Fin 256) : Fin 2048 := ⟨256 * n.val + r.val, by have := r.isLt; have := n.isLt; omega⟩

/-- Block `n`'s part of the loss. -/
def part (I : Inputs) (n : Fin 8) : EReal := half * ∑ r, Ideal.div (∑ k, err I (at_ n r) k) width

variable (m : (ℓ : Loc nD τ sig) → Buf (Elt Ideal) ℓ) (c : Dev nD)

/-- The arrays that the kernel finds. -/
def found : Inputs where
  x := row (V m c main_arg0 : Vec Ideal S2048x1024 .f32)
  g := row (V m c main_arg1 : Vec Ideal S1x1024 .f32) 0
  wup := fun k j => (V m c main_v2 : Vec Ideal S5632x1024 .bf16) (ix2 j k)
  cw := fun q j => (V m c main_v6 : Vec Ideal S8x5632 .f32) (ix2 ⟨q.val, by omega⟩ j)
  cb := row (V m c main_arg4 : Vec Ideal S1x5632 .f32) 0
  wdn := row (V m c main_v4 : Vec Ideal S2816x1024 .bf16)
  gf := row (V m c main_v7 : Vec Ideal S1x1024 .f32) 0
  t := row (V m c main_arg7 : Vec Ideal S2048x1024 .f32)

variable (t : Fin cfg0.N)

theorem points : t.val < 8 := lt_of_lt_of_eq t.isLt (by decide +kernel)

/-- A grid point's number. -/
abbrev num : Fin 8 := ⟨t.val, points t⟩

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] := by decide +kernel

theorem row0 (r : Fin 256) : row (iblk m c 0 t : Vec Ideal S256x1024 .f32) r = (found m c).x (at_ (num t) r) := by
  funext k; have := (idx t).1
  simp only [row, found, at_]
  blk_ext [iblk, this]
theorem row1 : row (iblk m c 1 t : Vec Ideal S1x1024 .f32) 0 = (found m c).g := by
  funext k; have := (idx t).2.1
  simp only [row, found]
  blk_ext [iblk, this]
theorem at2 (j : Fin 5632) (k : Fin 1024) : (iblk m c 2 t : Vec Ideal S5632x1024 .bf16) (ix2 j k) = (found m c).wup k j := by
  have := (idx t).2.2.1
  simp only [found]
  blk_ext [iblk, this]
theorem row3 (q : Fin 3) : row (iblk m c 3 t : Vec Ideal S8x5632 .f32) ⟨q.val, by omega⟩ = (found m c).cw q := by
  funext k; have := (idx t).2.2.2.1
  simp only [row, found]
  blk_ext [iblk, this]
theorem row4 : row (iblk m c 4 t : Vec Ideal S1x5632 .f32) 0 = (found m c).cb := by
  funext k; have := (idx t).2.2.2.2.1
  simp only [row, found]
  blk_ext [iblk, this]
theorem at5 (j : Fin 2816) (k : Fin 1024) : (iblk m c 5 t : Vec Ideal S2816x1024 .bf16) (ix2 j k) = (found m c).wdn j k := by
  have := (idx t).2.2.2.2.2.1
  simp only [row, found]
  blk_ext [iblk, this]
theorem row6 : row (iblk m c 6 t : Vec Ideal S1x1024 .f32) 0 = (found m c).gf := by
  funext k; have := (idx t).2.2.2.2.2.2.1
  simp only [row, found]
  blk_ext [iblk, this]
theorem row7 (r : Fin 256) : row (iblk m c 7 t : Vec Ideal S256x1024 .f32) r = (found m c).t (at_ (num t) r) := by
  funext k; have := (idx t).2.2.2.2.2.2.2
  simp only [row, found, at_]
  blk_ext [iblk, this]

end Cert.FwdBlocks

end
-- ==== Proof.FwdHost.lean ====
/-
  The arrays that the forward kernel finds when it is launched, from the program's arguments.
-/
module

public import proofs.«01_k».proof.Proof.FwdBlocks
public import Idealize.ShloMosaic.Lib.KernelVsHost

@[expose] public section

set_option maxRecDepth 16384

noncomputable section

namespace Cert.FwdHost

open Idealize.ShloMosaic Idealize.ShloMosaic.TcCoe Idealize.ShloMosaic.Pipeline Cert.Reals Cert.Rows Cert.Kernel2Ideal Cert.Kernel2Ideal.Gen Cert.Forward

variable (m : (ℓ : Loc nD τ sig) → Buf (Elt Ideal) ℓ) (c : Dev nD)

/-- The program's arguments. -/
def inputs : Inputs where
  x := fun s k => (m (c, Proc.tc.devRef main_arg0) : Vec Ideal S2048x1024 .f32) (ix2 s k)
  g := fun k => (m (c, Proc.tc.devRef main_arg1) : Vec Ideal S1x1024 .f32) (ix2 0 k)
  wup := fun k j => (m (c, Proc.tc.devRef main_arg2) : Vec Ideal S1x1024x5632 .f32) (ix3 0 k j)
  cw := fun q j => (m (c, Proc.tc.devRef main_arg3) : Vec Ideal S1x3x5632 .f32) (ix3 0 q j)
  cb := fun j => (m (c, Proc.tc.devRef main_arg4) : Vec Ideal S1x5632 .f32) (ix2 0 j)
  wdn := fun j k => (m (c, Proc.tc.devRef main_arg5) : Vec Ideal S1x2816x1024 .f32) (ix3 0 j k)
  gf := fun k => (m (c, Proc.tc.devRef main_arg6) : Vec Ideal S1024 .f32) (ix1 k)
  t := fun s k => (m (c, Proc.tc.devRef main_arg7) : Vec Ideal S2048x1024 .f32) (ix2 s k)

theorem wup (j : Fin 5632) (k : Fin 1024) : (V m c main_v2 : Vec Ideal S5632x1024 .bf16) (ix2 j k) = (inputs m c).wup k j := by
  unfold V
  simp only [hostOps0, hostOps0_1, hostOps0_2, List.flatten_cons, List.flatten_nil, List.append_nil, List.cons_append, List.nil_append]
  simp only [StableHlo.after_cons, StableHlo.after_nil]
  after_results_simp
  pointwise
  rfl

theorem wdn (j : Fin 2816) (k : Fin 1024) : (V m c main_v4 : Vec Ideal S2816x1024 .bf16) (ix2 j k) = (inputs m c).wdn j k := by
  unfold V
  simp only [hostOps0, hostOps0_1, hostOps0_2, List.flatten_cons, List.flatten_nil, List.append_nil, List.cons_append, List.nil_append]
  simp only [StableHlo.after_cons, StableHlo.after_nil]
  after_results_simp
  pointwise
  rfl

theorem cw (q : Fin 3) (j : Fin 5632) : (V m c main_v6 : Vec Ideal S8x5632 .f32) (ix2 ⟨q.val, by omega⟩ j) = (inputs m c).cw q j := by
  unfold V
  simp only [hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  simp only [StableHlo.after_cons, StableHlo.after_nil]
  after_results_simp
  pointwise
  rfl

theorem gf (k : Fin 1024) : (V m c main_v7 : Vec Ideal S1x1024 .f32) (ix2 0 k) = (inputs m c).gf k := by
  unfold V
  simp only [hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  simp only [StableHlo.after_cons, StableHlo.after_nil]
  after_results_simp
  pointwise
  rfl

/-- The arrays that the forward kernel finds are the program's arguments. -/
theorem found_eq : FwdBlocks.found m c = inputs m c := by
  unfold FwdBlocks.found inputs
  rw [V_main_arg0, V_main_arg1, V_main_arg4, V_main_arg7]
  congr 1
  · exact funext fun k => funext fun j => wup m c j k
  · exact funext fun q => funext fun j => cw m c q j
  · exact funext fun j => funext fun k => wdn m c j k
  · exact funext fun k => gf m c k

end Cert.FwdHost

end
-- ==== Proof.FwdPoint.lean ====
/-
  What one grid point of the forward kernel leaves in each of its windows, entry by entry: `A` is the first point, which starts the
  carried rows at zero; `B` every later one, which goes on from the rows that the point before it left.
-/
module

public import proofs.«01_k».proof.Proof.FwdStores
public import proofs.«01_k».proof.Proof.Gen.Kernel2Ideal.Frame
public import Idealize.ShloMosaic.Lib.Pipeline.ValueKit
public import Idealize.ShloMosaic.Lib.Pipeline.ReadBack

@[expose] public section

set_option maxRecDepth 16384
set_option maxHeartbeats 400000

noncomputable section

namespace Cert.FwdBlock

open Idealize.ShloMosaic Cert.Reals Cert.Rows Cert.Kernel2Ideal Cert.Kernel2Ideal.Gen Cert.Pieces Idealize.ShloMosaic.Pipeline
open Cert.Block (row)

/-- The normalised rows, at the first point. -/
theorem hid_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S5632x1024 .bf16) (harg3 : arg3.IsWhole) (arg4 : Memref sig .tc .vmem S8x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x5632 .bf16) (harg11 : arg11.IsWhole) (arg12 : Memref sig .tc .vmem S256x2816 .bf16) (harg12 : arg12.IsWhole) (arg13 : Memref sig .tc .vmem S256x1024 .f32) (harg13 : arg13.IsWhole) (arg14 : Memref sig .tc .vmem S1x8x128 .f32) (harg14 : arg14.IsWhole) (arg15 : Memref sig .tc .vmem S8x5632 .f32) (harg15 : arg15.IsWhole) (hc0 : cond0_0 i)
    (x0 : Vec Ideal S256x1024 .f32) (x1 : Vec Ideal S1x1024 .f32) (x2 : Vec Ideal S5632x1024 .bf16) (x3 : Vec Ideal S8x5632 .f32) (x4 : Vec Ideal S1x5632 .f32) (x5 : Vec Ideal S2816x1024 .bf16) (x6 : Vec Ideal S1x1024 .f32) (x7 : Vec Ideal S256x1024 .f32)
    (r : Fin 256) (k : Fin 1024) : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 r k) = normed (row x0 r) (row x1 0) k := by
  frame_open
  frame_out
  exact pay3_at ..

/-- The rows that enter the convolution, at the first point. -/
theorem pre_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S5632x1024 .bf16) (harg3 : arg3.IsWhole) (arg4 : Memref sig .tc .vmem S8x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x5632 .bf16) (harg11 : arg11.IsWhole) (arg12 : Memref sig .tc .vmem S256x2816 .bf16) (harg12 : arg12.IsWhole) (arg13 : Memref sig .tc .vmem S256x1024 .f32) (harg13 : arg13.IsWhole) (arg14 : Memref sig .tc .vmem S1x8x128 .f32) (harg14 : arg14.IsWhole) (arg15 : Memref sig .tc .vmem S8x5632 .f32) (harg15 : arg15.IsWhole) (hc0 : cond0_0 i)
    (x0 : Vec Ideal S256x1024 .f32) (x1 : Vec Ideal S1x1024 .f32) (x2 : Vec Ideal S5632x1024 .bf16) (x3 : Vec Ideal S8x5632 .f32) (x4 : Vec Ideal S1x5632 .f32) (x5 : Vec Ideal S2816x1024 .bf16) (x6 : Vec Ideal S1x1024 .f32) (x7 : Vec Ideal S256x1024 .f32)
    (r : Fin 256) (j : Fin 5632) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 r j) = preRow x0 x1 x2 r j := by
  frame_open
  frame_out
  exact (congrFun (canon_eq_put _) _).trans (pre_stores x0 x1 x2 _ r j)

/-- The convolved rows, at the first point. -/
theorem conv_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S5632x1024 .bf16) (harg3 : arg3.IsWhole) (arg4 : Memref sig .tc .vmem S8x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x5632 .bf16) (harg11 : arg11.IsWhole) (arg12 : Memref sig .tc .vmem S256x2816 .bf16) (harg12 : arg12.IsWhole) (arg13 : Memref sig .tc .vmem S256x1024 .f32) (harg13 : arg13.IsWhole) (arg14 : Memref sig .tc .vmem S1x8x128 .f32) (harg14 : arg14.IsWhole) (arg15 : Memref sig .tc .vmem S8x5632 .f32) (harg15 : arg15.IsWhole) (hc0 : cond0_0 i)
    (x0 : Vec Ideal S256x1024 .f32) (x1 : Vec Ideal S1x1024 .f32) (x2 : Vec Ideal S5632x1024 .bf16) (x3 : Vec Ideal S8x5632 .f32) (x4 : Vec Ideal S1x5632 .f32) (x5 : Vec Ideal S2816x1024 .bf16) (x6 : Vec Ideal S1x1024 .f32) (x7 : Vec Ideal S256x1024 .f32)
    (r : Fin 256) (j : Fin 5632) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 r j) = convRow x0 x1 x2 x3 x4 (k0_pay2 (F := Ideal)) r j := by
  frame_open
  simp (disch := decide) only [↓ View.readCov_skip, ↓ View.readCov_cons_toLoadRect, ↓ View.readCov_fill]
  frame_out
  generalize k0_pay2 (F := Ideal) = z2
  exact (congrFun (canon_eq_put _) _).trans (conv_stores x0 x1 x2 x3 x4 z2 _ r j)

/-- The gated activations, at the first point. -/
theorem act_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S5632x1024 .bf16) (harg3 : arg3.IsWhole) (arg4 : Memref sig .tc .vmem S8x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x5632 .bf16) (harg11 : arg11.IsWhole) (arg12 : Memref sig .tc .vmem S256x2816 .bf16) (harg12 : arg12.IsWhole) (arg13 : Memref sig .tc .vmem S256x1024 .f32) (harg13 : arg13.IsWhole) (arg14 : Memref sig .tc .vmem S1x8x128 .f32) (harg14 : arg14.IsWhole) (arg15 : Memref sig .tc .vmem S8x5632 .f32) (harg15 : arg15.IsWhole) (hc0 : cond0_0 i)
    (x0 : Vec Ideal S256x1024 .f32) (x1 : Vec Ideal S1x1024 .f32) (x2 : Vec Ideal S5632x1024 .bf16) (x3 : Vec Ideal S8x5632 .f32) (x4 : Vec Ideal S1x5632 .f32) (x5 : Vec Ideal S2816x1024 .bf16) (x6 : Vec Ideal S1x1024 .f32) (x7 : Vec Ideal S256x1024 .f32)
    (r : Fin 256) (j : Fin 2816) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 r j) = actRow x0 x1 x2 x3 x4 (k0_pay2 (F := Ideal)) r j := by
  frame_open
  simp (disch := decide) only [↓ View.readCov_skip, ↓ View.readCov_cons_toLoadRect, ↓ View.readCov_fill]
  frame_out
  generalize k0_pay2 (F := Ideal) = z2
  exact act_at x0 x1 x2 x3 x4 z2 r j

/-- The output rows, at the first point. -/
theorem out_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S5632x1024 .bf16) (harg3 : arg3.IsWhole) (arg4 : Memref sig .tc .vmem S8x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x5632 .bf16) (harg11 : arg11.IsWhole) (arg12 : Memref sig .tc .vmem S256x2816 .bf16) (harg12 : arg12.IsWhole) (arg13 : Memref sig .tc .vmem S256x1024 .f32) (harg13 : arg13.IsWhole) (arg14 : Memref sig .tc .vmem S1x8x128 .f32) (harg14 : arg14.IsWhole) (arg15 : Memref sig .tc .vmem S8x5632 .f32) (harg15 : arg15.IsWhole) (hc0 : cond0_0 i)
    (x0 : Vec Ideal S256x1024 .f32) (x1 : Vec Ideal S1x1024 .f32) (x2 : Vec Ideal S5632x1024 .bf16) (x3 : Vec Ideal S8x5632 .f32) (x4 : Vec Ideal S1x5632 .f32) (x5 : Vec Ideal S2816x1024 .bf16) (x6 : Vec Ideal S1x1024 .f32) (x7 : Vec Ideal S256x1024 .f32)
    (r : Fin 256) (k : Fin 1024) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 r k) = outRow x0 x1 x2 x3 x4 x5 (k0_pay2 (F := Ideal)) r k := by
  frame_open
  simp (disch := decide) only [↓ View.readCov_skip, ↓ View.readCov_cons_toLoadRect, ↓ View.readCov_fill]
  frame_out
  generalize k0_pay2 (F := Ideal) = z2
  exact out_at x0 x1 x2 x3 x4 x5 z2 r k

/-- The block's part of the loss, at the first point. -/
theorem loss_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S5632x1024 .bf16) (harg3 : arg3.IsWhole) (arg4 : Memref sig .tc .vmem S8x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x5632 .bf16) (harg11 : arg11.IsWhole) (arg12 : Memref sig .tc .vmem S256x2816 .bf16) (harg12 : arg12.IsWhole) (arg13 : Memref sig .tc .vmem S256x1024 .f32) (harg13 : arg13.IsWhole) (arg14 : Memref sig .tc .vmem S1x8x128 .f32) (harg14 : arg14.IsWhole) (arg15 : Memref sig .tc .vmem S8x5632 .f32) (harg15 : arg15.IsWhole) (hc0 : cond0_0 i)
    (x0 : Vec Ideal S256x1024 .f32) (x1 : Vec Ideal S1x1024 .f32) (x2 : Vec Ideal S5632x1024 .bf16) (x3 : Vec Ideal S8x5632 .f32) (x4 : Vec Ideal S1x5632 .f32) (x5 : Vec Ideal S2816x1024 .bf16) (x6 : Vec Ideal S1x1024 .f32) (x7 : Vec Ideal S256x1024 .f32)
    (z : Fin 1) (q : Fin 8) (j : Fin 128) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix3 z q j) = lossTerm x0 x1 x2 x3 x4 x5 x6 x7 (k0_pay2 (F := Ideal)) := by
  frame_open
  simp (disch := decide) only [↓ View.readCov_skip, ↓ View.readCov_cons_toLoadRect, ↓ View.readCov_fill]
  frame_out
  generalize k0_pay2 (F := Ideal) = z2
  exact loss_at x0 x1 x2 x3 x4 x5 x6 x7 z2 z q j

/-- The rows carried on, at the first point. -/
theorem carry_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S5632x1024 .bf16) (harg3 : arg3.IsWhole) (arg4 : Memref sig .tc .vmem S8x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x5632 .bf16) (harg11 : arg11.IsWhole) (arg12 : Memref sig .tc .vmem S256x2816 .bf16) (harg12 : arg12.IsWhole) (arg13 : Memref sig .tc .vmem S256x1024 .f32) (harg13 : arg13.IsWhole) (arg14 : Memref sig .tc .vmem S1x8x128 .f32) (harg14 : arg14.IsWhole) (arg15 : Memref sig .tc .vmem S8x5632 .f32) (harg15 : arg15.IsWhole) (hc0 : cond0_0 i)
    (x0 : Vec Ideal S256x1024 .f32) (x1 : Vec Ideal S1x1024 .f32) (x2 : Vec Ideal S5632x1024 .bf16) (x3 : Vec Ideal S8x5632 .f32) (x4 : Vec Ideal S1x5632 .f32) (x5 : Vec Ideal S2816x1024 .bf16) (x6 : Vec Ideal S1x1024 .f32) (x7 : Vec Ideal S256x1024 .f32)
    (q : Fin 8) (j : Fin 5632) : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 q j) = preRow x0 x1 x2 ⟨248 + q.val, by omega⟩ j := by
  frame_open
  frame_out
  exact (congrFun (canon_eq_put _) _).trans (carry_stores x0 x1 x2 _ _ q j)

/-- The normalised rows, at a later point. -/
theorem hid_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S5632x1024 .bf16) (harg3 : arg3.IsWhole) (arg4 : Memref sig .tc .vmem S8x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x5632 .bf16) (harg11 : arg11.IsWhole) (arg12 : Memref sig .tc .vmem S256x2816 .bf16) (harg12 : arg12.IsWhole) (arg13 : Memref sig .tc .vmem S256x1024 .f32) (harg13 : arg13.IsWhole) (arg14 : Memref sig .tc .vmem S1x8x128 .f32) (harg14 : arg14.IsWhole) (arg15 : Memref sig .tc .vmem S8x5632 .f32) (harg15 : arg15.IsWhole) (hc0 : ¬cond0_0 i)
    (x0 : Vec Ideal S256x1024 .f32) (x1 : Vec Ideal S1x1024 .f32) (x2 : Vec Ideal S5632x1024 .bf16) (x3 : Vec Ideal S8x5632 .f32) (x4 : Vec Ideal S1x5632 .f32) (x5 : Vec Ideal S2816x1024 .bf16) (x6 : Vec Ideal S1x1024 .f32) (x7 : Vec Ideal S256x1024 .f32) (xs0 : Vec Ideal S8x5632 .f32)
    (r : Fin 256) (k : Fin 1024) : out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 (ix2 r k) = normed (row x0 r) (row x1 0) k := by
  frame_open
  frame_out
  exact pay3_at ..

/-- The rows that enter the convolution, at a later point. -/
theorem pre_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S5632x1024 .bf16) (harg3 : arg3.IsWhole) (arg4 : Memref sig .tc .vmem S8x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x5632 .bf16) (harg11 : arg11.IsWhole) (arg12 : Memref sig .tc .vmem S256x2816 .bf16) (harg12 : arg12.IsWhole) (arg13 : Memref sig .tc .vmem S256x1024 .f32) (harg13 : arg13.IsWhole) (arg14 : Memref sig .tc .vmem S1x8x128 .f32) (harg14 : arg14.IsWhole) (arg15 : Memref sig .tc .vmem S8x5632 .f32) (harg15 : arg15.IsWhole) (hc0 : ¬cond0_0 i)
    (x0 : Vec Ideal S256x1024 .f32) (x1 : Vec Ideal S1x1024 .f32) (x2 : Vec Ideal S5632x1024 .bf16) (x3 : Vec Ideal S8x5632 .f32) (x4 : Vec Ideal S1x5632 .f32) (x5 : Vec Ideal S2816x1024 .bf16) (x6 : Vec Ideal S1x1024 .f32) (x7 : Vec Ideal S256x1024 .f32) (xs0 : Vec Ideal S8x5632 .f32)
    (r : Fin 256) (j : Fin 5632) : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 (ix2 r j) = preRow x0 x1 x2 r j := by
  frame_open
  frame_out
  exact (congrFun (canon_eq_put _) _).trans (pre_stores x0 x1 x2 _ r j)

/-- The convolved rows, at a later point. -/
theorem conv_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S5632x1024 .bf16) (harg3 : arg3.IsWhole) (arg4 : Memref sig .tc .vmem S8x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x5632 .bf16) (harg11 : arg11.IsWhole) (arg12 : Memref sig .tc .vmem S256x2816 .bf16) (harg12 : arg12.IsWhole) (arg13 : Memref sig .tc .vmem S256x1024 .f32) (harg13 : arg13.IsWhole) (arg14 : Memref sig .tc .vmem S1x8x128 .f32) (harg14 : arg14.IsWhole) (arg15 : Memref sig .tc .vmem S8x5632 .f32) (harg15 : arg15.IsWhole) (hc0 : ¬cond0_0 i)
    (x0 : Vec Ideal S256x1024 .f32) (x1 : Vec Ideal S1x1024 .f32) (x2 : Vec Ideal S5632x1024 .bf16) (x3 : Vec Ideal S8x5632 .f32) (x4 : Vec Ideal S1x5632 .f32) (x5 : Vec Ideal S2816x1024 .bf16) (x6 : Vec Ideal S1x1024 .f32) (x7 : Vec Ideal S256x1024 .f32) (xs0 : Vec Ideal S8x5632 .f32)
    (r : Fin 256) (j : Fin 5632) : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 (ix2 r j) = convRow x0 x1 x2 x3 x4 xs0 r j := by
  frame_open
  frame_out
  exact (congrFun (canon_eq_put _) _).trans (conv_stores x0 x1 x2 x3 x4 xs0 _ r j)

/-- The gated activations, at a later point. -/
theorem act_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S5632x1024 .bf16) (harg3 : arg3.IsWhole) (arg4 : Memref sig .tc .vmem S8x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x5632 .bf16) (harg11 : arg11.IsWhole) (arg12 : Memref sig .tc .vmem S256x2816 .bf16) (harg12 : arg12.IsWhole) (arg13 : Memref sig .tc .vmem S256x1024 .f32) (harg13 : arg13.IsWhole) (arg14 : Memref sig .tc .vmem S1x8x128 .f32) (harg14 : arg14.IsWhole) (arg15 : Memref sig .tc .vmem S8x5632 .f32) (harg15 : arg15.IsWhole) (hc0 : ¬cond0_0 i)
    (x0 : Vec Ideal S256x1024 .f32) (x1 : Vec Ideal S1x1024 .f32) (x2 : Vec Ideal S5632x1024 .bf16) (x3 : Vec Ideal S8x5632 .f32) (x4 : Vec Ideal S1x5632 .f32) (x5 : Vec Ideal S2816x1024 .bf16) (x6 : Vec Ideal S1x1024 .f32) (x7 : Vec Ideal S256x1024 .f32) (xs0 : Vec Ideal S8x5632 .f32)
    (r : Fin 256) (j : Fin 2816) : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 (ix2 r j) = actRow x0 x1 x2 x3 x4 xs0 r j := by
  frame_open
  frame_out
  exact act_at x0 x1 x2 x3 x4 xs0 r j

/-- The output rows, at a later point. -/
theorem out_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S5632x1024 .bf16) (harg3 : arg3.IsWhole) (arg4 : Memref sig .tc .vmem S8x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x5632 .bf16) (harg11 : arg11.IsWhole) (arg12 : Memref sig .tc .vmem S256x2816 .bf16) (harg12 : arg12.IsWhole) (arg13 : Memref sig .tc .vmem S256x1024 .f32) (harg13 : arg13.IsWhole) (arg14 : Memref sig .tc .vmem S1x8x128 .f32) (harg14 : arg14.IsWhole) (arg15 : Memref sig .tc .vmem S8x5632 .f32) (harg15 : arg15.IsWhole) (hc0 : ¬cond0_0 i)
    (x0 : Vec Ideal S256x1024 .f32) (x1 : Vec Ideal S1x1024 .f32) (x2 : Vec Ideal S5632x1024 .bf16) (x3 : Vec Ideal S8x5632 .f32) (x4 : Vec Ideal S1x5632 .f32) (x5 : Vec Ideal S2816x1024 .bf16) (x6 : Vec Ideal S1x1024 .f32) (x7 : Vec Ideal S256x1024 .f32) (xs0 : Vec Ideal S8x5632 .f32)
    (r : Fin 256) (k : Fin 1024) : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 (ix2 r k) = outRow x0 x1 x2 x3 x4 x5 xs0 r k := by
  frame_open
  frame_out
  exact out_at x0 x1 x2 x3 x4 x5 xs0 r k

/-- The block's part of the loss, at a later point. -/
theorem loss_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S5632x1024 .bf16) (harg3 : arg3.IsWhole) (arg4 : Memref sig .tc .vmem S8x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x5632 .bf16) (harg11 : arg11.IsWhole) (arg12 : Memref sig .tc .vmem S256x2816 .bf16) (harg12 : arg12.IsWhole) (arg13 : Memref sig .tc .vmem S256x1024 .f32) (harg13 : arg13.IsWhole) (arg14 : Memref sig .tc .vmem S1x8x128 .f32) (harg14 : arg14.IsWhole) (arg15 : Memref sig .tc .vmem S8x5632 .f32) (harg15 : arg15.IsWhole) (hc0 : ¬cond0_0 i)
    (x0 : Vec Ideal S256x1024 .f32) (x1 : Vec Ideal S1x1024 .f32) (x2 : Vec Ideal S5632x1024 .bf16) (x3 : Vec Ideal S8x5632 .f32) (x4 : Vec Ideal S1x5632 .f32) (x5 : Vec Ideal S2816x1024 .bf16) (x6 : Vec Ideal S1x1024 .f32) (x7 : Vec Ideal S256x1024 .f32) (xs0 : Vec Ideal S8x5632 .f32)
    (z : Fin 1) (q : Fin 8) (j : Fin 128) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 (ix3 z q j) = lossTerm x0 x1 x2 x3 x4 x5 x6 x7 xs0 := by
  frame_open
  frame_out
  exact loss_at x0 x1 x2 x3 x4 x5 x6 x7 xs0 z q j

/-- The rows carried on, at a later point. -/
theorem carry_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S5632x1024 .bf16) (harg3 : arg3.IsWhole) (arg4 : Memref sig .tc .vmem S8x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x5632 .bf16) (harg11 : arg11.IsWhole) (arg12 : Memref sig .tc .vmem S256x2816 .bf16) (harg12 : arg12.IsWhole) (arg13 : Memref sig .tc .vmem S256x1024 .f32) (harg13 : arg13.IsWhole) (arg14 : Memref sig .tc .vmem S1x8x128 .f32) (harg14 : arg14.IsWhole) (arg15 : Memref sig .tc .vmem S8x5632 .f32) (harg15 : arg15.IsWhole) (hc0 : ¬cond0_0 i)
    (x0 : Vec Ideal S256x1024 .f32) (x1 : Vec Ideal S1x1024 .f32) (x2 : Vec Ideal S5632x1024 .bf16) (x3 : Vec Ideal S8x5632 .f32) (x4 : Vec Ideal S1x5632 .f32) (x5 : Vec Ideal S2816x1024 .bf16) (x6 : Vec Ideal S1x1024 .f32) (x7 : Vec Ideal S256x1024 .f32) (xs0 : Vec Ideal S8x5632 .f32)
    (q : Fin 8) (j : Fin 5632) : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 (ix2 q j) = preRow x0 x1 x2 ⟨248 + q.val, by omega⟩ j := by
  frame_open
  frame_out
  exact (congrFun (canon_eq_put _) _).trans (carry_stores x0 x1 x2 _ _ q j)

end Cert.FwdBlock

end
-- ==== Proof.FwdSweep.lean ====
/-
  What each grid point of the forward kernel leaves, over the arrays that the kernel finds: the carried rows and the six blocks it writes
  back.
-/
module

public import proofs.«01_k».proof.Proof.FwdBlocks
public import proofs.«01_k».proof.Proof.FwdPoint

@[expose] public section

set_option maxRecDepth 16384

noncomputable section

namespace Cert.FwdSweep

open Idealize.ShloMosaic Idealize.ShloMosaic.TcCoe Idealize.ShloMosaic.Pipeline Cert.Reals Cert.Rows Cert.Kernel2Ideal Cert.Kernel2Ideal.Gen Cert.FwdBlock Cert.Forward
  Cert.FwdBlocks
open Cert.Block (row)

/-- Carried rows whose last two are the rows before the block. -/
def Precedes (d : Fin 2048 → Fin 5632 → EReal) (n : Fin 8) (x : Vec Ideal S8x5632 .f32) : Prop :=
  ∀ k : Fin 5632, x (ix2 6 k) = behind d 2 (at_ n 0) k ∧ x (ix2 7 k) = behind d 1 (at_ n 0) k

theorem prev1_eq {d : Fin 2048 → Fin 5632 → EReal} {n : Fin 8} {x : Vec Ideal S8x5632 .f32} (hx : Precedes d n x) (r : Fin 256) (k : Fin 5632) :
    prev1 (fun r => d (at_ n r)) (row x) r k = behind d 1 (at_ n r) k := by
  rw [prev1]
  split_ifs with h
  · rw [show r = 0 from Fin.ext h]; exact (hx k).2
  · rw [behind, if_pos (by simp only [at_]; omega)]
    exact congrFun (congrArg d (Fin.ext (by simp only [at_]; omega))) k

theorem prev2_eq {d : Fin 2048 → Fin 5632 → EReal} {n : Fin 8} {x : Vec Ideal S8x5632 .f32} (hx : Precedes d n x) (r : Fin 256) (k : Fin 5632) :
    prev2 (fun r => d (at_ n r)) (row x) r k = behind d 2 (at_ n r) k := by
  rw [prev2]
  split_ifs with h h'
  · rw [show r = 0 from Fin.ext h]; exact (hx k).1
  · refine (hx k).2.trans ?_
    rw [behind, behind]
    by_cases hn : n.val = 0
    · rw [if_neg (by simp only [at_, Fin.coe_ofNat_eq_mod]; omega), if_neg (by simp only [at_]; omega)]
    · rw [if_pos (by simp only [at_, Fin.coe_ofNat_eq_mod]; omega), if_pos (by simp only [at_]; omega)]
      exact congrFun (congrArg d (Fin.ext (by simp only [at_, Fin.coe_ofNat_eq_mod]; omega))) k
  · rw [behind, if_pos (by simp only [at_]; omega)]
    exact congrFun (congrArg d (Fin.ext (by simp only [at_]; omega))) k

variable (m : (ℓ : Loc nD τ sig) → Buf (Elt Ideal) ℓ) (c : Dev nD) (t : Fin cfg0.N)

theorem hid_row (r : Fin 256) (k : Fin 1024) :
    normed (row (iblk m c 0 t : Vec Ideal S256x1024 .f32) r) (row (iblk m c 1 t : Vec Ideal S1x1024 .f32) 0) k = norm (found m c) (at_ (num t) r) k := by
  rw [normed, Forward.norm, row0, row1]

theorem pre_row (r : Fin 256) (k : Fin 5632) :
    preRow (iblk m c 0 t) (iblk m c 1 t) (iblk m c 2 t) r k = pre (found m c) (at_ (num t) r) k := by
  refine Finset.sum_congr rfl fun j _ => ?_
  rw [hid_row, at2]

variable {m c t} {x : Vec Ideal S8x5632 .f32}

theorem conv_row (hx : Precedes (pre (found m c)) (num t) x) (r : Fin 256) (k : Fin 5632) :
    convRow (iblk m c 0 t) (iblk m c 1 t) (iblk m c 2 t) (iblk m c 3 t) (iblk m c 4 t) x r k = conv (found m c) (at_ (num t) r) k := by
  rw [convRow, conv, taps, show preRow (iblk m c 0 t) (iblk m c 1 t) (iblk m c 2 t) = fun r => pre (found m c) (at_ (num t) r) from
    funext fun r => funext fun k => pre_row m c t r k, prev1_eq hx, prev2_eq hx, row4]
  rw [show row (iblk m c 3 t : Vec Ideal S8x5632 .f32) 0 = _ from row3 m c t 0, show row (iblk m c 3 t : Vec Ideal S8x5632 .f32) 1 = _ from row3 m c t 1,
    show row (iblk m c 3 t : Vec Ideal S8x5632 .f32) 2 = _ from row3 m c t 2]

theorem act_row (hx : Precedes (pre (found m c)) (num t) x) (r : Fin 256) (k : Fin 2816) :
    actRow (iblk m c 0 t) (iblk m c 1 t) (iblk m c 2 t) (iblk m c 3 t) (iblk m c 4 t) x r k = act (found m c) (at_ (num t) r) k := by
  rw [actRow, act, gated, conv_row hx, conv_row hx]

theorem out_row (hx : Precedes (pre (found m c)) (num t) x) (r : Fin 256) (k : Fin 1024) :
    outRow (iblk m c 0 t) (iblk m c 1 t) (iblk m c 2 t) (iblk m c 3 t) (iblk m c 4 t) (iblk m c 5 t) x r k = out (found m c) (at_ (num t) r) k := by
  rw [outRow, out]
  refine congrArg₂ (· + ·) (congrFun (row0 m c t r) k) (Finset.sum_congr rfl fun j _ => ?_)
  rw [act_row hx, at5]

theorem loss_term (hx : Precedes (pre (found m c)) (num t) x) :
    lossTerm (iblk m c 0 t) (iblk m c 1 t) (iblk m c 2 t) (iblk m c 3 t) (iblk m c 4 t) (iblk m c 5 t) (iblk m c 6 t) (iblk m c 7 t) x
      = part (found m c) (num t) := by
  rw [lossTerm, part]
  refine congrArg₂ (· * ·) rfl (Finset.sum_congr rfl fun r _ => congrArg₂ Ideal.div (Finset.sum_congr rfl fun k _ => ?_) rfl)
  rw [error, err, row6, row7, show outRow (iblk m c 0 t) (iblk m c 1 t) (iblk m c 2 t) (iblk m c 3 t) (iblk m c 4 t) (iblk m c 5 t) x r
    = out (found m c) (at_ (num t) r) from funext fun k => out_row hx r k]

variable (m c t)

/-- The carried rows after a point are the block's last rows. -/
theorem carry_at (q : Fin 8) (k : Fin 5632) : (outsAt0 m c t.val t.isLt).2.2.2.2.2.2 (ix2 q k) = pre (found m c) (at_ (num t) ⟨248 + q.val, by omega⟩) k := by
  by_cases h0 : t.val % 8 = 0
  · refine (congrFun (congrArg (fun p => p.2.2.2.2.2.2) (outsAt0_A m c t h0)) (ix2 q k)).trans ?_
    dsimp only
    rw [FwdBlock.carry_A]
    exact pre_row ..
  · refine (congrFun (congrArg (fun p => p.2.2.2.2.2.2) (outsAt0_B m c t h0)) (ix2 q k)).trans ?_
    dsimp only
    rw [FwdBlock.carry_B]
    exact pre_row ..

/-- The first point's carried rows: zero, there being no row before the first. -/
theorem precedes_A (h0 : t.val % 8 = 0) : Precedes (pre (found m c)) (num t) (k0_pay2 (F := Ideal)) := by
  intro k
  have ht := points t
  constructor
  · rw [pay2_at, behind, if_neg]
    simp only [at_, Fin.coe_ofNat_eq_mod]; omega
  · rw [pay2_at, behind, if_neg]
    simp only [at_, Fin.coe_ofNat_eq_mod]; omega

/-- A later point's: the last rows of the block before. -/
theorem precedes_B (h0 : ¬ t.val % 8 = 0) :
    Precedes (pre (found m c)) (num t) (outsAt0 m c (t.val - 1) (Nat.lt_of_le_of_lt (Nat.sub_le _ _) t.isLt)).2.2.2.2.2.2 := by
  intro k
  have ht := points t
  constructor
  · refine (carry_at m c ⟨t.val - 1, Nat.lt_of_le_of_lt (Nat.sub_le _ _) t.isLt⟩ 6 k).trans ?_
    rw [behind, if_pos (by simp only [at_, Fin.coe_ofNat_eq_mod]; omega)]
    exact congrFun (congrArg _ (Fin.ext (by simp only [at_, Fin.coe_ofNat_eq_mod]; omega))) k
  · refine (carry_at m c ⟨t.val - 1, Nat.lt_of_le_of_lt (Nat.sub_le _ _) t.isLt⟩ 7 k).trans ?_
    rw [behind, if_pos (by simp only [at_, Fin.coe_ofNat_eq_mod]; omega)]
    exact congrFun (congrArg _ (Fin.ext (by simp only [at_, Fin.coe_ofNat_eq_mod]; omega))) k

/-- The block of the normalised rows. -/
theorem hid_at (r : Fin 256) (k : Fin 1024) : (outsAt0 m c t.val t.isLt).1 (ix2 r k) = norm (found m c) (at_ (num t) r) k := by
  by_cases h0 : t.val % 8 = 0
  · refine (congrFun (congrArg (fun p => p.1) (outsAt0_A m c t h0)) (ix2 r k)).trans ?_
    dsimp only
    rw [FwdBlock.hid_A]
    exact hid_row ..
  · refine (congrFun (congrArg (fun p => p.1) (outsAt0_B m c t h0)) (ix2 r k)).trans ?_
    dsimp only
    rw [FwdBlock.hid_B]
    exact hid_row ..

/-- The block of the rows entering the convolution. -/
theorem pre_at (r : Fin 256) (k : Fin 5632) : (outsAt0 m c t.val t.isLt).2.1 (ix2 r k) = pre (found m c) (at_ (num t) r) k := by
  by_cases h0 : t.val % 8 = 0
  · refine (congrFun (congrArg (fun p => p.2.1) (outsAt0_A m c t h0)) (ix2 r k)).trans ?_
    dsimp only
    rw [FwdBlock.pre_A]
    exact pre_row ..
  · refine (congrFun (congrArg (fun p => p.2.1) (outsAt0_B m c t h0)) (ix2 r k)).trans ?_
    dsimp only
    rw [FwdBlock.pre_B]
    exact pre_row ..

/-- The block of the convolved rows. -/
theorem conv_at (r : Fin 256) (k : Fin 5632) : (outsAt0 m c t.val t.isLt).2.2.1 (ix2 r k) = conv (found m c) (at_ (num t) r) k := by
  by_cases h0 : t.val % 8 = 0
  · refine (congrFun (congrArg (fun p => p.2.2.1) (outsAt0_A m c t h0)) (ix2 r k)).trans ?_
    dsimp only
    rw [FwdBlock.conv_A]
    exact conv_row (precedes_A m c t h0) r k
  · refine (congrFun (congrArg (fun p => p.2.2.1) (outsAt0_B m c t h0)) (ix2 r k)).trans ?_
    dsimp only
    rw [FwdBlock.conv_B]
    exact conv_row (precedes_B m c t h0) r k

/-- The block of the gated activations. -/
theorem act_at (r : Fin 256) (k : Fin 2816) : (outsAt0 m c t.val t.isLt).2.2.2.1 (ix2 r k) = act (found m c) (at_ (num t) r) k := by
  by_cases h0 : t.val % 8 = 0
  · refine (congrFun (congrArg (fun p => p.2.2.2.1) (outsAt0_A m c t h0)) (ix2 r k)).trans ?_
    dsimp only
    rw [FwdBlock.act_A]
    exact act_row (precedes_A m c t h0) r k
  · refine (congrFun (congrArg (fun p => p.2.2.2.1) (outsAt0_B m c t h0)) (ix2 r k)).trans ?_
    dsimp only
    rw [FwdBlock.act_B]
    exact act_row (precedes_B m c t h0) r k

/-- The block of the output rows. -/
theorem out_at (r : Fin 256) (k : Fin 1024) : (outsAt0 m c t.val t.isLt).2.2.2.2.1 (ix2 r k) = out (found m c) (at_ (num t) r) k := by
  by_cases h0 : t.val % 8 = 0
  · refine (congrFun (congrArg (fun p => p.2.2.2.2.1) (outsAt0_A m c t h0)) (ix2 r k)).trans ?_
    dsimp only
    rw [FwdBlock.out_A]
    exact out_row (precedes_A m c t h0) r k
  · refine (congrFun (congrArg (fun p => p.2.2.2.2.1) (outsAt0_B m c t h0)) (ix2 r k)).trans ?_
    dsimp only
    rw [FwdBlock.out_B]
    exact out_row (precedes_B m c t h0) r k

/-- The block's part of the loss. -/
theorem loss_at (z : Fin 1) (q : Fin 8) (j : Fin 128) : (outsAt0 m c t.val t.isLt).2.2.2.2.2.1 (ix3 z q j) = part (found m c) (num t) := by
  by_cases h0 : t.val % 8 = 0
  · refine (congrFun (congrArg (fun p => p.2.2.2.2.2.1) (outsAt0_A m c t h0)) (ix3 z q j)).trans ?_
    dsimp only
    rw [FwdBlock.loss_A]
    exact loss_term (precedes_A m c t h0)
  · refine (congrFun (congrArg (fun p => p.2.2.2.2.2.1) (outsAt0_B m c t h0)) (ix3 z q j)).trans ?_
    dsimp only
    rw [FwdBlock.loss_B]
    exact loss_term (precedes_B m c t h0)

end Cert.FwdSweep

end
-- ==== Proof.FwdArrays.lean ====
/-
  The six arrays that the forward kernel leaves, entry by entry.
-/
module

public import proofs.«01_k».proof.Proof.FwdSweep
public import proofs.«01_k».proof.Proof.Gen.Kernel2Ideal.Value

@[expose] public section

set_option maxRecDepth 16384

noncomputable section

namespace Cert.FwdArrays

open Idealize.ShloMosaic Idealize.ShloMosaic.TcCoe Idealize.ShloMosaic.Pipeline Cert.Kernel2Ideal Cert.Kernel2Ideal.Gen Cert.Forward Cert.FwdBlocks

variable (m : (ℓ : Loc nD τ sig) → Buf (Elt Ideal) ℓ) (c : Dev nD)

theorem places : ∀ t : Fin cfg0.N, win0_8.index t = ![t.val, 0] ∧ win0_9.index t = ![t.val, 0] ∧ win0_10.index t = ![t.val, 0]
    ∧ win0_11.index t = ![t.val, 0] ∧ win0_12.index t = ![t.val, 0] ∧ win0_13.index t = ![t.val, 0, 0] := by
  decide +kernel

theorem array8 (s : Fin 2048) (k : Fin 1024) : (dats m 0 c).arrAt 8 cfg0.N (ix2 s k) = norm (found m c) s k := by
  have e : (dats m 0 c).arrAt 8 cfg0.N = fun i : S2048x1024.Idx => norm (found m c) (i 0) (i 1) := by
    refine (dats m 0 c).arrAt_eq_of_covers 8 _ (by decide +kernel) fun t hf y => ?_
    blk_simp
    rw [after0_8]
    obtain ⟨r, k, rfl⟩ : ∃ (r : Fin 256) (k : Fin 1024), y = ix2 r k := ⟨y 0, y 1, eq_ix2 y⟩
    refine (FwdSweep.hid_at m c t r k).trans ?_
    have := (places t).1
    refine congrArg₂ (norm (found m c)) (Fin.ext ?_) (Fin.ext ?_)
    · blk_simp [this, at_]
      first | done | (show 256 * t.val + r.val = t.val * 256 + r.val; omega)
    · blk_simp [this]
      first | done | (show _ = 0 * 1024 + k.val; omega)
  rw [e]; rfl

theorem array9 (s : Fin 2048) (k : Fin 5632) : (dats m 0 c).arrAt 9 cfg0.N (ix2 s k) = pre (found m c) s k := by
  have e : (dats m 0 c).arrAt 9 cfg0.N = fun i : S2048x5632.Idx => pre (found m c) (i 0) (i 1) := by
    refine (dats m 0 c).arrAt_eq_of_covers 9 _ (by decide +kernel) fun t hf y => ?_
    blk_simp
    rw [after0_9]
    obtain ⟨r, k, rfl⟩ : ∃ (r : Fin 256) (k : Fin 5632), y = ix2 r k := ⟨y 0, y 1, eq_ix2 y⟩
    refine (FwdSweep.pre_at m c t r k).trans ?_
    have := (places t).2.1
    refine congrArg₂ (pre (found m c)) (Fin.ext ?_) (Fin.ext ?_)
    · blk_simp [this, at_]
      first | done | (show 256 * t.val + r.val = t.val * 256 + r.val; omega)
    · blk_simp [this]
      first | done | (show _ = 0 * 5632 + k.val; omega)
  rw [e]; rfl

theorem array10 (s : Fin 2048) (k : Fin 5632) : (dats m 0 c).arrAt 10 cfg0.N (ix2 s k) = conv (found m c) s k := by
  have e : (dats m 0 c).arrAt 10 cfg0.N = fun i : S2048x5632.Idx => conv (found m c) (i 0) (i 1) := by
    refine (dats m 0 c).arrAt_eq_of_covers 10 _ (by decide +kernel) fun t hf y => ?_
    blk_simp
    rw [after0_10]
    obtain ⟨r, k, rfl⟩ : ∃ (r : Fin 256) (k : Fin 5632), y = ix2 r k := ⟨y 0, y 1, eq_ix2 y⟩
    refine (FwdSweep.conv_at m c t r k).trans ?_
    have := (places t).2.2.1
    refine congrArg₂ (conv (found m c)) (Fin.ext ?_) (Fin.ext ?_)
    · blk_simp [this, at_]
      first | done | (show 256 * t.val + r.val = t.val * 256 + r.val; omega)
    · blk_simp [this]
      first | done | (show _ = 0 * 5632 + k.val; omega)
  rw [e]; rfl

theorem array11 (s : Fin 2048) (k : Fin 2816) : (dats m 0 c).arrAt 11 cfg0.N (ix2 s k) = act (found m c) s k := by
  have e : (dats m 0 c).arrAt 11 cfg0.N = fun i : S2048x2816.Idx => act (found m c) (i 0) (i 1) := by
    refine (dats m 0 c).arrAt_eq_of_covers 11 _ (by decide +kernel) fun t hf y => ?_
    blk_simp
    rw [after0_11]
    obtain ⟨r, k, rfl⟩ : ∃ (r : Fin 256) (k : Fin 2816), y = ix2 r k := ⟨y 0, y 1, eq_ix2 y⟩
    refine (FwdSweep.act_at m c t r k).trans ?_
    have := (places t).2.2.2.1
    refine congrArg₂ (act (found m c)) (Fin.ext ?_) (Fin.ext ?_)
    · blk_simp [this, at_]
      first | done | (show 256 * t.val + r.val = t.val * 256 + r.val; omega)
    · blk_simp [this]
      first | done | (show _ = 0 * 2816 + k.val; omega)
  rw [e]; rfl

theorem array12 (s : Fin 2048) (k : Fin 1024) : (dats m 0 c).arrAt 12 cfg0.N (ix2 s k) = out (found m c) s k := by
  have e : (dats m 0 c).arrAt 12 cfg0.N = fun i : S2048x1024.Idx => out (found m c) (i 0) (i 1) := by
    refine (dats m 0 c).arrAt_eq_of_covers 12 _ (by decide +kernel) fun t hf y => ?_
    blk_simp
    rw [after0_12]
    obtain ⟨r, k, rfl⟩ : ∃ (r : Fin 256) (k : Fin 1024), y = ix2 r k := ⟨y 0, y 1, eq_ix2 y⟩
    refine (FwdSweep.out_at m c t r k).trans ?_
    have := (places t).2.2.2.2.1
    refine congrArg₂ (out (found m c)) (Fin.ext ?_) (Fin.ext ?_)
    · blk_simp [this, at_]
      first | done | (show 256 * t.val + r.val = t.val * 256 + r.val; omega)
    · blk_simp [this]
      first | done | (show _ = 0 * 1024 + k.val; omega)
  rw [e]; rfl

theorem array13 (n q : Fin 8) (j : Fin 128) : (dats m 0 c).arrAt 13 cfg0.N (ix3 n q j) = part (found m c) n := by
  have e : (dats m 0 c).arrAt 13 cfg0.N = fun i : S8x8x128.Idx => part (found m c) (i 0) := by
    refine (dats m 0 c).arrAt_eq_of_covers 13 _ (by decide +kernel) fun t hf y => ?_
    blk_simp
    rw [after0_13]
    obtain ⟨z, q, j, rfl⟩ : ∃ (z : Fin 1) (q : Fin 8) (j : Fin 128), y = ix3 z q j := ⟨y 0, y 1, y 2, eq_ix3 y⟩
    refine (FwdSweep.loss_at m c t z q j).trans ?_
    have := (places t).2.2.2.2.2
    refine congrArg (part (found m c)) (Fin.ext ?_)
    blk_simp [this]
    first | done | (show t.val = t.val * 1 + z.val; omega)
  rw [e]; rfl

end Cert.FwdArrays

end
-- ==== Proof.FwdReference.lean ====
/-
  What the forward reference computes, index by index, from its arguments.
-/
module

public import proofs.«01_k».proof.Proof.FwdBlocks
public import proofs.«01_k».proof.Proof.Gen.Reference2Ideal.Run
public import Idealize.ShloMosaic.Lib.KernelVsHost

@[expose] public section

set_option maxRecDepth 16384

noncomputable section

namespace Cert.FwdReference

open Idealize.ShloMosaic Idealize.ShloMosaic.TcCoe Cert.Reals Cert.Rows Cert.Reference2Ideal Cert.Reference2Ideal.Gen
open Cert.Reference2Ideal.Value Cert.Forward

/-! The stages of the program, each a function of the arrays that it reads. -/

/-- Rows over their root mean square, times a gain. -/
def normed (x : FVec Ideal S2048x1024 .f32) (g : FVec Ideal S1024 .f32) : FVec Ideal S2048x1024 .f32 :=
    mulf (mulf x (broadcastInDim S2048x1024 ![0, 1] bcast_S2048x1_S2048x1024_0_1 (Host.rsqrt (addf (Host.divf (broadcastInDim
    S2048x1 ![0] bcast_S2048_S2048x1_0 (Host.reduceAdd (mulf x x) (constant S_ .f32 0x00000000#32) reducesTo_S2048x1024_S2048_d1
    h_S_)) (broadcastInDim S2048x1 ![] bcast_S_S2048x1 (constant S_ .f32 0x44800000#32))) (broadcastInDim S2048x1 ![]
    bcast_S_S2048x1 (constant S_ .f32 0x358637BD#32)))))) (broadcastInDim S2048x1024 ![0, 1] bcast_S1x1024_S2048x1024_0_1
    (broadcastInDim S1x1024 ![1] bcast_S1024_S1x1024_1 g))

/-- The up-projection. -/
def projected (h : FVec Ideal S2048x1024 .f32) (w : FVec Ideal S1x1024x5632 .f32) : FVec Ideal S2048x5632 .f32 :=
    Host.dotGeneral dot_S2048x1024_S1024x5632_S2048x5632_1_0_0_1_n_n none h (shapeCast _ w shapeCasts_S1x1024x5632_S1024x5632)

/-- Two zero rows before the rows. -/
def padded (p : FVec Ideal S2048x5632 .f32) : FVec Ideal S2050x5632 .f32 :=
    concatenate S2050x5632 0 [⟨S2x5632, (broadcastInDim S2x5632 ![] bcast_S_S2x5632 (constant S_ .f32 0x00000000#32))⟩,
    ⟨S2048x5632, p⟩] concatenates_S2x5632_S2048x5632_S2050x5632_d0

/-- The taps times three shifts of the rows, and the bias. -/
def convolved (z : FVec Ideal S2050x5632 .f32) (w : FVec Ideal S1x3x5632 .f32) (b : FVec Ideal S1x5632 .f32) :
    FVec Ideal S2048x5632 .f32 :=
    addf (addf (addf (mulf (extractStridedSlice S2048x5632 ![0, 0] z slices_S2050x5632_S2048x5632_0_0) (broadcastInDim S2048x5632
    ![0, 1] bcast_S1x5632_S2048x5632_0_1 (broadcastInDim S1x5632 ![1] bcast_S5632_S1x5632_1 (shapeCast _ (extractStridedSlice
    S1x5632 ![0, 0] (shapeCast _ w shapeCasts_S1x3x5632_S3x5632) slices_S3x5632_S1x5632_0_0) shapeCasts_S1x5632_S5632)))) (mulf
    (extractStridedSlice S2048x5632 ![1, 0] z slices_S2050x5632_S2048x5632_1_0) (broadcastInDim S2048x5632 ![0, 1]
    bcast_S1x5632_S2048x5632_0_1 (broadcastInDim S1x5632 ![1] bcast_S5632_S1x5632_1 (shapeCast _ (extractStridedSlice S1x5632
    ![1, 0] (shapeCast _ w shapeCasts_S1x3x5632_S3x5632) slices_S3x5632_S1x5632_1_0) shapeCasts_S1x5632_S5632))))) (mulf
    (extractStridedSlice S2048x5632 ![2, 0] z slices_S2050x5632_S2048x5632_2_0) (broadcastInDim S2048x5632 ![0, 1]
    bcast_S1x5632_S2048x5632_0_1 (broadcastInDim S1x5632 ![1] bcast_S5632_S1x5632_1 (shapeCast _ (extractStridedSlice S1x5632
    ![2, 0] (shapeCast _ w shapeCasts_S1x3x5632_S3x5632) slices_S3x5632_S1x5632_2_0) shapeCasts_S1x5632_S5632)))))
    (broadcastInDim S2048x5632 ![0, 1] bcast_S1x5632_S2048x5632_0_1 (broadcastInDim S1x5632 ![1] bcast_S5632_S1x5632_1 (shapeCast
    _ b shapeCasts_S1x5632_S5632)))

/-- The gated activation. -/
def gated (v : FVec Ideal S2048x5632 .f32) : FVec Ideal S2048x2816 .f32 :=
    mulf (mulf (extractStridedSlice S2048x2816 ![0, 0] v slices_S2048x5632_S2048x2816_0_0) (Host.divf (broadcastInDim S2048x2816
    ![] bcast_S_S2048x2816 (constant S_ .f32 0x3F800000#32)) (addf (broadcastInDim S2048x2816 ![] bcast_S_S2048x2816 (constant S_
    .f32 0x3F800000#32)) (Host.exp (Host.negf (extractStridedSlice S2048x2816 ![0, 0] v slices_S2048x5632_S2048x2816_0_0))))))
    (extractStridedSlice S2048x2816 ![0, 2816] v slices_S2048x5632_S2048x2816_0_2816)

/-- The down-projection and the residual. -/
def added (x : FVec Ideal S2048x1024 .f32) (a : FVec Ideal S2048x2816 .f32) (w : FVec Ideal S1x2816x1024 .f32) :
    FVec Ideal S2048x1024 .f32 :=
    addf x (Host.dotGeneral dot_S2048x2816_S2816x1024_S2048x1024_1_0_0_1_n_n none a (shapeCast _ w
    shapeCasts_S1x2816x1024_S2816x1024))

/-- The squared error. -/
def squared (n t : FVec Ideal S2048x1024 .f32) : FVec Ideal S2048x1024 .f32 := mulf (subf n t) (subf n t)

/-- The loss's parts: for each block half the sum of its rows' means. -/
def parts (e : FVec Ideal S2048x1024 .f32) : FVec Ideal S8x8x128 .f32 :=
    broadcastInDim S8x8x128 ![0, 1, 2] bcast_S8x1x1_S8x8x128_0_1_2 (broadcastInDim S8x1x1 ![0] bcast_S8_S8x1x1_0 (mulf
    (broadcastInDim S8 ![] bcast_S_S8 (constant S_ .f32 0x3F000000#32)) (Host.reduceAdd (shapeCast _ (Host.divf (Host.reduceAdd e
    (constant S_ .f32 0x00000000#32) reducesTo_S2048x1024_S2048_d1 h_S_) (broadcastInDim S2048 ![] bcast_S_S2048 (constant S_
    .f32 0x44800000#32))) shapeCasts_S2048_S8x256) (constant S_ .f32 0x00000000#32) reducesTo_S8x256_S8_d1 h_S_)))

variable (s : Fin 2048) (k : Fin 1024) (c : Fin 5632) (j : Fin 2816)

/-- A row over its root mean square, times the gain. -/
theorem normed_at (x : FVec Ideal S2048x1024 .f32) (g : FVec Ideal S1024 .f32) :
    normed x g (ix2 s k) = x (ix2 s k) * invRms (fun l => x (ix2 s l)) * g (ix1 k) := by
  pointwise [normed]
  rfl

/-- A row times the up-projection. -/
theorem projected_at (h : FVec Ideal S2048x1024 .f32) (w : FVec Ideal S1x1024x5632 .f32) :
    projected h w (ix2 s c) = ∑ k, h (ix2 s k) * w (ix3 0 k c) := by
  pointwise [projected]

/-- The first two rows are zero, and the rest are the rows. -/
theorem padded_at (p : FVec Ideal S2048x5632 .f32) (r : Fin 2050) :
    padded p (ix2 r c) = if h : r.val < 2 then 0 else p (ix2 ⟨r.val - 2, by have := r.isLt; omega⟩ c) := by
  pointwise [padded]

/-- The three taps, at rows `s`, `s + 1` and `s + 2` of the padded rows, and the bias. -/
theorem convolved_at (z : FVec Ideal S2050x5632 .f32) (w : FVec Ideal S1x3x5632 .f32) (b : FVec Ideal S1x5632 .f32) :
    convolved z w b (ix2 s c) = z (ix2 ⟨s.val, by have := s.isLt; omega⟩ c) * w (ix3 0 0 c)
      + z (ix2 ⟨1 + s.val, by have := s.isLt; omega⟩ c) * w (ix3 0 1 c)
      + z (ix2 ⟨2 + s.val, by have := s.isLt; omega⟩ c) * w (ix3 0 2 c) + b (ix2 0 c) := by
  pointwise [convolved]

/-- The first half of the row through `silu`, times the second half. -/
theorem gated_at (v : FVec Ideal S2048x5632 .f32) :
    gated v (ix2 s j) = v (ix2 s (lo j)) * logi (v (ix2 s (lo j))) * v (ix2 s (hi j)) := by
  pointwise [gated]
  rfl

/-- The input row and the down-projection. -/
theorem added_at (x : FVec Ideal S2048x1024 .f32) (a : FVec Ideal S2048x2816 .f32) (w : FVec Ideal S1x2816x1024 .f32) :
    added x a w (ix2 s k) = x (ix2 s k) + ∑ j, a (ix2 s j) * w (ix3 0 j k) := by
  pointwise [added]

/-- Block `n`'s part is the half of the sum of the means of its rows. -/
theorem parts_at (e : FVec Ideal S2048x1024 .f32) (n q : Fin 8) (l : Fin 128) :
    parts e (ix3 n q l) = half * ∑ r, Ideal.div (∑ k, e (ix2 (FwdBlocks.at_ n r) k)) width := by
  pointwise [parts]
  refine congrArg (half * ·) (Finset.sum_congr rfl fun r _ => ?_)
  have hr : (⟨n.val * 256 + r.val, by have := r.isLt; have := n.isLt; omega⟩ : Fin 2048) = FwdBlocks.at_ n r :=
    Fin.ext (by simp only [FwdBlocks.at_]; omega)
  rw [← hr]

variable (m : (ℓ : Loc nD τ sig) → Buf (Elt Ideal) ℓ) (d : Dev nD)

/-- The program's arguments. -/
def inputs : Inputs where
  x := fun s k => (m (d.tc.loc main_arg0) : Vec Ideal S2048x1024 .f32) (ix2 s k)
  g := fun k => (m (d.tc.loc main_arg1) : Vec Ideal S1x1024 .f32) (ix2 0 k)
  wup := fun k j => (m (d.tc.loc main_arg2) : Vec Ideal S1x1024x5632 .f32) (ix3 0 k j)
  cw := fun q j => (m (d.tc.loc main_arg3) : Vec Ideal S1x3x5632 .f32) (ix3 0 q j)
  cb := fun j => (m (d.tc.loc main_arg4) : Vec Ideal S1x5632 .f32) (ix2 0 j)
  wdn := fun j k => (m (d.tc.loc main_arg5) : Vec Ideal S1x2816x1024 .f32) (ix3 0 j k)
  gf := fun k => (m (d.tc.loc main_arg6) : Vec Ideal S1024 .f32) (ix1 k)
  t := fun s k => (m (d.tc.loc main_arg7) : Vec Ideal S2048x1024 .f32) (ix2 s k)

/-! The program's intermediate arrays, stage after stage. -/

/-- The normalised rows. -/
def rowsH : FVec Ideal S2048x1024 .f32 :=
  normed (m (d.tc.loc main_arg0)) (shapeCast _ (m (d.tc.loc main_arg1)) shapeCasts_S1x1024_S1024)

/-- The rows that enter the convolution. -/
def rowsP : FVec Ideal S2048x5632 .f32 := projected (rowsH m d) (m (d.tc.loc main_arg2))

/-- The convolved rows. -/
def rowsV : FVec Ideal S2048x5632 .f32 :=
  convolved (padded (rowsP m d)) (m (d.tc.loc main_arg3)) (m (d.tc.loc main_arg4))

/-- The gated rows. -/
def rowsA : FVec Ideal S2048x2816 .f32 := gated (rowsV m d)

/-- The layer's output. -/
def rowsO : FVec Ideal S2048x1024 .f32 := added (m (d.tc.loc main_arg0)) (rowsA m d) (m (d.tc.loc main_arg5))

/-- The loss's parts. -/
def rowsL : FVec Ideal S8x8x128 .f32 :=
  parts (squared (normed (rowsO m d) (m (d.tc.loc main_arg6))) (m (d.tc.loc main_arg7)))

/-- They are the normalised rows of the model. -/
theorem rowsH_at : rowsH m d (ix2 s k) = norm (inputs m d) s k := by
  rw [rowsH, normed_at]
  pointwise []
  rfl

/-- They are the model's rows before the convolution. -/
theorem rowsP_at : rowsP m d (ix2 s c) = pre (inputs m d) s c := by
  rw [rowsP, projected_at]
  exact Finset.sum_congr rfl fun k _ => by rw [rowsH_at]; rfl

/-- They are the model's convolved rows. -/
theorem rowsV_at : rowsV m d (ix2 s c) = conv (inputs m d) s c := by
  rw [rowsV, convolved_at, conv, behind_two, behind_one]
  simp only [padded_at, rowsP_at]
  have h2 : ¬ 2 + s.val < 2 := by omega
  have hs : (⟨2 + s.val - 2, by have := s.isLt; omega⟩ : Fin 2048) = s := Fin.ext (by simp only []; omega)
  rw [dif_neg h2, hs]
  rfl

/-- They are the model's gated rows. -/
theorem rowsA_at : rowsA m d (ix2 s j) = act (inputs m d) s j := by
  rw [rowsA, gated_at, rowsV_at, rowsV_at]
  rfl

/-- They are the model's output rows. -/
theorem rowsO_at : rowsO m d (ix2 s k) = out (inputs m d) s k := by
  rw [rowsO, added_at]
  simp only [rowsA_at]
  rfl

/-- They are the model's parts of the loss. -/
theorem rowsL_at (n q : Fin 8) (l : Fin 128) : rowsL m d (ix3 n q l) = FwdBlocks.part (inputs m d) n := by
  rw [rowsL, parts_at, FwdBlocks.part]
  refine congrArg (half * ·) (Finset.sum_congr rfl fun r _ => congrArg (Ideal.div · width) (Finset.sum_congr rfl fun k _ => ?_))
  pointwise [squared]
  rw [normed_at]
  simp only [rowsO_at]
  rfl

/-! The program's results are these arrays. -/

/-- The third result is the convolved rows. -/
theorem result2 : (res_main_v74 m d : Vec Ideal S2048x5632 .bf16) = truncf .bf16 (rowsV m d) bitsLt_bf16_f32 := rfl

/-- The fourth result is the gated rows. -/
theorem result3 : (res_main_v75 m d : Vec Ideal S2048x2816 .bf16) = truncf .bf16 (rowsA m d) bitsLt_bf16_f32 := rfl

/-- The fifth result is the layer's output. -/
theorem result4 : (res_main_v49 m d : Vec Ideal S2048x1024 .f32) = rowsO m d := rfl

/-- The sixth result is the loss's parts. -/
theorem result5 : (res_main_v77 m d : Vec Ideal S8x8x128 .f32) = rowsL m d := rfl

end Cert.FwdReference

end
-- ==== Proof.FwdEquation.lean ====
/-
  The forward kernel and its reference compute the same six arrays from the same arguments.
-/
module

public import proofs.«01_k».proof.Proof.FwdHost
public import proofs.«01_k».proof.Proof.FwdArrays
public import proofs.«01_k».proof.Proof.FwdReference
public import proofs.«01_k».proof.Defs

@[expose] public section

set_option maxRecDepth 16384

noncomputable section

namespace Cert.FwdEquation

open Idealize.ShloMosaic Idealize.ShloMosaic.TcCoe Idealize.SL.Sem Cert.Reals Cert.Forward

/-- On all arguments the kernel computes what the reference computes. -/
theorem algebraic : Cert.algebraic_Kernel2Ideal_Reference2Ideal (hKernel2Ideal := Cert.Kernel2Ideal.Gen.facts)
    (hReference2Ideal := Cert.Reference2Ideal.Gen.facts) := by
  intro m g m' g' _ hargs
  have hin : ∀ c : Dev Cert.Kernel2Ideal.nD, FwdBlocks.found m c = FwdReference.inputs m' c := fun c => by
    obtain ⟨h0, h1, h2, h3, h4, h5, h6, h7⟩ := hargs c
    rw [FwdHost.found_eq]
    symm
    unfold FwdReference.inputs FwdHost.inputs
    congr 1
    · exact funext fun s => funext fun k => congrFun h0 (ix2 s k)
    · exact funext fun k => congrFun h1 (ix2 0 k)
    · exact funext fun k => funext fun j => congrFun h2 (ix3 0 k j)
    · exact funext fun q => funext fun j => congrFun h3 (ix3 0 q j)
    · exact funext fun j => congrFun h4 (ix2 0 j)
    · exact funext fun j => funext fun k => congrFun h5 (ix3 0 j k)
    · exact funext fun k => congrFun h6 (ix1 k)
    · exact funext fun s => funext fun k => congrFun h7 (ix2 s k)
  refine ⟨_, _, _, _, _, _, Cert.Kernel2Ideal.Value.run_blocks m g, ?_⟩
  refine (θ_run Cert.Reference2Ideal.defs _ _).mono (fun r hr c => ?_) (Cert.Reference2Ideal.Value.run m' g')
  obtain ⟨r0, r1, r2, r3, r4, r5, hr⟩ := hr c
  refine ⟨r0.trans ?_, r1.trans ?_, r2.trans ?_, r3.trans ?_, r4.trans ?_, r5.trans ?_, hr⟩
  · funext y
    obtain ⟨s, k, rfl⟩ : ∃ (s : Fin 2048) (k : Fin 1024), y = ix2 s k := ⟨y 0, y 1, eq_ix2 y⟩
    refine (FwdReference.rowsH_at s k m' c).trans ((FwdArrays.array8 m c s k).trans ?_).symm
    rw [hin c]
  · funext y
    obtain ⟨s, k, rfl⟩ : ∃ (s : Fin 2048) (k : Fin 5632), y = ix2 s k := ⟨y 0, y 1, eq_ix2 y⟩
    refine (FwdReference.rowsP_at s k m' c).trans ((FwdArrays.array9 m c s k).trans ?_).symm
    rw [hin c]
  · rw [FwdReference.result2]
    funext y
    obtain ⟨s, k, rfl⟩ : ∃ (s : Fin 2048) (k : Fin 5632), y = ix2 s k := ⟨y 0, y 1, eq_ix2 y⟩
    refine (FwdReference.rowsV_at s k m' c).trans ((FwdArrays.array10 m c s k).trans ?_).symm
    rw [hin c]
  · rw [FwdReference.result3]
    funext y
    obtain ⟨s, k, rfl⟩ : ∃ (s : Fin 2048) (k : Fin 2816), y = ix2 s k := ⟨y 0, y 1, eq_ix2 y⟩
    refine (FwdReference.rowsA_at s k m' c).trans ((FwdArrays.array11 m c s k).trans ?_).symm
    rw [hin c]
  · rw [FwdReference.result4]
    funext y
    obtain ⟨s, k, rfl⟩ : ∃ (s : Fin 2048) (k : Fin 1024), y = ix2 s k := ⟨y 0, y 1, eq_ix2 y⟩
    refine (FwdReference.rowsO_at s k m' c).trans ((FwdArrays.array12 m c s k).trans ?_).symm
    rw [hin c]
  · rw [FwdReference.result5]
    funext y
    obtain ⟨n, q, l, rfl⟩ : ∃ (n q : Fin 8) (l : Fin 128), y = ix3 n q l := ⟨y 0, y 1, y 2, eq_ix3 y⟩
    refine (FwdReference.rowsL_at m' c n q l).trans ((FwdArrays.array13 m c n q l).trans ?_).symm
    rw [hin c]

end Cert.FwdEquation

end
-- ==== Proof.Wgrad.lean ====
/-
  The gradient of the output projection's weights: the kernel computes it in two blocks of 512 columns, the reference as one derivative.
-/
module

public import proofs.«01_k».proof.Proof.Stores
public import proofs.«01_k».proof.Proof.Gen.Kernel3Ideal.Value
public import proofs.«01_k».proof.Proof.Gen.Reference3Ideal.Run
public import proofs.«01_k».proof.Defs

@[expose] public section

set_option maxRecDepth 16384

noncomputable section

namespace Cert.Wgrad

open Idealize.ShloMosaic Idealize.ShloMosaic.TcCoe Idealize.ShloMosaic.Pipeline Idealize.SL.Sem Cert.Kernel3Ideal Cert.Kernel3Ideal.Gen

/-- One block: the rows of the first factor against the rows of the second, summed over the sequence. -/
theorem block (x0 : Vec Ideal S2048x1024 .bf16) (x1 : Vec Ideal S2048x512 .f32) (k : Fin 1024) (l : Fin 512) :
    out0_2 x0 x1 (ix2 k l) = ∑ s, (x0 (ix2 s k) * x1 (ix2 s l) : EReal) := by
  unfold out0_2
  frame_out
  pointwise [k0_pay1]

variable (m : (ℓ : Loc nD τ sig) → Buf (Elt Ideal) ℓ) (c : Dev nD)

/-- The mixed rows, an argument. -/
def rows (s : Fin 2048) (k : Fin 1024) : EReal := (m (c.tc.loc main_arg0) : Vec Ideal S2048x1024 .f32) (ix2 s k)

/-- The gradient at the projection's output, an argument. -/
def grad (s : Fin 2048) (k : Fin 1024) : EReal := (m (c.tc.loc main_arg1) : Vec Ideal S2048x1024 .f32) (ix2 s k)

/-- The host's cast keeps the mixed rows. -/
theorem host (s : Fin 2048) (k : Fin 1024) : (V m c main_v0 : Vec Ideal S2048x1024 .bf16) (ix2 s k) = rows m c s k := by
  unfold V
  simp only [hostOps0, List.flatten_cons, List.flatten_nil, List.append_nil, List.cons_append, List.nil_append]
  simp only [StableHlo.after_cons, StableHlo.after_nil]
  after_results_simp
  pointwise
  rfl

theorem places : ∀ t : Fin cfg0.N, win0_0.index t = ![0, 0] ∧ win0_1.index t = ![0, t.val] ∧ win0_2.index t = ![0, t.val] := by
  decide +kernel

theorem points (t : Fin cfg0.N) : t.val < 2 := lt_of_lt_of_eq t.isLt (by decide +kernel)

/-- Column `l` of block `t`. -/
abbrev col (t : Fin cfg0.N) (l : Fin 512) : Fin 1024 := ⟨512 * t.val + l.val, by have := points t; have := l.isLt; omega⟩

theorem first (t : Fin cfg0.N) (s : Fin 2048) (k : Fin 1024) : (iblk m c 0 t : Vec Ideal S2048x1024 .bf16) (ix2 s k) = rows m c s k := by
  have := (places t).1
  rw [← host]
  blk_ext [iblk, this]

theorem second (t : Fin cfg0.N) (s : Fin 2048) (l : Fin 512) :
    (iblk m c 1 t : Vec Ideal S2048x512 .f32) (ix2 s l) = grad m c s (col t l) := by
  have := (places t).2.1
  have h : grad m c s (col t l) = (V m c main_arg1 : Vec Ideal S2048x1024 .f32) (ix2 s (col t l)) := by rw [V_main_arg1]; rfl
  rw [h]
  blk_ext [iblk, this, col]

/-- The array that the kernel leaves. -/
theorem array (k l : Fin 1024) : (dats m 0 c).arrAt 2 cfg0.N (ix2 k l) = ∑ s, rows m c s k * grad m c s l := by
  have e : (dats m 0 c).arrAt 2 cfg0.N = fun i : S1024x1024.Idx => ∑ s, rows m c s (i 0) * grad m c s (i 1) := by
    refine (dats m 0 c).arrAt_eq_of_covers 2 _ (by decide +kernel) fun t hf y => ?_
    blk_simp
    rw [after0_2]
    obtain ⟨k, l, rfl⟩ : ∃ (k : Fin 1024) (l : Fin 512), y = ix2 k l := ⟨y 0, y 1, eq_ix2 y⟩
    refine (block _ _ k l).trans (Finset.sum_congr rfl fun s _ => ?_)
    rw [first, second]
    have := (places t).2.2
    refine congrArg₂ (fun a b => rows m c s a * grad m c s b) (Fin.ext ?_) (Fin.ext ?_)
    · blk_simp [this]
      first | done | (show k.val = 0 * 1024 + k.val; omega)
    · blk_simp [this]
      first | done | (show 512 * t.val + l.val = t.val * 512 + l.val; omega)
  rw [e]; rfl

/-- The kernel computes what the derivative of the projection with respect to its weights is. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨_, Cert.Kernel3Ideal.Value.run_blocks m g, ?_⟩
  refine (θ_run Cert.Reference3Ideal.defs _ _).mono (fun r hr c => ?_) (Cert.Reference3Ideal.Value.run m' g')
  obtain ⟨r0, hr⟩ := hr c
  obtain ⟨h0, h1, -⟩ := hargs c
  refine ⟨r0.trans ?_, hr⟩
  funext y
  obtain ⟨k, l, rfl⟩ : ∃ (k l : Fin 1024), y = ix2 k l := ⟨y 0, y 1, eq_ix2 y⟩
  refine Eq.trans ?_ (array m c k l).symm
  rw [h0, h1]
  pointwise
  exact Finset.sum_congr rfl fun s _ => mul_comm _ _

end Cert.Wgrad

end
-- ==== Proof.WgradUp.lean ====
/-
  The gradient of the up-projection's weights: the kernel computes it in eight blocks of 704 columns, the reference as one derivative.
-/
module

public import proofs.«01_k».proof.Proof.Stores
public import proofs.«01_k».proof.Proof.Gen.Kernel5Ideal.Value
public import proofs.«01_k».proof.Proof.Gen.Reference5Ideal.Run
public import proofs.«01_k».proof.Defs

@[expose] public section

set_option maxRecDepth 16384

noncomputable section

namespace Cert.WgradUp

open Idealize.ShloMosaic Idealize.ShloMosaic.TcCoe Idealize.ShloMosaic.Pipeline Idealize.SL.Sem Cert.Kernel5Ideal Cert.Kernel5Ideal.Gen

/-- One block: the rows of the first factor against the rows of the second, summed over the sequence. -/
theorem block (x0 : Vec Ideal S2048x1024 .bf16) (x1 : Vec Ideal S1x2048x704 .bf16) (k : Fin 1024) (l : Fin 704) :
    out0_2 x0 x1 (ix3 0 k l) = ∑ s, (x0 (ix2 s k) * x1 (ix3 0 s l) : EReal) := by
  unfold out0_2
  frame_out
  pointwise [k0_pay1]

variable (m : (ℓ : Loc nD τ sig) → Buf (Elt Ideal) ℓ) (c : Dev nD)

/-- The normed rows, an argument. -/
def rows (s : Fin 2048) (k : Fin 1024) : EReal := (m (c.tc.loc main_arg0) : Vec Ideal S2048x1024 .f32) (ix2 s k)

/-- The gradient at the projection's output, an argument. -/
def grad (s : Fin 2048) (k : Fin 5632) : EReal := (m (c.tc.loc main_arg1) : Vec Ideal S2048x5632 .f32) (ix2 s k)

/-- Column `l` of block `j`. -/
abbrev col (j : Fin 8) (l : Fin 704) : Fin 5632 := ⟨j.val * 704 + l.val, by have := j.isLt; have := l.isLt; omega⟩

/-- The host's cast keeps the rows. -/
theorem host_rows (s : Fin 2048) (k : Fin 1024) : (V m c main_v2 : Vec Ideal S2048x1024 .bf16) (ix2 s k) = rows m c s k := by
  unfold V
  simp only [hostOps0, List.flatten_cons, List.flatten_nil, List.append_nil, List.cons_append, List.nil_append]
  simp only [StableHlo.after_cons, StableHlo.after_nil]
  after_results_simp
  pointwise
  rfl

/-- The host puts block `j` of the gradient's columns in slab `j`. -/
theorem host_grad (j : Fin 8) (s : Fin 2048) (l : Fin 704) :
    (V m c main_v3 : Vec Ideal S8x2048x704 .bf16) (ix3 j s l) = grad m c s (col j l) := by
  unfold V
  simp only [hostOps0, List.flatten_cons, List.flatten_nil, List.append_nil, List.cons_append, List.nil_append]
  simp only [StableHlo.after_cons, StableHlo.after_nil]
  after_results_simp
  pointwise
  rfl

theorem places : ∀ t : Fin cfg0.N, win0_0.index t = ![0, 0] ∧ win0_1.index t = ![t.val, 0, 0] ∧ win0_2.index t = ![t.val, 0, 0] := by
  decide +kernel

theorem points (t : Fin cfg0.N) : t.val < 8 := lt_of_lt_of_eq t.isLt (by decide +kernel)

/-- The block that point `t` computes. -/
abbrev at_ (t : Fin cfg0.N) : Fin 8 := ⟨t.val, points t⟩

theorem first (t : Fin cfg0.N) (s : Fin 2048) (k : Fin 1024) : (iblk m c 0 t : Vec Ideal S2048x1024 .bf16) (ix2 s k) = rows m c s k := by
  have := (places t).1
  rw [← host_rows]
  blk_ext [iblk, this]

theorem second (t : Fin cfg0.N) (s : Fin 2048) (l : Fin 704) :
    (iblk m c 1 t : Vec Ideal S1x2048x704 .bf16) (ix3 0 s l) = grad m c s (col (at_ t) l) := by
  have := (places t).2.1
  rw [← host_grad]
  blk_ext [iblk, this]

/-- A place of a one-slab block is a row and a column. -/
theorem one_slab (y : S1x1024x704.Idx) : ∃ (k : Fin 1024) (l : Fin 704), y = ix3 0 k l :=
  ⟨y 1, y 2, (eq_ix3 y).trans (congrArg (fun z : Fin 1 => ix3 z (y 1) (y 2)) (Subsingleton.elim _ _))⟩

/-- The array that the kernel leaves. -/
theorem array (j : Fin 8) (k : Fin 1024) (l : Fin 704) :
    (dats m 0 c).arrAt 2 cfg0.N (ix3 j k l) = ∑ s, rows m c s k * grad m c s (col j l) := by
  have e : (dats m 0 c).arrAt 2 cfg0.N = fun i : S8x1024x704.Idx => ∑ s, rows m c s (i 1) * grad m c s (col (i 0) (i 2)) := by
    refine (dats m 0 c).arrAt_eq_of_covers 2 _ (by decide +kernel) fun t hf y => ?_
    blk_simp
    rw [after0_2]
    obtain ⟨k, l, rfl⟩ : ∃ (k : Fin 1024) (l : Fin 704), y = ix3 0 k l :=
      one_slab y
    refine (block _ _ k l).trans (Finset.sum_congr rfl fun s _ => ?_)
    rw [first, second]
    have := (places t).2.2
    have key : ∀ (a : Fin 8) (b : Fin 1024) (d : Fin 704), a = at_ t → b = k → d = l → rows m c s k * grad m c s (col (at_ t) l) = rows m c s b * grad m c s (col a d) := by
      rintro _ _ _ rfl rfl rfl; rfl
    refine key _ _ _ (Fin.ext ?_) (Fin.ext ?_) (Fin.ext ?_) <;> blk_simp [this]
    exact Nat.add_zero t.val
  rw [e]; rfl

/-- The kernel computes what the derivative of the projection with respect to its weights is. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨_, Cert.Kernel5Ideal.Value.run_blocks m g, ?_⟩
  refine (θ_run Cert.Reference5Ideal.defs _ _).mono (fun r hr c => ?_) (Cert.Reference5Ideal.Value.run m' g')
  obtain ⟨r0, hr⟩ := hr c
  obtain ⟨h0, h1, -⟩ := hargs c
  refine ⟨r0.trans ?_, hr⟩
  funext y
  obtain ⟨j, k, l, rfl⟩ : ∃ (j : Fin 8) (k : Fin 1024) (l : Fin 704), y = ix3 j k l := ⟨y 0, y 1, y 2, eq_ix3 y⟩
  refine Eq.trans ?_ (array m c j k l).symm
  rw [h0, h1]
  pointwise
  exact Finset.sum_congr rfl fun s _ => mul_comm _ _

end Cert.WgradUp

end
-- ==== Proof.WgradIn.lean ====
/-
  The gradient of the input projection's weights: the kernel computes it in four blocks of 768 columns, the reference as one derivative.
-/
module

public import proofs.«01_k».proof.Proof.Stores
public import proofs.«01_k».proof.Proof.Gen.Kernel6Ideal.Value
public import proofs.«01_k».proof.Proof.Gen.Reference6Ideal.Run
public import proofs.«01_k».proof.Defs

@[expose] public section

set_option maxRecDepth 16384

noncomputable section

namespace Cert.WgradIn

open Idealize.ShloMosaic Idealize.ShloMosaic.TcCoe Idealize.ShloMosaic.Pipeline Idealize.SL.Sem Cert.Kernel6Ideal Cert.Kernel6Ideal.Gen

/-- One block: the rows of the first factor against the rows of the second, summed over the sequence. -/
theorem block (x0 : Vec Ideal S2048x1024 .bf16) (x1 : Vec Ideal S2048x768 .bf16) (k : Fin 1024) (l : Fin 768) :
    out0_2 x0 x1 (ix3 0 k l) = ∑ s, (x0 (ix2 s k) * x1 (ix2 s l) : EReal) := by
  unfold out0_2
  frame_out
  pointwise [k0_pay1]

variable (m : (ℓ : Loc nD τ sig) → Buf (Elt Ideal) ℓ) (c : Dev nD)

/-- The normed rows, an argument. -/
def rows (s : Fin 2048) (k : Fin 1024) : EReal := (m (c.tc.loc main_arg0) : Vec Ideal S2048x1024 .f32) (ix2 s k)

/-- The gradient at the projection's output, an argument. -/
def grad (s : Fin 2048) (k : Fin 3072) : EReal := (m (c.tc.loc main_arg1) : Vec Ideal S2048x3072 .f32) (ix2 s k)

/-- The host's cast keeps the rows. -/
theorem host_rows (s : Fin 2048) (k : Fin 1024) : (V m c main_v0 : Vec Ideal S2048x1024 .bf16) (ix2 s k) = rows m c s k := by
  unfold V
  simp only [hostOps0, List.flatten_cons, List.flatten_nil, List.append_nil, List.cons_append, List.nil_append]
  simp only [StableHlo.after_cons, StableHlo.after_nil]
  after_results_simp
  pointwise
  rfl

/-- The host's cast keeps the gradient. -/
theorem host_grad (s : Fin 2048) (k : Fin 3072) : (V m c main_v1 : Vec Ideal S2048x3072 .bf16) (ix2 s k) = grad m c s k := by
  unfold V
  simp only [hostOps0, List.flatten_cons, List.flatten_nil, List.append_nil, List.cons_append, List.nil_append]
  simp only [StableHlo.after_cons, StableHlo.after_nil]
  after_results_simp
  pointwise
  rfl

theorem places : ∀ t : Fin cfg0.N, win0_0.index t = ![0, 0] ∧ win0_1.index t = ![0, t.val] ∧ win0_2.index t = ![0, 0, t.val] := by
  decide +kernel

theorem points (t : Fin cfg0.N) : t.val < 4 := lt_of_lt_of_eq t.isLt (by decide +kernel)

/-- Column `l` of block `t`. -/
abbrev col (t : Fin cfg0.N) (l : Fin 768) : Fin 3072 := ⟨768 * t.val + l.val, by have := points t; have := l.isLt; omega⟩

theorem first (t : Fin cfg0.N) (s : Fin 2048) (k : Fin 1024) : (iblk m c 0 t : Vec Ideal S2048x1024 .bf16) (ix2 s k) = rows m c s k := by
  have := (places t).1
  rw [← host_rows]
  blk_ext [iblk, this]

theorem second (t : Fin cfg0.N) (s : Fin 2048) (l : Fin 768) :
    (iblk m c 1 t : Vec Ideal S2048x768 .bf16) (ix2 s l) = grad m c s (col t l) := by
  have := (places t).2.1
  rw [← host_grad]
  blk_ext [iblk, this, col]

/-- A place of a one-slab block is a row and a column. -/
theorem one_slab (y : S1x1024x768.Idx) : ∃ (k : Fin 1024) (l : Fin 768), y = ix3 0 k l :=
  ⟨y 1, y 2, (eq_ix3 y).trans (congrArg (fun z : Fin 1 => ix3 z (y 1) (y 2)) (Subsingleton.elim _ _))⟩

/-- The array that the kernel leaves. -/
theorem array (j : Fin 1) (k : Fin 1024) (l : Fin 3072) : (dats m 0 c).arrAt 2 cfg0.N (ix3 j k l) = ∑ s, rows m c s k * grad m c s l := by
  have e : (dats m 0 c).arrAt 2 cfg0.N = fun i : S1x1024x3072.Idx => ∑ s, rows m c s (i 1) * grad m c s (i 2) := by
    refine (dats m 0 c).arrAt_eq_of_covers 2 _ (by decide +kernel) fun t hf y => ?_
    blk_simp
    rw [after0_2]
    obtain ⟨k, l, rfl⟩ : ∃ (k : Fin 1024) (l : Fin 768), y = ix3 0 k l :=
      one_slab y
    refine (block _ _ k l).trans (Finset.sum_congr rfl fun s _ => ?_)
    rw [first, second]
    have := (places t).2.2
    refine congrArg₂ (fun a b => rows m c s a * grad m c s b) (Fin.ext ?_) (Fin.ext ?_)
    · blk_simp [this]
    · blk_simp [this]
      show 768 * t.val + l.val = t.val * 768 + l.val
      omega
  rw [e]; rfl

/-- The kernel computes what the derivative of the projection with respect to its weights is. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨_, Cert.Kernel6Ideal.Value.run_blocks m g, ?_⟩
  refine (θ_run Cert.Reference6Ideal.defs _ _).mono (fun r hr c => ?_) (Cert.Reference6Ideal.Value.run m' g')
  obtain ⟨r0, hr⟩ := hr c
  obtain ⟨h0, h1, -⟩ := hargs c
  refine ⟨r0.trans ?_, hr⟩
  funext y
  obtain ⟨j, k, l, rfl⟩ : ∃ (j : Fin 1) (k : Fin 1024) (l : Fin 3072), y = ix3 j k l := ⟨y 0, y 1, y 2, eq_ix3 y⟩
  refine Eq.trans ?_ (array m c j k l).symm
  rw [h0, h1]
  pointwise
  exact Finset.sum_congr rfl fun s _ => mul_comm _ _

end Cert.WgradIn

end
-- ==== Proof.WgradDown.lean ====
/-
  The gradient of the down-projection's weights: the kernel computes it in four blocks of 704 rows, the reference as one derivative.
-/
module

public import proofs.«01_k».proof.Proof.Stores
public import proofs.«01_k».proof.Proof.Gen.Kernel7Ideal.Value
public import proofs.«01_k».proof.Proof.Gen.Reference7Ideal.Run
public import proofs.«01_k».proof.Defs

@[expose] public section

set_option maxRecDepth 16384

noncomputable section

namespace Cert.WgradDown

open Idealize.ShloMosaic Idealize.ShloMosaic.TcCoe Idealize.ShloMosaic.Pipeline Idealize.SL.Sem Cert.Kernel7Ideal Cert.Kernel7Ideal.Gen

/-- One block: the rows of the first factor against the rows of the second, summed over the sequence. -/
theorem block (x0 : Vec Ideal S1x2048x704 .bf16) (x1 : Vec Ideal S2048x1024 .bf16) (k : Fin 704) (l : Fin 1024) :
    out0_2 x0 x1 (ix3 0 k l) = ∑ s, (x0 (ix3 0 s k) * x1 (ix2 s l) : EReal) := by
  unfold out0_2
  frame_out
  pointwise [k0_pay1]

variable (m : (ℓ : Loc nD τ sig) → Buf (Elt Ideal) ℓ) (c : Dev nD)

/-- The gated rows, an argument. -/
def rows (s : Fin 2048) (k : Fin 2816) : EReal := (m (c.tc.loc main_arg0) : Vec Ideal S2048x2816 .f32) (ix2 s k)

/-- The gradient at the projection's output, an argument. -/
def grad (s : Fin 2048) (k : Fin 1024) : EReal := (m (c.tc.loc main_arg1) : Vec Ideal S2048x1024 .f32) (ix2 s k)

/-- Row `k` of block `j`. -/
abbrev at_ (j : Fin 4) (k : Fin 704) : Fin 2816 := ⟨j.val * 704 + k.val, by have := j.isLt; have := k.isLt; omega⟩

/-- The host puts block `j` of the gated columns in slab `j`. -/
theorem host_rows (j : Fin 4) (s : Fin 2048) (k : Fin 704) :
    (V m c main_v2 : Vec Ideal S4x2048x704 .bf16) (ix3 j s k) = rows m c s (at_ j k) := by
  unfold V
  simp only [hostOps0, List.flatten_cons, List.flatten_nil, List.append_nil, List.cons_append, List.nil_append]
  simp only [StableHlo.after_cons, StableHlo.after_nil]
  after_results_simp
  pointwise
  rfl

/-- The host's cast keeps the gradient. -/
theorem host_grad (s : Fin 2048) (k : Fin 1024) : (V m c main_v3 : Vec Ideal S2048x1024 .bf16) (ix2 s k) = grad m c s k := by
  unfold V
  simp only [hostOps0, List.flatten_cons, List.flatten_nil, List.append_nil, List.cons_append, List.nil_append]
  simp only [StableHlo.after_cons, StableHlo.after_nil]
  after_results_simp
  pointwise
  rfl

theorem places : ∀ t : Fin cfg0.N, win0_0.index t = ![t.val, 0, 0] ∧ win0_1.index t = ![0, 0] ∧ win0_2.index t = ![t.val, 0, 0] := by
  decide +kernel

theorem points (t : Fin cfg0.N) : t.val < 4 := lt_of_lt_of_eq t.isLt (by decide +kernel)

/-- The block that point `t` computes. -/
abbrev slab (t : Fin cfg0.N) : Fin 4 := ⟨t.val, points t⟩

theorem first (t : Fin cfg0.N) (s : Fin 2048) (k : Fin 704) :
    (iblk m c 0 t : Vec Ideal S1x2048x704 .bf16) (ix3 0 s k) = rows m c s (at_ (slab t) k) := by
  have := (places t).1
  rw [← host_rows]
  blk_ext [iblk, this]

theorem second (t : Fin cfg0.N) (s : Fin 2048) (l : Fin 1024) : (iblk m c 1 t : Vec Ideal S2048x1024 .bf16) (ix2 s l) = grad m c s l := by
  have := (places t).2.1
  rw [← host_grad]
  blk_ext [iblk, this]

/-- A place of a one-slab block is a row and a column. -/
theorem one_slab (y : S1x704x1024.Idx) : ∃ (k : Fin 704) (l : Fin 1024), y = ix3 0 k l :=
  ⟨y 1, y 2, (eq_ix3 y).trans (congrArg (fun z : Fin 1 => ix3 z (y 1) (y 2)) (Subsingleton.elim _ _))⟩

/-- The array that the kernel leaves. -/
theorem array (j : Fin 4) (k : Fin 704) (l : Fin 1024) :
    (dats m 0 c).arrAt 2 cfg0.N (ix3 j k l) = ∑ s, rows m c s (at_ j k) * grad m c s l := by
  have e : (dats m 0 c).arrAt 2 cfg0.N = fun i : S4x704x1024.Idx => ∑ s, rows m c s (at_ (i 0) (i 1)) * grad m c s (i 2) := by
    refine (dats m 0 c).arrAt_eq_of_covers 2 _ (by decide +kernel) fun t hf y => ?_
    blk_simp
    rw [after0_2]
    obtain ⟨k, l, rfl⟩ : ∃ (k : Fin 704) (l : Fin 1024), y = ix3 0 k l :=
      one_slab y
    refine (block _ _ k l).trans (Finset.sum_congr rfl fun s _ => ?_)
    rw [first, second]
    have := (places t).2.2
    have key : ∀ (a : Fin 4) (b : Fin 704) (d : Fin 1024), a = slab t → b = k → d = l → rows m c s (at_ (slab t) k) * grad m c s l = rows m c s (at_ a b) * grad m c s d := by
      rintro _ _ _ rfl rfl rfl; rfl
    refine key _ _ _ (Fin.ext ?_) (Fin.ext ?_) (Fin.ext ?_) <;> blk_simp [this]
    exact Nat.add_zero t.val
  rw [e]; rfl

/-- The kernel computes what the derivative of the projection with respect to its weights is. -/
theorem algebraic : Cert.algebraic_Kernel7Ideal_Reference7Ideal (hKernel7Ideal := Cert.Kernel7Ideal.Gen.facts)
    (hReference7Ideal := Cert.Reference7Ideal.Gen.facts) := by
  intro m g m' g' _ hargs
  refine ⟨_, Cert.Kernel7Ideal.Value.run_blocks m g, ?_⟩
  refine (θ_run Cert.Reference7Ideal.defs _ _).mono (fun r hr c => ?_) (Cert.Reference7Ideal.Value.run m' g')
  obtain ⟨r0, hr⟩ := hr c
  obtain ⟨h0, h1, -⟩ := hargs c
  refine ⟨r0.trans ?_, hr⟩
  funext y
  obtain ⟨j, k, l, rfl⟩ : ∃ (j : Fin 4) (k : Fin 704) (l : Fin 1024), y = ix3 j k l := ⟨y 0, y 1, y 2, eq_ix3 y⟩
  refine Eq.trans ?_ (array m c j k l).symm
  rw [h0, h1]
  pointwise
  exact Finset.sum_congr rfl fun s _ => mul_comm _ _

end Cert.WgradDown

end
-- ==== Proof.ProjPoint.lean ====
/-
  What one grid point of the input projection's gradient leaves in its two windows, entry by entry: `A` is the first point, which starts
  the sum at zero; `B` every later one, which goes on from what the point before it left.
-/
module

public import proofs.«01_k».proof.Proof.Pieces
public import proofs.«01_k».proof.Proof.Rows
public import proofs.«01_k».proof.Proof.Gen.Kernel8Ideal.Frame
public import Idealize.ShloMosaic.Lib.Pipeline.ValueKit
public import Idealize.ShloMosaic.Lib.Pipeline.ReadBack

@[expose] public section

set_option maxRecDepth 16384
set_option maxHeartbeats 400000

noncomputable section

namespace Cert.ProjPoint

open Idealize.ShloMosaic Cert.Reals Cert.Rows Cert.Kernel8Ideal Cert.Kernel8Ideal.Gen Cert.Pieces Idealize.ShloMosaic.Pipeline

/-- Row `r` of a matrix. -/
abbrev row {n k : ℕ} (v : Shape.Idx ⟨2, ![n, k]⟩ → EReal) (r : Fin n) : Fin k → EReal := fun j => v (ix2 r j)

/-- One row of the gradient at the projection's input: the row `d` of the gradient at its output against the weights. -/
def dRow (d : Fin 3072 → EReal) (w : Fin 1024 → Fin 3072 → EReal) (k : Fin 1024) : EReal := ∑ j, d j * w k j

theorem pay3_at (d : Vec Ideal S256x3072 .bf16) (w : Vec Ideal S1024x3072 .bf16) (r : Fin 256) (k : Fin 1024) :
    k0_pay3 d w (ix2 r k) = dRow (row d r) (row w) k := by
  pointwise [k0_pay3, dRow]

theorem pay4_at (x : Vec Ideal S256x1024 .f32) (r : Fin 256) (z : Fin 1) : k0_pay4 x (ix2 r z) = invRms (row x r) := by
  pointwise [k0_pay4, row, invRms, meanSq]

theorem pay5_at (x : Vec Ideal S256x1024 .f32) (r : Fin 256) (k : Fin 1024) : k0_pay5 x (ix2 r k) = row x r k * invRms (row x r) := by
  pointwise [k0_pay5, pay4_at]

theorem pay7_at (d : Vec Ideal S256x3072 .bf16) (w : Vec Ideal S1024x3072 .bf16) (g : Vec Ideal S1x1024 .f32) (r : Fin 256) (k : Fin 1024) :
    k0_pay7 d w g (ix2 r k) = dRow (row d r) (row w) k * row g 0 k := by
  pointwise [k0_pay7, pay3_at]

/-- The block's rows of the gradient. -/
theorem in_at (d : Vec Ideal S256x3072 .bf16) (w : Vec Ideal S1024x3072 .bf16) (x : Vec Ideal S256x1024 .f32) (g : Vec Ideal S1x1024 .f32)
    (a : Vec Ideal S256x1024 .f32) (r : Fin 256) (k : Fin 1024) :
    k0_pay1 (k0_pay4 x) (k0_pay5 x) (k0_pay7 d w g) a (k0_pay8 d w x g) (k0_pay9 (F := Ideal)) (ix2 r k)
      = dIn (row a r) (row x r) (row g 0) (dRow (row d r) (row w)) k := by
  pointwise [k0_pay1, k0_pay8, k0_pay9, pay4_at, pay5_at, pay7_at, dIn, normBack]

/-- What the block adds to the gradient of the norm's gain. -/
def gainTerm (d : Vec Ideal S256x3072 .bf16) (w : Vec Ideal S1024x3072 .bf16) (x : Vec Ideal S256x1024 .f32) (k : Fin 1024) : EReal :=
  ∑ r, dRow (row d r) (row w) k * (row x r k * invRms (row x r))

theorem pay6_at (d : Vec Ideal S256x3072 .bf16) (w : Vec Ideal S1024x3072 .bf16) (x : Vec Ideal S256x1024 .f32) (a : Vec Ideal S1x1024 .f32)
    (z : Fin 1) (k : Fin 1024) : k0_pay6 d w x a (ix2 z k) = a (ix2 z k) + gainTerm d w x k := by
  pointwise [k0_pay6, pay3_at, pay5_at, gainTerm]

theorem zero_at (q : Fin 8) (k : Fin 1024) : k0_pay2 (F := Ideal) (ix2 q k) = 0 := by pointwise [k0_pay2]

/-- The store of the gain's sums. -/
theorem gain_stores (d : Vec Ideal S256x3072 .bf16) (w : Vec Ideal S1024x3072 .bf16) (x : Vec Ideal S256x1024 .f32) (X a : Vec Ideal S8x1024 .f32)
    (L) (q : Fin 8) (k : Fin 1024) :
    put X (⟨Rect.unit ![0, 0] ![1, 1024] inb_S8x1024_S1x1024_0_0,
        k0_pay6 d w x (View.ld a (Rect.unit ![0, 0] ![1, 1024] inb_S8x1024_S1x1024_0_0))⟩ :: L) (ix2 q k)
      = if q.val = 0 then a (ix2 0 k) + gainTerm d w x k else put X L (ix2 q k) := by
  refine (put_unit2 ..).trans ?_
  by_cases h : q.val = 0
  · rw [dif_pos (by omega), if_pos h]
    refine (pay6_at ..).trans ?_
    refine congrArg₂ (· + ·) (congrArg a (funext fun i => Fin.ext ?_)) rfl
    match i with
    | ⟨0, _⟩ => show 0 + 1 * (q.val - 0) = 0; omega
    | ⟨1, _⟩ => show 0 + 1 * (k.val - 0) = k.val; omega
  · rw [dif_neg (by omega), if_neg h]

/-- A store of a whole matrix. -/
theorem put_whole {n k : ℕ} {e : EltTy} (X w : (⟨2, ![n, k]⟩ : Shape).Idx → Elt Ideal e) (inb) (L) (a : Fin n) (b : Fin k) :
    put X (⟨Rect.unit (s := ⟨2, ![n, k]⟩) ![0, 0] ![n, k] inb, w⟩ :: L) (ix2 a b) = w (ix2 a b) := by
  refine (put_unit2 ..).trans ?_
  rw [dif_pos (by omega)]
  rfl

/-- The block's rows, at the first point. -/
theorem out5_A (c : Dev nD) (i : grid0.Coords) (arg1 : Memref sig .tc .vmem S256x3072 .bf16) (harg1 : arg1.IsWhole) (arg2 : Memref sig .tc .vmem S1024x3072 .bf16) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x1024 .f32) (harg7 : arg7.IsWhole) (hc0 : cond0_0 i)
    (x0 : Vec Ideal S256x3072 .bf16) (x1 : Vec Ideal S1024x3072 .bf16) (x2 : Vec Ideal S256x1024 .f32) (x3 : Vec Ideal S1x1024 .f32) (x4 : Vec Ideal S256x1024 .f32)
    (r : Fin 256) (k : Fin 1024) : out0_A_5 c i arg1 harg1 arg2 harg2 arg3 harg3 arg4 harg4 arg5 harg5 arg6 harg6 arg7 harg7 hc0 x0 x1 x2 x3 x4 (ix2 r k) = dIn (row x4 r) (row x2 r) (row x3 0) (dRow (row x0 r) (row x1)) k := by
  frame_open
  frame_out
  exact in_at ..

/-- The gain's sums, at the first point. -/
theorem out6_A (c : Dev nD) (i : grid0.Coords) (arg1 : Memref sig .tc .vmem S256x3072 .bf16) (harg1 : arg1.IsWhole) (arg2 : Memref sig .tc .vmem S1024x3072 .bf16) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x1024 .f32) (harg7 : arg7.IsWhole) (hc0 : cond0_0 i)
    (x0 : Vec Ideal S256x3072 .bf16) (x1 : Vec Ideal S1024x3072 .bf16) (x2 : Vec Ideal S256x1024 .f32) (x3 : Vec Ideal S1x1024 .f32) (x4 : Vec Ideal S256x1024 .f32)
    (q : Fin 8) (k : Fin 1024) : out0_A_6 c i arg1 harg1 arg2 harg2 arg3 harg3 arg4 harg4 arg5 harg5 arg6 harg6 arg7 harg7 hc0 x0 x1 x2 x3 x4 (ix2 q k) = if q.val = 0 then gainTerm x0 x1 x2 k else 0 := by
  frame_open
  simp (disch := decide) only [↓ View.readCov_skip, ↓ View.readCov_cons_toLoadRect, ↓ View.readCov_fill]
  frame_out
  have h2 := zero_at
  generalize k0_pay2 (F := Ideal) = z2 at h2 ⊢
  refine (congrFun (canon_eq_put _) _).trans ((gain_stores x0 x1 x2 _ z2 _ q k).trans ?_)
  split_ifs
  · rw [h2, zero_add]
  · exact (put_whole ..).trans (h2 ..)

/-- The block's rows, at a later point. -/
theorem out5_B (c : Dev nD) (i : grid0.Coords) (arg1 : Memref sig .tc .vmem S256x3072 .bf16) (harg1 : arg1.IsWhole) (arg2 : Memref sig .tc .vmem S1024x3072 .bf16) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x1024 .f32) (harg7 : arg7.IsWhole) (hc0 : ¬cond0_0 i)
    (x0 : Vec Ideal S256x3072 .bf16) (x1 : Vec Ideal S1024x3072 .bf16) (x2 : Vec Ideal S256x1024 .f32) (x3 : Vec Ideal S1x1024 .f32) (x4 : Vec Ideal S256x1024 .f32) (xo6 : Vec Ideal S8x1024 .f32)
    (r : Fin 256) (k : Fin 1024) : out0_B_5 c i arg1 harg1 arg2 harg2 arg3 harg3 arg4 harg4 arg5 harg5 arg6 harg6 arg7 harg7 hc0 x0 x1 x2 x3 x4 xo6 (ix2 r k) = dIn (row x4 r) (row x2 r) (row x3 0) (dRow (row x0 r) (row x1)) k := by
  frame_open
  frame_out
  exact in_at ..

/-- The gain's sums, at a later point. -/
theorem out6_B (c : Dev nD) (i : grid0.Coords) (arg1 : Memref sig .tc .vmem S256x3072 .bf16) (harg1 : arg1.IsWhole) (arg2 : Memref sig .tc .vmem S1024x3072 .bf16) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x1024 .f32) (harg7 : arg7.IsWhole) (hc0 : ¬cond0_0 i)
    (x0 : Vec Ideal S256x3072 .bf16) (x1 : Vec Ideal S1024x3072 .bf16) (x2 : Vec Ideal S256x1024 .f32) (x3 : Vec Ideal S1x1024 .f32) (x4 : Vec Ideal S256x1024 .f32) (xo6 : Vec Ideal S8x1024 .f32)
    (q : Fin 8) (k : Fin 1024) : out0_B_6 c i arg1 harg1 arg2 harg2 arg3 harg3 arg4 harg4 arg5 harg5 arg6 harg6 arg7 harg7 hc0 x0 x1 x2 x3 x4 xo6 (ix2 q k) = xo6 (ix2 q k) + (if q.val = 0 then gainTerm x0 x1 x2 k else 0) := by
  frame_open
  frame_out
  refine (congrFun (read_writes_eq_put ..) _).trans ((gain_stores x0 x1 x2 _ xo6 _ q k).trans ?_)
  split_ifs with hq
  · rw [show q = 0 from Fin.ext hq]
  · rw [add_zero]; exact congrFun (harg7.read_unread xo6) _

end Cert.ProjPoint

end
-- ==== Proof.ProjArrays.lean ====
/-
  The two arrays that the input projection's gradient leaves, entry by entry, over the arrays that its kernel finds.
-/
module

public import proofs.«01_k».proof.Proof.ProjPoint

@[expose] public section

set_option maxRecDepth 16384

noncomputable section

namespace Cert.ProjArrays

open Idealize.ShloMosaic Idealize.ShloMosaic.TcCoe Idealize.ShloMosaic.Pipeline Cert.Reals Cert.Rows Cert.Kernel8Ideal Cert.Kernel8Ideal.Gen Cert.ProjPoint

variable (m : (ℓ : Loc nD τ sig) → Buf (Elt Ideal) ℓ) (c : Dev nD)

/-- The arrays that the kernel finds: the gradient at the projection's output, -/
def dp : Fin 2048 → Fin 3072 → EReal := row (V m c main_v0 : Vec Ideal S2048x3072 .bf16)
/-- its weights, -/
def w : Fin 1024 → Fin 3072 → EReal := row (V m c main_v2 : Vec Ideal S1024x3072 .bf16)
/-- the rows that the norm reads, -/
def x : Fin 2048 → Fin 1024 → EReal := row (V m c main_arg2 : Vec Ideal S2048x1024 .f32)
/-- the norm's gain, -/
def g : Fin 1024 → EReal := row (V m c main_arg3 : Vec Ideal S1x1024 .f32) 0
/-- and the gradient that passes the norm by. -/
def d2 : Fin 2048 → Fin 1024 → EReal := row (V m c main_arg4 : Vec Ideal S2048x1024 .f32)

/-- The gradient of the input rows. -/
def inp (s : Fin 2048) : Fin 1024 → EReal := dIn (d2 m c s) (x m c s) (g m c) (dRow (dp m c s) (w m c))
/-- A row's term of the gain's gradient. -/
def gainRow (s : Fin 2048) (k : Fin 1024) : EReal := dRow (dp m c s) (w m c) k * (x m c s k * invRms (x m c s))

/-- Row `r` of block `n`. -/
def at_ (n : ℕ) (r : Fin 256) : Fin 2048 := ⟨(256 * n + r.val) % 2048, Nat.mod_lt _ (by decide)⟩

variable (t : Fin cfg0.N)

theorem points (t : Fin cfg0.N) : t.val < 8 := lt_of_lt_of_eq t.isLt (by decide +kernel)

theorem at_eq (r : Fin 256) : at_ t.val r = ⟨256 * t.val + r.val, by have := points t; omega⟩ :=
  Fin.ext (Nat.mod_eq_of_lt (by have := points t; omega))

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] := by decide +kernel

theorem row0 (r : Fin 256) : row (iblk m c 0 t : Vec Ideal S256x3072 .bf16) r = dp m c (at_ t.val r) := by
  funext k; have := (idx t).1
  rw [at_eq]; simp only [row, dp]
  blk_ext [iblk, this]
theorem row1 : row (iblk m c 1 t : Vec Ideal S1024x3072 .bf16) = w m c := by
  funext r k; have := (idx t).2.1
  simp only [row, w]
  blk_ext [iblk, this]
theorem row2 (r : Fin 256) : row (iblk m c 2 t : Vec Ideal S256x1024 .f32) r = x m c (at_ t.val r) := by
  funext k; have := (idx t).2.2.1
  rw [at_eq]; simp only [row, x]
  blk_ext [iblk, this]
theorem row3 : row (iblk m c 3 t : Vec Ideal S1x1024 .f32) 0 = g m c := by
  funext k; have := (idx t).2.2.2.1
  simp only [row, g]
  blk_ext [iblk, this]
theorem row4 (r : Fin 256) : row (iblk m c 4 t : Vec Ideal S256x1024 .f32) r = d2 m c (at_ t.val r) := by
  funext k; have := (idx t).2.2.2.2.1
  rw [at_eq]; simp only [row, d2]
  blk_ext [iblk, this]

theorem gain_term (k : Fin 1024) : gainTerm (iblk m c 0 t) (iblk m c 1 t) (iblk m c 2 t) k = ∑ r, gainRow m c (at_ t.val r) k := by
  refine Finset.sum_congr rfl fun r _ => ?_
  rw [gainRow, row0, row1, row2]

/-- The block of the gradient of the input rows. -/
theorem inp_at (r : Fin 256) (k : Fin 1024) : (outsAt0 m c t.val t.isLt).1 (ix2 r k) = inp m c (at_ t.val r) k := by
  by_cases h0 : t.val % 8 = 0
  · refine (congrFun (congrArg (fun p => p.1) (outsAt0_A m c t h0)) (ix2 r k)).trans ?_
    dsimp only
    rw [out5_A, row0, row1, row2, row3, row4, inp]
  · refine (congrFun (congrArg (fun p => p.1) (outsAt0_B m c t h0)) (ix2 r k)).trans ?_
    dsimp only
    rw [out5_B, row0, row1, row2, row3, row4, inp]

/-- A quantity that starts at its first point's term and adds each later point's. -/
theorem running (g : (n : ℕ) → n < cfg0.N → EReal) (f : ℕ → EReal) (hA : ∀ t : Fin cfg0.N, t.val % 8 = 0 → g t.val t.isLt = f t.val)
    (hB : ∀ t : Fin cfg0.N, ¬ t.val % 8 = 0 → g t.val t.isLt = g (t.val - 1) (Nat.lt_of_le_of_lt (Nat.sub_le _ _) t.isLt) + f t.val) :
    ∀ (n : ℕ) (h : n < cfg0.N), g n h = ∑ s ∈ Finset.range (n + 1), f s
  | 0, h => by rw [hA ⟨0, h⟩ rfl]; simp
  | n + 1, h => by
    have := points ⟨n + 1, h⟩
    rw [hB ⟨n + 1, h⟩ (by show ¬ (n + 1) % 8 = 0; simp only at this; omega), Finset.sum_range_succ]
    exact congrArg (· + f (n + 1)) (running g f hA hB n (Nat.lt_of_succ_lt h))

/-- The gain's gradient after a point. -/
theorem gain_at (q : Fin 8) (k : Fin 1024) : ∀ (n : ℕ) (h : n < cfg0.N), (outsAt0 m c n h).2 (ix2 q k)
    = ∑ s ∈ Finset.range (n + 1), if q.val = 0 then ∑ r, gainRow m c (at_ s r) k else 0 := by
  refine running (fun n h => (outsAt0 m c n h).2 (ix2 q k)) _ (fun t h0 => ?_) (fun t h0 => ?_)
  · refine (congrFun (congrArg (fun p => p.2) (outsAt0_A m c t h0)) (ix2 q k)).trans ?_
    dsimp only
    rw [out6_A, gain_term]
  · refine (congrFun (congrArg (fun p => p.2) (outsAt0_B m c t h0)) (ix2 q k)).trans ?_
    dsimp only
    rw [out6_B, gain_term]

/-- A sum over all the rows, block by block. -/
theorem sum_blocks (f : Fin 2048 → EReal) : ∑ s ∈ Finset.range 8, ∑ r, f (at_ s r) = ∑ s, f s := by
  rw [Finset.sum_range fun s => ∑ r, f (at_ s r), ← Fintype.sum_prod_type']
  refine Fintype.sum_equiv (finProdFinEquiv (m := 8) (n := 256)) _ _ fun p => congrArg f (Fin.ext ?_)
  show (256 * p.1.val + p.2.val) % 2048 = p.2.val + 256 * p.1.val
  omega

theorem array5 (s : Fin 2048) (k : Fin 1024) : (dats m 0 c).arrAt 5 cfg0.N (ix2 s k) = inp m c s k := by
  have e : (dats m 0 c).arrAt 5 cfg0.N = fun i : S2048x1024.Idx => inp m c (i 0) (i 1) := by
    refine (dats m 0 c).arrAt_eq_of_covers 5 _ (by decide +kernel) fun t hf y => ?_
    blk_simp
    rw [after0_5]
    obtain ⟨r, k, rfl⟩ : ∃ (r : Fin 256) (k : Fin 1024), y = ix2 r k := ⟨y 0, y 1, eq_ix2 y⟩
    refine (inp_at m c t r k).trans ?_
    rw [at_eq]
    have := (idx t).2.2.2.2.2
    refine congrArg₂ (inp m c) (Fin.ext ?_) (Fin.ext ?_)
    · blk_simp [this]
      first | done | (show 256 * t.val + r.val = t.val * 256 + r.val; omega)
    · blk_simp [this]
      first | done | (show _ = 0 * 1024 + k.val; omega)
  rw [e]; rfl

theorem array6 (q : Fin 8) (k : Fin 1024) : (dats m 0 c).arrAt 6 cfg0.N (ix2 q k) = if q.val = 0 then ∑ s, gainRow m c s k else 0 := by
  have e : (dats m 0 c).arrAt 6 cfg0.N = fun i : S8x1024.Idx => if (i 0).val = 0 then ∑ s, gainRow m c s (i 1) else 0 := by
    refine (dats m 0 c).arrAt_eq_of_after_last 6 t0_7 (by decide +kernel) _ fun j => ?_
    blk_simp
    rw [after0_6]
    obtain ⟨q, k, rfl⟩ : ∃ (q : Fin 8) (k : Fin 1024), j = ix2 q k := ⟨j 0, j 1, eq_ix2 j⟩
    refine (gain_at m c q k _ _).trans ?_
    refine (?_ : _ = if q.val = 0 then ∑ s, gainRow m c s k else 0)
    rw [← sum_blocks]
    split_ifs
    · rfl
    · exact Finset.sum_const_zero
  rw [e]; rfl

end Cert.ProjArrays

end
-- ==== Proof.ProjHost.lean ====
/-
  The arrays that the input projection's gradient finds when its kernel is launched, from the program's arguments.
-/
module

public import proofs.«01_k».proof.Proof.ProjArrays

@[expose] public section

set_option maxRecDepth 16384

noncomputable section

namespace Cert.ProjHost

open Idealize.ShloMosaic Idealize.ShloMosaic.TcCoe Idealize.ShloMosaic.Pipeline Cert.Kernel8Ideal Cert.Kernel8Ideal.Gen

variable (m : (ℓ : Loc nD τ sig) → Buf (Elt Ideal) ℓ) (c : Dev nD)

theorem dp_eq : ProjArrays.dp m c = fun s j => (m (c.tc.loc main_arg0) : Vec Ideal S2048x3072 .f32) (ix2 s j) := by
  funext s j
  unfold ProjArrays.dp V
  simp only [hostOps0, List.flatten_cons, List.flatten_nil, List.append_nil, List.cons_append, List.nil_append, ProjPoint.row]
  simp only [StableHlo.after_cons, StableHlo.after_nil]
  after_results_simp
  pointwise

theorem w_eq : ProjArrays.w m c = fun k j => (m (c.tc.loc main_arg1) : Vec Ideal S1x1024x3072 .f32) (ix3 0 k j) := by
  funext k j
  unfold ProjArrays.w V
  simp only [hostOps0, List.flatten_cons, List.flatten_nil, List.append_nil, List.cons_append, List.nil_append, ProjPoint.row]
  simp only [StableHlo.after_cons, StableHlo.after_nil]
  after_results_simp
  pointwise

theorem x_eq : ProjArrays.x m c = fun s k => (m (c.tc.loc main_arg2) : Vec Ideal S2048x1024 .f32) (ix2 s k) := by
  unfold ProjArrays.x; rw [V_main_arg2]

theorem g_eq : ProjArrays.g m c = fun k => (m (c.tc.loc main_arg3) : Vec Ideal S1x1024 .f32) (ix2 0 k) := by
  unfold ProjArrays.g; rw [V_main_arg3]

theorem d2_eq : ProjArrays.d2 m c = fun s k => (m (c.tc.loc main_arg4) : Vec Ideal S2048x1024 .f32) (ix2 s k) := by
  unfold ProjArrays.d2; rw [V_main_arg4]

end Cert.ProjHost

end
-- ==== Proof.ProjNorm.lean ====
/-
  The gradient of a normalisation, at any row of extended reals: the kernel's form is the one that differentiation gives.
-/
module

public import proofs.«01_k».proof.Proof.Reals

@[expose] public section

noncomputable section

namespace Cert.Reals

open Idealize.ShloMosaic

theorem mul_self_nonneg' (x : EReal) : 0 ≤ x * x := by
  induction x with
  | bot => simp
  | top => simp
  | coe a => rw [← EReal.coe_mul]; exact EReal.coe_nonneg.2 (mul_self_nonneg a)

/-- The mean of squares of any row, plus the constant, is a positive real or infinite. -/
theorem meanSq_cases {n : ℕ} (x : Fin n → EReal) : (∃ v : ℝ, 0 < v ∧ meanSq x = (v : EReal)) ∨ meanSq x = ⊤ := by
  obtain ⟨e, he, hE⟩ := eps_eq
  have h0 : (0 : EReal) ≤ ∑ k, x k * x k := Finset.sum_nonneg fun k _ => mul_self_nonneg' (x k)
  rw [meanSq, hE, width_eq]
  generalize (∑ k, x k * x k) = s at h0
  induction s with
  | bot => exact absurd h0 (by simp)
  | top =>
    right
    rw [Ideal.div, if_neg (by norm_num), ← EReal.coe_inv, EReal.top_mul_coe_of_pos (by norm_num), EReal.top_add_coe]
  | coe a =>
    left
    have := EReal.coe_nonneg.1 h0
    exact ⟨a / 1024 + e, by positivity, by rw [div_coe _ _ (by norm_num), ← EReal.coe_add]⟩

/-- A real factor that is not negative comes out of a sum. -/
theorem sum_mul_coe {n : ℕ} (f : Fin n → EReal) {r : ℝ} (hr : 0 ≤ r) : ∑ k, f k * (r : EReal) = (∑ k, f k) * (r : EReal) := by
  induction n with
  | zero => simp
  | succ n ih =>
    rw [Fin.sum_univ_castSucc, Fin.sum_univ_castSucc, ih, EReal.right_distrib_of_nonneg_of_ne_top (EReal.coe_nonneg.2 hr) (EReal.coe_ne_top r)]

/-- The kernel's gradient of a normalisation is the one that differentiation gives. -/
theorem normBack_eq' {n : ℕ} (x t : Fin n → EReal) (k : Fin n) :
    normBack x t k = t k * invRms x + x k * normBackCoef x t + normBackCoef x t * x k := by
  rcases meanSq_cases x with ⟨v, hv, hV⟩ | hV
  · have hs : 0 < Real.sqrt v := Real.sqrt_pos.mpr hv
    have hsq : Real.sqrt v * Real.sqrt v = v := Real.mul_self_sqrt hv.le
    have hr : 0 < (Real.sqrt v)⁻¹ := inv_pos.2 hs
    have e1 : (∑ j, t j * (x j * (((Real.sqrt v)⁻¹ : ℝ) : EReal))) = (∑ j, x j * t j) * (((Real.sqrt v)⁻¹ : ℝ) : EReal) := by
      rw [← sum_mul_coe _ hr.le]
      exact Finset.sum_congr rfl fun j _ => by rw [← mul_assoc, mul_comm (t j)]
    simp only [normBack, normBackCoef, Reals.invRms, hV, rsqrt_coe v hv, width_eq, negHalf_eq, e1]
    generalize (∑ j, x j * t j) = T
    have hc : ((Real.sqrt v)⁻¹ / v) = (Real.sqrt v)⁻¹ * (Real.sqrt v)⁻¹ * (Real.sqrt v)⁻¹ := by
      nth_rw 2 [← hsq]; field_simp
    rw [div_coe _ _ hv.ne', hc]
    generalize (Real.sqrt v)⁻¹ = r at hr
    have hw : ((1024 : ℝ) : EReal) ≠ 0 := by norm_num
    rw [Ideal.div, Ideal.div, if_neg hw, if_neg hw, ← EReal.coe_inv, ← EReal.coe_mul]
    have hc' : (0 : ℝ) ≤ 1 / 2 * (r * r * r) * (1024 : ℝ)⁻¹ := by positivity
    -- both terms through the mean of squares, as one factor
    have e2 : x k * (T * ((-(1 / 2) * (r * r * r) : ℝ) : EReal) * (((1024 : ℝ)⁻¹ : ℝ) : EReal))
        = -(x k * T) * ((1 / 2 * (r * r * r) * (1024 : ℝ)⁻¹ : ℝ) : EReal) := by
      rw [mul_assoc T, ← EReal.coe_mul, ← mul_assoc, show (-(1 / 2) * (r * r * r) * (1024 : ℝ)⁻¹ : ℝ) = -(1 / 2 * (r * r * r) * (1024 : ℝ)⁻¹) by ring,
        EReal.coe_neg, mul_neg, neg_mul]
    rw [mul_comm (T * _ * _) (x k), e2, add_assoc,
      ← EReal.left_distrib_of_nonneg (c := -(x k * T)) (EReal.coe_nonneg.2 hc') (EReal.coe_nonneg.2 hc'), ← EReal.coe_add,
      EReal.mul_sub_of_nonneg_of_ne_top (EReal.coe_nonneg.2 hr.le) (EReal.coe_ne_top r), sub_eq_add_neg, mul_comm (r : EReal) (t k)]
    congr 1
    rw [show (1 / 2 * (r * r * r) * (1024 : ℝ)⁻¹ + 1 / 2 * (r * r * r) * (1024 : ℝ)⁻¹ : ℝ) = r * r * r * (1024 : ℝ)⁻¹ by ring, neg_mul]
    congr 1
    simp only [EReal.coe_mul]
    ac_rfl
  · simp only [normBack, normBackCoef, Reals.invRms, hV, Ideal.rsqrt_top, width_eq, zero_mul, mul_zero]
    have h0 : Ideal.div 0 ⊤ = 0 := by rw [Ideal.div, if_neg (by simp), zero_mul]
    have h1 : Ideal.div 0 ((1024 : ℝ) : EReal) = 0 := by rw [Ideal.div, if_neg (by norm_num), zero_mul]
    simp only [h0, h1, mul_zero, zero_mul, add_zero]

end Cert.Reals

end
-- ==== Proof.ProjReference.lean ====
/-
  What the reference of the input projection's gradient computes, entry by entry.
-/
module

public import proofs.«01_k».proof.Proof.ProjPoint
public import proofs.«01_k».proof.Proof.ProjNorm
public import proofs.«01_k».proof.Proof.Gen.Reference8Ideal.Run
public import Idealize.ShloMosaic.Lib.KernelVsHost

@[expose] public section

set_option maxRecDepth 16384

noncomputable section

namespace Cert.ProjReference

open Idealize.ShloMosaic Idealize.ShloMosaic.TcCoe Cert.Reals Cert.Rows Cert.ProjPoint Cert.Reference8Ideal Cert.Reference8Ideal.Gen Cert.Reference8Ideal.Value

/-! ## The program's intermediate arrays -/

/-- The gradient at the projection's input. -/
def proj (a0 : FVec Ideal S2048x3072 .f32) (a1 : FVec Ideal S1x1024x3072 .f32) : FVec Ideal S2048x1024 .f32 :=
  Host.dotGeneral dot_S2048x3072_S1024x3072_S2048x1024_1_1_0_0_n_n none a0 (shapeCast _ a1 shapeCasts_S1x1024x3072_S1024x3072)

/-- The same, through the gain. -/
def gained (a0 : FVec Ideal S2048x3072 .f32) (a1 : FVec Ideal S1x1024x3072 .f32) (a3 : FVec Ideal S1x1024 .f32) : FVec Ideal S2048x1024 .f32 :=
  mulf (proj a0 a1) (broadcastInDim S2048x1024 ![0, 1] bcast_S1x1024_S2048x1024_0_1 (broadcastInDim S1x1024 ![1] bcast_S1024_S1x1024_1 (shapeCast _ a3 shapeCasts_S1x1024_S1024)))

/-- The mean of each row's squares. -/
def ms (a2 : FVec Ideal S2048x1024 .f32) : FVec Ideal S2048x1 .f32 :=
  addf (Host.divf (broadcastInDim S2048x1 ![0] bcast_S2048_S2048x1_0 (Host.reduceAdd (mulf a2 a2) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

/-- Its reciprocal root. -/
def inv (a2 : FVec Ideal S2048x1024 .f32) : FVec Ideal S2048x1 .f32 :=
  Host.rsqrt (ms a2)

/-- The factor on both terms through the mean of squares. -/
def coef (a0 : FVec Ideal S2048x3072 .f32) (a1 : FVec Ideal S1x1024x3072 .f32) (a2 : FVec Ideal S2048x1024 .f32) (a3 : FVec Ideal S1x1024 .f32) : FVec Ideal S2048x1024 .f32 :=
  broadcastInDim S2048x1024 ![0] bcast_S2048_S2048x1024_0 (Host.reduceAdd (Host.divf (mulf (shapeCast _ (Host.reduceAdd (mulf a2 (gained a0 a1 a3)) (constant S_ .f32 0x00000000#32) reducesTo_S2048x1024_S2048_d1 h_S_) shapeCasts_S2048_S2048x1) (mulf (broadcastInDim S2048x1 ![] bcast_S_S2048x1 (constant S_ .f32 0xBF000000#32)) (Host.divf (inv a2) (ms a2)))) (broadcastInDim S2048x1 ![] bcast_S_S2048x1 (constant S_ .f32 0x44800000#32))) (constant S_ .f32 0x00000000#32) reducesTo_S2048x1_S2048_d1 h_S_)

/-- The gradient of the input rows. -/
def dx (a0 : FVec Ideal S2048x3072 .f32) (a1 : FVec Ideal S1x1024x3072 .f32) (a2 : FVec Ideal S2048x1024 .f32) (a3 : FVec Ideal S1x1024 .f32) (a4 : FVec Ideal S2048x1024 .f32) : FVec Ideal S2048x1024 .f32 :=
  addf a4 (addf (addf (mulf (gained a0 a1 a3) (broadcastInDim S2048x1024 ![0, 1] bcast_S2048x1_S2048x1024_0_1 (inv a2))) (mulf a2 (coef a0 a1 a2 a3))) (mulf (coef a0 a1 a2 a3) a2))

/-- The gradient of the norm's gain. -/
def dg (a0 : FVec Ideal S2048x3072 .f32) (a1 : FVec Ideal S1x1024x3072 .f32) (a2 : FVec Ideal S2048x1024 .f32) : FVec Ideal S8x1024 .f32 :=
  pad S8x1024 ![0, 0] ![7, 0] ![0, 0] (broadcastInDim S1x1024 ![1] bcast_S1024_S1x1024_1 (Host.reduceAdd (shapeCast _ (Host.reduceAdd (mulf (mulf a2 (broadcastInDim S2048x1024 ![0, 1] bcast_S2048x1_S2048x1024_0_1 (inv a2))) (proj a0 a1)) (constant S_ .f32 0x00000000#32) reducesTo_S2048x1024_S1024_d0 h_S_) shapeCasts_S1024_S1x1024) (constant S_ .f32 0x00000000#32) reducesTo_S1x1024_S1024_d0 h_S_)) (sitofp .f32 (constantI S_ 32 0#32)) pads_S1x1024_S8x1024_070_000 h_S_

/-! ## Their entries -/

variable (a0 : FVec Ideal S2048x3072 .f32) (a1 : FVec Ideal S1x1024x3072 .f32) (a2 : FVec Ideal S2048x1024 .f32) (a3 : FVec Ideal S1x1024 .f32) (a4 : FVec Ideal S2048x1024 .f32) (s : Fin 2048) (k : Fin 1024)

/-- The weights, which come in one slab. -/
abbrev slab (k : Fin 1024) (j : Fin 3072) : EReal := a1 (ix3 0 k j)

theorem proj_at : proj a0 a1 (ix2 s k) = dRow (row a0 s) (slab a1) k := by
  pointwise [proj, dRow]

theorem gained_at : gained a0 a1 a3 (ix2 s k) = dRow (row a0 s) (slab a1) k * row a3 0 k := by
  pointwise [gained, proj_at]

theorem ms_at (z : Fin 1) : ms a2 (ix2 s z) = meanSq (row a2 s) := by
  obtain rfl : z = 0 := Subsingleton.elim _ _
  pointwise [ms]; rfl

theorem inv_at (z : Fin 1) : inv a2 (ix2 s z) = invRms (row a2 s) := by
  obtain rfl : z = 0 := Subsingleton.elim _ _
  pointwise [inv, ms_at]; rfl

theorem coef_at : coef a0 a1 a2 a3 (ix2 s k) = normBackCoef (row a2 s) (fun i => dRow (row a0 s) (slab a1) i * row a3 0 i) := by
  pointwise [coef, gained_at]
  refine (Fin.sum_univ_one (M := EReal) _).trans ?_
  simp only [ms_at, inv_at]
  rfl

/-- The derivative is what the kernel computes. -/
theorem dx_at : dx a0 a1 a2 a3 a4 (ix2 s k) = dIn (row a4 s) (row a2 s) (row a3 0) (dRow (row a0 s) (slab a1)) k := by
  refine Eq.trans ?_ (congrArg (row a4 s k + ·) (normBack_eq' (row a2 s) (fun i => dRow (row a0 s) (slab a1) i * row a3 0 i) k).symm)
  pointwise [dx, gained_at, coef_at, inv_at]

theorem dg_at (q : Fin 8) : dg a0 a1 a2 (ix2 q k)
    = if q.val = 0 then ∑ s, dRow (row a0 s) (slab a1) k * (row a2 s k * invRms (row a2 s)) else 0 := by
  pointwise [dg, proj_at, inv_at]
  rw [show FloatOps.sitofp (F := Ideal) FTy.f32 (0#32) = 0 from sitofp_zero]
  refine (dite_eq_ite).trans ?_
  simp only [Finset.univ_unique, Finset.sum_singleton, Nat.lt_one_iff]
  exact if_congr Iff.rfl (Finset.sum_congr (M := EReal) rfl fun s _ => mul_comm (G := EReal) _ _) rfl

/-! ## What the program states -/

/-- The first result is the gradient of the input rows. -/
theorem result0 (m : (ℓ : Loc nD τ sig) → Buf (Elt Ideal) ℓ) (c : Dev nD) :
    res_out0 m c = dx (m (c.tc.loc main_arg0)) (m (c.tc.loc main_arg1)) (m (c.tc.loc main_arg2)) (m (c.tc.loc main_arg3)) (m (c.tc.loc main_arg4)) := by
  unfold res_out0 res_main_v40 dx gained coef gained proj inv ms
  rfl

end Cert.ProjReference

end
-- ==== Proof.BwdProj.lean ====
/-
  The gradient of the input projection through the norm before it: the kernel and its reference compute the same two arrays from the same
  arguments, whatever these hold.
-/
module

public import proofs.«01_k».proof.Proof.ProjHost
public import proofs.«01_k».proof.Proof.ProjReference
public import proofs.«01_k».proof.Proof.Gen.Kernel8Ideal.Value
public import proofs.«01_k».proof.Defs

@[expose] public section

set_option maxRecDepth 16384

noncomputable section

namespace Cert.BwdProj

open Idealize.ShloMosaic Idealize.ShloMosaic.TcCoe Idealize.SL.Sem Cert.Reals

/-- The kernel computes what the reference computes. -/
theorem algebraic : Cert.algebraic_Kernel8Ideal_Reference8Ideal (hKernel8Ideal := Cert.Kernel8Ideal.Gen.facts)
    (hReference8Ideal := Cert.Reference8Ideal.Gen.facts) := by
  intro m g m' g' _ hargs
  refine ⟨_, _, Cert.Kernel8Ideal.Value.run_blocks m g, ?_⟩
  refine (θ_run Cert.Reference8Ideal.defs _ _).mono (fun r hr c => ?_) (Cert.Reference8Ideal.Value.run m' g')
  obtain ⟨r0, r1, hr⟩ := hr c
  obtain ⟨h0, h1, h2, h3, h4⟩ := hargs c
  refine ⟨r0.trans ?_, r1.trans ?_, hr⟩
  · refine (ProjReference.result0 m' c).trans ?_
    rw [h0, h1, h2, h3, h4]
    funext y
    obtain ⟨s, k, rfl⟩ : ∃ (s : Fin 2048) (k : Fin 1024), y = ix2 s k := ⟨y 0, y 1, eq_ix2 y⟩
    refine (ProjReference.dx_at _ _ _ _ _ s k).trans ((ProjArrays.array5 m c s k).trans ?_).symm
    rw [ProjArrays.inp, ProjHost.dp_eq, ProjHost.w_eq, ProjHost.x_eq, ProjHost.g_eq, ProjHost.d2_eq]
  · rw [h0, h1, h2]
    funext y
    obtain ⟨q, k, rfl⟩ : ∃ (q : Fin 8) (k : Fin 1024), y = ix2 q k := ⟨y 0, y 1, eq_ix2 y⟩
    refine (ProjReference.dg_at _ _ _ k q).trans ((ProjArrays.array6 m c q k).trans ?_).symm
    simp only [ProjArrays.gainRow, ProjHost.dp_eq, ProjHost.w_eq, ProjHost.x_eq]

end Cert.BwdProj

end
-- ==== Proof.InPoint.lean ====
/-
  What one grid point of the input projection leaves in its two windows, entry by entry: the normed rows, and their product with the
  weights, whose first 512 columns (the queries) and next 512 (the keys) are turned by the rotary angles, head by head.
-/
module

public import proofs.«01_k».proof.Proof.Pieces
public import proofs.«01_k».proof.Proof.Rows
public import proofs.«01_k».proof.Proof.Gen.Kernel9Ideal.Frame
public import Idealize.ShloMosaic.Lib.Pipeline.ValueKit
public import Idealize.ShloMosaic.Lib.Pipeline.ReadBack

@[expose] public section

set_option maxRecDepth 16384
set_option maxHeartbeats 400000

noncomputable section

namespace Cert.InPoint

open Idealize.ShloMosaic Cert.Reals Cert.Rows Cert.Kernel9Ideal Cert.Kernel9Ideal.Gen Cert.Pieces Idealize.ShloMosaic.Pipeline

/-- Row `r` of a matrix. -/
abbrev row {n k : ℕ} (v : Shape.Idx ⟨2, ![n, k]⟩ → EReal) (r : Fin n) : Fin k → EReal := fun j => v (ix2 r j)

/-- One normalised row. -/
def normed (x g : Fin 1024 → EReal) (k : Fin 1024) : EReal := x k * invRms x * g k

/-- One row of the product with the weights. -/
def product (h : Fin 1024 → EReal) (w : Fin 1024 → Fin 3072 → EReal) (j : Fin 3072) : EReal := ∑ k, h k * w k j

/-- The factor on the keys, the reciprocal root of a head's width. -/
def keyScale : EReal := Ideal.ofBits FTy.f32 1035273459#32

/-- Column `l` of the head whose columns start at `o`, turned: the cosine on it, the sine on the column half a head away. -/
def turn (p : Fin 3072 → EReal) (cs sn : Fin 512 → EReal) (o q : ℕ) (ho : o + 128 ≤ 3072) (hq : q + 128 ≤ 512) (l : Fin 128) : EReal :=
  p ⟨o + l.val, by omega⟩ * cs ⟨q + l.val, by omega⟩ + p ⟨o + (l.val + 128 - 64) % 128, by omega⟩ * sn ⟨q + l.val, by omega⟩

/-- One row that the projection leaves: queries, keys, and the columns that are not turned. -/
def outRow (p : Fin 3072 → EReal) (cs sn : Fin 512 → EReal) (j : Fin 3072) : EReal :=
  if h : j.val < 512 then
    turn p cs sn (j.val / 128 * 128) (j.val / 128 * 128) (by omega) (by omega) ⟨j.val % 128, by omega⟩
  else if h : j.val < 1024 then
    turn p cs sn (j.val / 128 * 128) (j.val / 128 * 128 - 512) (by omega) (by omega) ⟨j.val % 128, by omega⟩ * keyScale
  else p j

/-- The angle by which column `i` of a half head is turned in row `s`. -/
def angle (s i : ℕ) : EReal :=
  (FloatOps.sitofp (F := Ideal) FTy.f32 (BitVec.ofNat 32 s) : EReal)
    * Ideal.pow (Ideal.ofBits FTy.f32 1176256512#32) (Ideal.div (-(FloatOps.sitofp (F := Ideal) FTy.f32 (BitVec.ofNat 32 i) : EReal)) (Ideal.ofBits FTy.f32 1115684864#32))

/-- The table of cosines, the same on both halves of a head. -/
def cosTable (s j : ℕ) : EReal := if j % 128 < 64 then Ideal.cos (angle s (j % 128)) else Ideal.cos (angle s (j % 128 - 64))

/-- The table of sines, negated on the first half of a head. -/
def sinTable (s j : ℕ) : EReal := if j % 128 < 64 then -Ideal.sin (angle s (j % 128)) else Ideal.sin (angle s (j % 128 - 64))

theorem turn_congr (p : Fin 3072 → EReal) (cs sn : Fin 512 → EReal) {o q o' q' : ℕ} (ho hq ho' hq') {l l' : Fin 128} (e : o = o') (e' : q = q')
    (el : l = l') : turn p cs sn o q ho hq l = turn p cs sn o' q' ho' hq' l' := by
  subst e e' el; rfl

/-- A query's column. -/
theorem outRow_query (p : Fin 3072 → EReal) (cs sn : Fin 512 → EReal) (n : ℕ) (hn : n < 4) (l : Fin 128) (j : Fin 3072) (hj : j.val = n * 128 + l.val)
    (ho hq) : outRow p cs sn j = turn p cs sn (n * 128) (n * 128) ho hq l := by
  rw [outRow, dif_pos (by omega)]
  exact turn_congr _ _ _ _ _ _ _ (by omega) (by omega) (Fin.ext (by show j.val % 128 = l.val; omega))

/-- A key's column. -/
theorem outRow_key (p : Fin 3072 → EReal) (cs sn : Fin 512 → EReal) (n : ℕ) (hn : n < 4) (l : Fin 128) (j : Fin 3072) (hj : j.val = 512 + n * 128 + l.val)
    (ho hq) : outRow p cs sn j = turn p cs sn (512 + n * 128) (n * 128) ho hq l * keyScale := by
  rw [outRow, dif_neg (by omega), dif_pos (by omega)]
  exact congrArg (· * keyScale) (turn_congr _ _ _ _ _ _ _ (by omega) (by omega) (Fin.ext (by show j.val % 128 = l.val; omega)))

theorem pay7_at (x : Vec Ideal S256x1024 .f32) (g : Vec Ideal S1x1024 .f32) (r : Fin 256) (k : Fin 1024) :
    k0_pay7 x g (ix2 r k) = normed (row x r) (row g 0) k := by
  pointwise [k0_pay7, row, normed, invRms, meanSq]

theorem pay8_at (x : Vec Ideal S256x1024 .f32) (g : Vec Ideal S1x1024 .f32) (w : Vec Ideal S1024x3072 .bf16) (r : Fin 256) (j : Fin 3072) :
    k0_pay8 x g w (ix2 r j) = product (normed (row x r) (row g 0)) (row w) j := by
  pointwise [k0_pay8, pay7_at, product]

/-- Columns `o` to `o + 128` of a table. -/
theorem ld_at (a : Vec Ideal S256x512 .f32) (o : ℕ) (ho : o + 128 ≤ 512) (inb) (r : Fin 256) (l : Fin 128) :
    View.ld a (Rect.unit (s := S256x512) ![0, o] ![256, 128] inb) (ix2 r l) = row a r ⟨o + l.val, by omega⟩ := by
  refine congrArg a (funext fun i => Fin.ext ?_)
  match i with
  | ⟨0, _⟩ => show 0 + 1 * r.val = r.val; omega
  | ⟨1, _⟩ => show o + 1 * l.val = o + l.val; omega

section
variable (v : Vec Ideal S256x3072 .f32) (a b : Vec Ideal S256x512 .f32) (r : Fin 256) (l : Fin 128)
variable (x : Vec Ideal S256x1024 .f32) (g : Vec Ideal S1x1024 .f32) (w : Vec Ideal S1024x3072 .bf16)

theorem q0_at (i j) : k0_pay11 x g w (View.ld a (Rect.unit (s := S256x512) ![0, 0] ![256, 128] i)) (View.ld b (Rect.unit (s := S256x512) ![0, 0] ![256, 128] j)) (ix2 r l)
    = turn (row (k0_pay8 x g w) r) (row a r) (row b r) 0 0 (by omega) (by omega) l := by
  have h := ld_at a 0 (by omega) i r l; have h' := ld_at b 0 (by omega) j r l
  unfold k0_pay11
  generalize k0_pay8 x g w = v, View.ld a _ = y, View.ld b _ = z at *
  pointwise [k0_pay9, k0_pay10, turn, h, h']

theorem k0_at (i j) : k0_pay12 x g w (View.ld a (Rect.unit (s := S256x512) ![0, 0] ![256, 128] i)) (View.ld b (Rect.unit (s := S256x512) ![0, 0] ![256, 128] j)) (ix2 r l)
    = turn (row (k0_pay8 x g w) r) (row a r) (row b r) 512 0 (by omega) (by omega) l * keyScale := by
  have h := ld_at a 0 (by omega) i r l; have h' := ld_at b 0 (by omega) j r l
  unfold k0_pay12
  generalize k0_pay8 x g w = v, View.ld a _ = y, View.ld b _ = z at *
  pointwise [k0_pay9, k0_pay10, turn, keyScale, h, h']

theorem q1_at (i j) : k0_pay15 v (View.ld a (Rect.unit (s := S256x512) ![0, 128] ![256, 128] i)) (View.ld b (Rect.unit (s := S256x512) ![0, 128] ![256, 128] j)) (ix2 r l)
    = turn (row v r) (row a r) (row b r) 128 128 (by omega) (by omega) l := by
  have h := ld_at a 128 (by omega) i r l; have h' := ld_at b 128 (by omega) j r l
  generalize View.ld a _ = y, View.ld b _ = z at *
  pointwise [k0_pay15, k0_pay13, k0_pay14, turn, h, h']

theorem k1_at (i j) : k0_pay16 v (View.ld a (Rect.unit (s := S256x512) ![0, 128] ![256, 128] i)) (View.ld b (Rect.unit (s := S256x512) ![0, 128] ![256, 128] j)) (ix2 r l)
    = turn (row v r) (row a r) (row b r) 640 128 (by omega) (by omega) l * keyScale := by
  have h := ld_at a 128 (by omega) i r l; have h' := ld_at b 128 (by omega) j r l
  generalize View.ld a _ = y, View.ld b _ = z at *
  pointwise [k0_pay16, k0_pay13, k0_pay14, turn, keyScale, h, h']

theorem q2_at (i j) : k0_pay19 v (View.ld a (Rect.unit (s := S256x512) ![0, 256] ![256, 128] i)) (View.ld b (Rect.unit (s := S256x512) ![0, 256] ![256, 128] j)) (ix2 r l)
    = turn (row v r) (row a r) (row b r) 256 256 (by omega) (by omega) l := by
  have h := ld_at a 256 (by omega) i r l; have h' := ld_at b 256 (by omega) j r l
  generalize View.ld a _ = y, View.ld b _ = z at *
  pointwise [k0_pay19, k0_pay17, k0_pay18, turn, h, h']

theorem k2_at (i j) : k0_pay1 (k0_pay20 v (View.ld a (Rect.unit (s := S256x512) ![0, 256] ![256, 128] i)) (View.ld b (Rect.unit (s := S256x512) ![0, 256] ![256, 128] j)))
      (Scalar.ofBits .f32 0x3DB504F3#32) (ix2 r l)
    = turn (row v r) (row a r) (row b r) 768 256 (by omega) (by omega) l * keyScale := by
  have h := ld_at a 256 (by omega) i r l; have h' := ld_at b 256 (by omega) j r l
  generalize View.ld a _ = y, View.ld b _ = z at *
  pointwise [k0_pay1, k0_pay20, k0_pay17, k0_pay18, turn, keyScale, h, h']

theorem q3_at (i j) : k0_pay4 v (View.ld a (Rect.unit (s := S256x512) ![0, 384] ![256, 128] i)) (View.ld b (Rect.unit (s := S256x512) ![0, 384] ![256, 128] j)) (ix2 r l)
    = turn (row v r) (row a r) (row b r) 384 384 (by omega) (by omega) l := by
  have h := ld_at a 384 (by omega) i r l; have h' := ld_at b 384 (by omega) j r l
  generalize View.ld a _ = y, View.ld b _ = z at *
  pointwise [k0_pay4, k0_pay2, k0_pay3, turn, h, h']

theorem k3_at (i j) : k0_pay5 v (View.ld a (Rect.unit (s := S256x512) ![0, 384] ![256, 128] i)) (View.ld b (Rect.unit (s := S256x512) ![0, 384] ![256, 128] j)) (ix2 r l)
    = turn (row v r) (row a r) (row b r) 896 384 (by omega) (by omega) l * keyScale := by
  have h := ld_at a 384 (by omega) i r l; have h' := ld_at b 384 (by omega) j r l
  generalize View.ld a _ = y, View.ld b _ = z at *
  pointwise [k0_pay5, k0_pay2, k0_pay3, turn, keyScale, h, h']

theorem rest_at (j : Fin 2048) : k0_pay6 (F := Ideal) v (ix2 r j) = row v r ⟨1024 + j.val, by omega⟩ := by
  pointwise [k0_pay6]

end

/-- The normed rows of the block. -/
theorem hid (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S256x3072 .f32) (harg6 : arg6.IsWhole) (arg7 : Memref sig .tc .vmem S256x1024 .bf16) (harg7 : arg7.IsWhole)
    (x0 : Vec Ideal S256x1024 .f32) (x1 : Vec Ideal S1x1024 .f32) (x2 : Vec Ideal S1024x3072 .bf16) (x3 x4 : Vec Ideal S256x512 .f32)
    (r : Fin 256) (k : Fin 1024) : out0_A_6 c i arg1 harg1 arg2 harg2 arg3 harg3 arg4 harg4 arg5 harg5 arg6 harg6 arg7 harg7 x0 x1 x2 x3 x4 (ix2 r k) = normed (row x0 r) (row x1 0) k := by
  frame_open
  frame_out
  exact pay7_at ..

/-- The projected rows of the block. -/
theorem out (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S256x3072 .f32) (harg6 : arg6.IsWhole) (arg7 : Memref sig .tc .vmem S256x1024 .bf16) (harg7 : arg7.IsWhole)
    (x0 : Vec Ideal S256x1024 .f32) (x1 : Vec Ideal S1x1024 .f32) (x2 : Vec Ideal S1024x3072 .bf16) (x3 x4 : Vec Ideal S256x512 .f32)
    (r : Fin 256) (j : Fin 3072) : out0_A_5 c i arg1 harg1 arg2 harg2 arg3 harg3 arg4 harg4 arg5 harg5 arg6 harg6 arg7 harg7 x0 x1 x2 x3 x4 (ix2 r j)
      = outRow (product (normed (row x0 r) (row x1 0)) (row x2)) (row x3 r) (row x4 r) j := by
  frame_open
  frame_out
  refine (congrFun (canon_eq_put _) _).trans ?_
  have hp : row (k0_pay8 x0 x1 x2) r = product (normed (row x0 r) (row x1 0)) (row x2) := funext fun j => pay8_at ..
  refine (put_unit2 ..).trans ?_
  by_cases h1024 : 1024 ≤ j.val ∧ j.val < 1024 + 2048
  · rw [dif_pos ⟨by omega, h1024⟩]
    refine (rest_at ..).trans ?_
    simp only [Nat.sub_zero, Fin.eta]
    rw [outRow, dif_neg (by omega), dif_neg (by omega)]
    have e : (⟨1024 + (j.val - 1024), by omega⟩ : Fin 3072) = j := Fin.ext (by simp only []; omega)
    rw [e]
    exact congrFun hp j
  rw [dif_neg fun h => h1024 h.2]
  refine (put_unit2 ..).trans ?_
  by_cases h896 : 896 ≤ j.val ∧ j.val < 896 + 128
  · rw [dif_pos ⟨by omega, h896⟩]
    refine (k3_at ..).trans ?_
    simp only [Nat.sub_zero, Fin.eta, hp]
    exact (outRow_key _ _ _ 3 (by omega) ⟨j.val - 896, by omega⟩ j (by simp only []; omega) (by omega) (by omega)).symm
  rw [dif_neg fun h => h896 h.2]
  refine (put_unit2 ..).trans ?_
  by_cases h384 : 384 ≤ j.val ∧ j.val < 384 + 128
  · rw [dif_pos ⟨by omega, h384⟩]
    refine (q3_at ..).trans ?_
    simp only [Nat.sub_zero, Fin.eta, hp]
    exact (outRow_query _ _ _ 3 (by omega) ⟨j.val - 384, by omega⟩ j (by simp only []; omega) (by omega) (by omega)).symm
  rw [dif_neg fun h => h384 h.2]
  refine (put_unit2 ..).trans ?_
  by_cases h768 : 768 ≤ j.val ∧ j.val < 768 + 128
  · rw [dif_pos ⟨by omega, h768⟩]
    refine (k2_at ..).trans ?_
    simp only [Nat.sub_zero, Fin.eta, hp]
    exact (outRow_key _ _ _ 2 (by omega) ⟨j.val - 768, by omega⟩ j (by simp only []; omega) (by omega) (by omega)).symm
  rw [dif_neg fun h => h768 h.2]
  refine (put_unit2 ..).trans ?_
  by_cases h256 : 256 ≤ j.val ∧ j.val < 256 + 128
  · rw [dif_pos ⟨by omega, h256⟩]
    refine (q2_at ..).trans ?_
    simp only [Nat.sub_zero, Fin.eta, hp]
    exact (outRow_query _ _ _ 2 (by omega) ⟨j.val - 256, by omega⟩ j (by simp only []; omega) (by omega) (by omega)).symm
  rw [dif_neg fun h => h256 h.2]
  refine (put_unit2 ..).trans ?_
  by_cases h640 : 640 ≤ j.val ∧ j.val < 640 + 128
  · rw [dif_pos ⟨by omega, h640⟩]
    refine (k1_at ..).trans ?_
    simp only [Nat.sub_zero, Fin.eta, hp]
    exact (outRow_key _ _ _ 1 (by omega) ⟨j.val - 640, by omega⟩ j (by simp only []; omega) (by omega) (by omega)).symm
  rw [dif_neg fun h => h640 h.2]
  refine (put_unit2 ..).trans ?_
  by_cases h128 : 128 ≤ j.val ∧ j.val < 128 + 128
  · rw [dif_pos ⟨by omega, h128⟩]
    refine (q1_at ..).trans ?_
    simp only [Nat.sub_zero, Fin.eta, hp]
    exact (outRow_query _ _ _ 1 (by omega) ⟨j.val - 128, by omega⟩ j (by simp only []; omega) (by omega) (by omega)).symm
  rw [dif_neg fun h => h128 h.2]
  refine (put_unit2 ..).trans ?_
  by_cases h512 : 512 ≤ j.val ∧ j.val < 512 + 128
  · rw [dif_pos ⟨by omega, h512⟩]
    refine (k0_at ..).trans ?_
    simp only [Nat.sub_zero, Fin.eta, hp]
    exact (outRow_key _ _ _ 0 (by omega) ⟨j.val - 512, by omega⟩ j (by simp only []; omega) (by omega) (by omega)).symm
  rw [dif_neg fun h => h512 h.2]
  refine (put_unit2 ..).trans ?_
  by_cases h0 : 0 ≤ j.val ∧ j.val < 0 + 128
  · rw [dif_pos ⟨by omega, h0⟩]
    refine (q0_at ..).trans ?_
    simp only [Nat.sub_zero, Fin.eta, hp]
    exact (outRow_query _ _ _ 0 (by omega) ⟨j.val - 0, by omega⟩ j (by simp only []; omega) (by omega) (by omega)).symm
  rw [dif_neg fun h => h0 h.2]
  omega

end Cert.InPoint

end
-- ==== Proof.InArrays.lean ====
/-
  The two arrays that the input projection leaves, entry by entry, over the program's arguments and the rotary tables.
-/
module

public import proofs.«01_k».proof.Proof.InPoint

@[expose] public section

set_option maxRecDepth 16384

noncomputable section

namespace Cert.InArrays

open Idealize.ShloMosaic Idealize.ShloMosaic.TcCoe Idealize.ShloMosaic.Pipeline Cert.Reals Cert.Rows Cert.Kernel9Ideal Cert.Kernel9Ideal.Gen Cert.InPoint

variable (m : (ℓ : Loc nD τ sig) → Buf (Elt Ideal) ℓ) (c : Dev nD)

/-- The arrays that the kernel finds: the rows, -/
def x : Fin 2048 → Fin 1024 → EReal := row (V m c main_arg0 : Vec Ideal S2048x1024 .f32)
/-- the norm's gain, -/
def g : Fin 1024 → EReal := row (V m c main_arg1 : Vec Ideal S1x1024 .f32) 0
/-- the weights, -/
def w : Fin 1024 → Fin 3072 → EReal := row (V m c main_v24 : Vec Ideal S1024x3072 .bf16)
/-- the cosines -/
def cs : Fin 2048 → Fin 512 → EReal := row (V m c main_v17 : Vec Ideal S2048x512 .f32)
/-- and the sines. -/
def sn : Fin 2048 → Fin 512 → EReal := row (V m c main_v22 : Vec Ideal S2048x512 .f32)

/-- A normed row. -/
def hidden (s : Fin 2048) : Fin 1024 → EReal := normed (x m c s) (g m c)
/-- A projected row. -/
def projected (s : Fin 2048) : Fin 3072 → EReal := outRow (product (hidden m c s) (w m c)) (cs m c s) (sn m c s)

variable (t : Fin cfg0.N)

theorem points (t : Fin cfg0.N) : t.val < 8 := lt_of_lt_of_eq t.isLt (by decide +kernel)

/-- Row `r` of block `t`. -/
def at_ (r : Fin 256) : Fin 2048 := ⟨256 * t.val + r.val, by have := points t; omega⟩

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] := by decide +kernel

theorem row0 (r : Fin 256) : row (iblk m c 0 t : Vec Ideal S256x1024 .f32) r = x m c (at_ t r) := by
  funext k; have := (idx t).1
  simp only [row, x, at_]
  blk_ext [iblk, this]
theorem row1 : row (iblk m c 1 t : Vec Ideal S1x1024 .f32) 0 = g m c := by
  funext k; have := (idx t).2.1
  simp only [row, g]
  blk_ext [iblk, this]
theorem row2 : row (iblk m c 2 t : Vec Ideal S1024x3072 .bf16) = w m c := by
  funext r k; have := (idx t).2.2.1
  simp only [row, w]
  blk_ext [iblk, this]
theorem row3 (r : Fin 256) : row (iblk m c 3 t : Vec Ideal S256x512 .f32) r = cs m c (at_ t r) := by
  funext k; have := (idx t).2.2.2.1
  simp only [row, cs, at_]
  blk_ext [iblk, this]
theorem row4 (r : Fin 256) : row (iblk m c 4 t : Vec Ideal S256x512 .f32) r = sn m c (at_ t r) := by
  funext k; have := (idx t).2.2.2.2.1
  simp only [row, sn, at_]
  blk_ext [iblk, this]

/-- The block of projected rows. -/
theorem out_at (r : Fin 256) (j : Fin 3072) : (outsAt0 m c t).1 (ix2 r j) = projected m c (at_ t r) j := by
  unfold outsAt0
  dsimp only
  rw [out, row0, row1, row2, row3, row4, projected, hidden]

/-- The block of normed rows. -/
theorem hid_at (r : Fin 256) (k : Fin 1024) : (outsAt0 m c t).2 (ix2 r k) = hidden m c (at_ t r) k := by
  unfold outsAt0
  dsimp only
  rw [hid, row0, row1, hidden]

theorem array5 (s : Fin 2048) (j : Fin 3072) : (dats m 0 c).arrAt 5 cfg0.N (ix2 s j) = projected m c s j := by
  have e : (dats m 0 c).arrAt 5 cfg0.N = fun i : S2048x3072.Idx => projected m c (i 0) (i 1) := by
    refine (dats m 0 c).arrAt_eq_of_covers 5 _ (by decide +kernel) fun t hf y => ?_
    blk_simp
    rw [after0_5]
    obtain ⟨r, k, rfl⟩ : ∃ (r : Fin 256) (k : Fin 3072), y = ix2 r k := ⟨y 0, y 1, eq_ix2 y⟩
    refine (out_at m c t r k).trans ?_
    have := (idx t).2.2.2.2.2.1
    refine congrArg₂ (projected m c) (Fin.ext ?_) (Fin.ext ?_)
    · blk_simp [this]
      first | done | (show 256 * t.val + r.val = t.val * 256 + r.val; omega)
    · blk_simp [this]
      first | done | (show _ = 0 * 3072 + k.val; omega)
  rw [e]; rfl

theorem array6 (s : Fin 2048) (k : Fin 1024) : (dats m 0 c).arrAt 6 cfg0.N (ix2 s k) = hidden m c s k := by
  have e : (dats m 0 c).arrAt 6 cfg0.N = fun i : S2048x1024.Idx => hidden m c (i 0) (i 1) := by
    refine (dats m 0 c).arrAt_eq_of_covers 6 _ (by decide +kernel) fun t hf y => ?_
    blk_simp
    rw [after0_6]
    obtain ⟨r, k, rfl⟩ : ∃ (r : Fin 256) (k : Fin 1024), y = ix2 r k := ⟨y 0, y 1, eq_ix2 y⟩
    refine (hid_at m c t r k).trans ?_
    have := (idx t).2.2.2.2.2.2
    refine congrArg₂ (hidden m c) (Fin.ext ?_) (Fin.ext ?_)
    · blk_simp [this]
      first | done | (show 256 * t.val + r.val = t.val * 256 + r.val; omega)
    · blk_simp [this]
      first | done | (show _ = 0 * 1024 + k.val; omega)
  rw [e]; rfl

end Cert.InArrays

end
-- ==== Proof.InHost.lean ====
/-
  The arrays that the input projection finds when its kernel is launched: the program's arguments, and the rotary tables.
-/
module

public import proofs.«01_k».proof.Proof.InArrays

@[expose] public section

set_option maxRecDepth 16384

noncomputable section

namespace Cert.InHost

open Idealize.ShloMosaic Idealize.ShloMosaic.TcCoe Idealize.ShloMosaic.Pipeline Cert.Kernel9Ideal Cert.Kernel9Ideal.Gen

variable (m : (ℓ : Loc nD τ sig) → Buf (Elt Ideal) ℓ) (c : Dev nD)

theorem x_eq : InArrays.x m c = fun s k => (m (c.tc.loc main_arg0) : Vec Ideal S2048x1024 .f32) (ix2 s k) := by
  unfold InArrays.x; rw [V_main_arg0]

theorem g_eq : InArrays.g m c = fun k => (m (c.tc.loc main_arg1) : Vec Ideal S1x1024 .f32) (ix2 0 k) := by
  unfold InArrays.g; rw [V_main_arg1]

theorem w_eq : InArrays.w m c = fun k j => (m (c.tc.loc main_arg2) : Vec Ideal S1x1024x3072 .f32) (ix3 0 k j) := by
  funext k j
  unfold InArrays.w V
  simp only [hostOps0, List.flatten_cons, List.flatten_nil, List.append_nil, List.cons_append, List.nil_append, InPoint.row]
  simp only [StableHlo.after_cons, StableHlo.after_nil]
  after_results_simp
  pointwise

/-- The table of cosines. -/
theorem cs_eq : InArrays.cs m c = fun s j => InPoint.cosTable s.val j.val := by
  funext s j
  unfold InArrays.cs V
  simp only [hostOps0, List.flatten_cons, List.flatten_nil, List.append_nil, List.cons_append, List.nil_append, InPoint.row]
  simp only [StableHlo.after_cons, StableHlo.after_nil]
  after_results_simp
  pointwise
  after_results_simp
  pointwise [InPoint.cosTable, InPoint.angle]
  exact dite_eq_ite

/-- The table of sines. -/
theorem sn_eq : InArrays.sn m c = fun s j => InPoint.sinTable s.val j.val := by
  funext s j
  unfold InArrays.sn V
  simp only [hostOps0, List.flatten_cons, List.flatten_nil, List.append_nil, List.cons_append, List.nil_append, InPoint.row]
  simp only [StableHlo.after_cons, StableHlo.after_nil]
  after_results_simp
  pointwise
  after_results_simp
  pointwise [InPoint.sinTable, InPoint.angle]
  exact dite_eq_ite

end Cert.InHost

end
-- ==== Proof.InReference.lean ====
/-
  What the reference of the input projection computes, entry by entry.
-/
module

public import proofs.«01_k».proof.Proof.InPoint
public import proofs.«01_k».proof.Proof.Gen.Reference9Ideal.Run
public import Idealize.ShloMosaic.Lib.KernelVsHost

@[expose] public section

set_option maxRecDepth 16384

noncomputable section

namespace Cert.InReference

open Idealize.ShloMosaic Idealize.ShloMosaic.TcCoe Cert.Reals Cert.Rows Cert.InPoint Cert.Reference9Ideal Cert.Reference9Ideal.Gen Cert.Reference9Ideal.Value

/-! ## The program's intermediate arrays -/

/-- The normed rows. -/
def hid (a0 : FVec Ideal S2048x1024 .f32) (a1 : FVec Ideal S1x1024 .f32) : FVec Ideal S2048x1024 .f32 :=
  mulf (mulf a0 (broadcastInDim S2048x1024 ![0, 1] bcast_S2048x1_S2048x1024_0_1 (Host.rsqrt (addf (Host.divf (broadcastInDim S2048x1 ![0] bcast_S2048_S2048x1_0 (Host.reduceAdd (mulf a0 a0) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (broadcastInDim S1x1024 ![1] bcast_S1024_S1x1024_1 (shapeCast _ a1 shapeCasts_S1x1024_S1024)))

/-- Their product with the weights. -/
def prod (a0 : FVec Ideal S2048x1024 .f32) (a1 : FVec Ideal S1x1024 .f32) (a2 : FVec Ideal S1x1024x3072 .f32) : FVec Ideal S2048x3072 .f32 :=
  Host.dotGeneral dot_S2048x1024_S1024x3072_S2048x3072_1_0_0_1_n_n none (hid a0 a1) (shapeCast _ a2 shapeCasts_S1x1024x3072_S1024x3072)

/-- The cosines of the angles. -/
def cosines : FVec Ideal S2048x64 .f32 :=
  Host.cos (mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32)))))))

/-- The sines of the angles. -/
def sines : FVec Ideal S2048x64 .f32 :=
  Host.sin (mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32)))))))

/-- Four heads, turned. -/
def turned (p : FVec Ideal S2048x512 .f32) : FVec Ideal S2048x4x128 .f32 :=
  concatenate S2048x4x128 2 [⟨S2048x4x64, (subf (mulf (extractStridedSlice S2048x4x64 ![0, 0, 0] (shapeCast _ p shapeCasts_S2048x512_S2048x4x128) slices_S2048x4x128_S2048x4x64_0_0_0) (broadcastInDim S2048x4x64 ![0, 1, 2] bcast_S2048x1x64_S2048x4x64_0_1_2 (broadcastInDim S2048x1x64 ![0, 2] bcast_S2048x64_S2048x1x64_0_2 cosines))) (mulf (extractStridedSlice S2048x4x64 ![0, 0, 64] (shapeCast _ p shapeCasts_S2048x512_S2048x4x128) slices_S2048x4x128_S2048x4x64_0_0_64) (broadcastInDim S2048x4x64 ![0, 1, 2] bcast_S2048x1x64_S2048x4x64_0_1_2 (broadcastInDim S2048x1x64 ![0, 2] bcast_S2048x64_S2048x1x64_0_2 sines))))⟩, ⟨S2048x4x64, (addf (mulf (extractStridedSlice S2048x4x64 ![0, 0, 64] (shapeCast _ p shapeCasts_S2048x512_S2048x4x128) slices_S2048x4x128_S2048x4x64_0_0_64) (broadcastInDim S2048x4x64 ![0, 1, 2] bcast_S2048x1x64_S2048x4x64_0_1_2 (broadcastInDim S2048x1x64 ![0, 2] bcast_S2048x64_S2048x1x64_0_2 cosines))) (mulf (extractStridedSlice S2048x4x64 ![0, 0, 0] (shapeCast _ p shapeCasts_S2048x512_S2048x4x128) slices_S2048x4x128_S2048x4x64_0_0_0) (broadcastInDim S2048x4x64 ![0, 1, 2] bcast_S2048x1x64_S2048x4x64_0_1_2 (broadcastInDim S2048x1x64 ![0, 2] bcast_S2048x64_S2048x1x64_0_2 sines))))⟩] concatenates_S2048x4x64_S2048x4x64_S2048x4x128_d2

/-- The queries. -/
def queries (a0 : FVec Ideal S2048x1024 .f32) (a1 : FVec Ideal S1x1024 .f32) (a2 : FVec Ideal S1x1024x3072 .f32) : FVec Ideal S2048x512 .f32 :=
  shapeCast _ (turned (extractStridedSlice S2048x512 ![0, 0] (prod a0 a1 a2) slices_S2048x3072_S2048x512_0_0)) shapeCasts_S2048x4x128_S2048x512

/-- The keys. -/
def keys (a0 : FVec Ideal S2048x1024 .f32) (a1 : FVec Ideal S1x1024 .f32) (a2 : FVec Ideal S1x1024x3072 .f32) : FVec Ideal S2048x512 .f32 :=
  shapeCast _ (mulf (turned (extractStridedSlice S2048x512 ![0, 512] (prod a0 a1 a2) slices_S2048x3072_S2048x512_0_512)) (broadcastInDim S2048x4x128 ![] bcast_S_S2048x4x128 (constant S_ .f32 0x3DB504F3#32))) shapeCasts_S2048x4x128_S2048x512

/-- All the columns. -/
def out (a0 : FVec Ideal S2048x1024 .f32) (a1 : FVec Ideal S1x1024 .f32) (a2 : FVec Ideal S1x1024x3072 .f32) : FVec Ideal S2048x3072 .f32 :=
  (concatenate S2048x3072 1 [⟨S2048x512, ((queries a0 a1 a2) : (⟨S2048x512, .f32⟩ : BufTy).Contents (Elt Ideal))⟩, ⟨S2048x512, ((keys a0 a1 a2) : (⟨S2048x512, .f32⟩ : BufTy).Contents (Elt Ideal))⟩, ⟨S2048x2048, ((extractStridedSlice S2048x2048 ![0, 1024] (prod a0 a1 a2) slices_S2048x3072_S2048x2048_0_1024) : (⟨S2048x2048, .f32⟩ : BufTy).Contents (Elt Ideal))⟩] concatenates_S2048x512_S2048x512_S2048x2048_S2048x3072_d1 : (⟨S2048x3072, .f32⟩ : BufTy).Contents (Elt Ideal))

/-! ## Their entries -/

variable (a0 : FVec Ideal S2048x1024 .f32) (a1 : FVec Ideal S1x1024 .f32) (a2 : FVec Ideal S1x1024x3072 .f32)

/-- The weights, which come in one slab. -/
abbrev slab (k : Fin 1024) (j : Fin 3072) : EReal := a2 (ix3 0 k j)

theorem hid_at (s : Fin 2048) (k : Fin 1024) : hid a0 a1 (ix2 s k) = normed (row a0 s) (row a1 0) k := by
  pointwise [hid, normed, invRms, meanSq]

theorem prod_at (s : Fin 2048) (j : Fin 3072) : prod a0 a1 a2 (ix2 s j) = product (normed (row a0 s) (row a1 0)) (slab a2) j := by
  pointwise [prod, hid_at, product]

theorem cosines_at (s : Fin 2048) (i : Fin 64) : cosines (ix2 s i) = Ideal.cos (angle s.val i.val) := by
  pointwise [cosines, angle]

theorem sines_at (s : Fin 2048) (i : Fin 64) : sines (ix2 s i) = Ideal.sin (angle s.val i.val) := by
  pointwise [sines, angle]

/-- A turned head, over the columns from `o` on that it was cut from. -/
theorem turned_at (p : FVec Ideal S2048x512 .f32) (s : Fin 2048) (P : Fin 3072 → EReal) (o : ℕ) (ho : o + 512 ≤ 3072)
    (hP : ∀ j : Fin 512, p (ix2 s j) = P ⟨o + j.val, by omega⟩) (h : Fin 4) (l : Fin 128) :
    turned p (ix3 s h l) = turn P (fun j => cosTable s.val j.val) (fun j => sinTable s.val j.val) (o + h.val * 128) (h.val * 128) (by omega) (by omega) l := by
  pointwise [turned, cosines_at, sines_at]
  simp only [hP, turn, cosTable, sinTable]
  have e : (h.val * 128 + l.val) % 128 = l.val := by omega
  rw [e]
  have key : ∀ a b : Fin 3072, a.val = b.val → P a = P b := fun a b h => congrArg P (Fin.ext h)
  by_cases hl : l.val < 64
  · rw [dif_pos hl, if_pos hl, if_pos hl, mul_neg, ← sub_eq_add_neg]
    refine congrArg₂ (· * _ - · * _) (key _ _ ?_) (key _ _ ?_) <;> simp only [] <;> omega
  · rw [dif_neg hl, if_neg hl, if_neg hl]
    refine congrArg₂ (· * _ + · * _) (key _ _ ?_) (key _ _ ?_) <;> simp only [] <;> omega

/-- What the reference computes is the kernel's row. -/
theorem out_at (s : Fin 2048) (j : Fin 3072) : out a0 a1 a2 (ix2 s j)
    = outRow (product (normed (row a0 s) (row a1 0)) (slab a2)) (fun j => cosTable s.val j.val) (fun j => sinTable s.val j.val) j := by
  have hp := fun j => prod_at a0 a1 a2 s j
  unfold out queries keys
  generalize prod a0 a1 a2 = Q at *
  have hq : ∀ j : Fin 512, extractStridedSlice S2048x512 ![0, 0] Q slices_S2048x3072_S2048x512_0_0 (ix2 s j)
      = product (normed (row a0 s) (row a1 0)) (slab a2) ⟨0 + j.val, by omega⟩ := fun j => by
    rw [← hp]; pointwise
  have hk : ∀ j : Fin 512, extractStridedSlice S2048x512 ![0, 512] Q slices_S2048x3072_S2048x512_0_512 (ix2 s j)
      = product (normed (row a0 s) (row a1 0)) (slab a2) ⟨512 + j.val, by omega⟩ := fun j => by
    rw [← hp]; pointwise
  have tq := turned_at _ s _ 0 (by omega) hq
  have tk := turned_at _ s _ 512 (by omega) hk
  generalize turned (extractStridedSlice S2048x512 ![0, 0] Q slices_S2048x3072_S2048x512_0_0) = q at *
  generalize turned (extractStridedSlice S2048x512 ![0, 512] Q slices_S2048x3072_S2048x512_0_512) = k at *
  pointwise
  simp only [tq, tk, hp]
  by_cases h : j.val < 512
  · rw [dif_pos h]
    refine (turn_congr _ _ _ _ _ _ _ ?_ rfl rfl).trans (outRow_query _ _ _ (j.val / 128) (by omega) ⟨j.val % 128, by omega⟩ j (by simp only []; omega) (by omega) (by omega)).symm
    omega
  · rw [dif_neg h]
    by_cases h' : j.val - 512 < 512
    · rw [dif_pos h']
      exact (outRow_key _ _ _ ((j.val - 512) / 128) (by omega) ⟨(j.val - 512) % 128, by omega⟩ j (by simp only []; omega) (by omega) (by omega)).symm
    · rw [dif_neg h', outRow, dif_neg h, dif_neg (by omega)]
      have e : (⟨1024 + (j.val - 512 - 512), by omega⟩ : Fin 3072) = j := Fin.ext (by simp only []; omega)
      rw [e]

/-! ## What the program states -/

/-- The first result is the projected rows. -/
theorem result0 (m : (ℓ : Loc nD τ sig) → Buf (Elt Ideal) ℓ) (c : Dev nD) :
    res_out0 m c = out (m (c.tc.loc main_arg0)) (m (c.tc.loc main_arg1)) (m (c.tc.loc main_arg2)) := by
  unfold res_out0 res_main_v69 out queries keys turned prod hid cosines sines
  rfl

end Cert.InReference

end
-- ==== Proof.InProj.lean ====
/-
  The input projection: the kernel and its reference compute the same two arrays from the same arguments, whatever these hold.
-/
module

public import proofs.«01_k».proof.Proof.InHost
public import proofs.«01_k».proof.Proof.InReference
public import proofs.«01_k».proof.Proof.Gen.Kernel9Ideal.Value
public import proofs.«01_k».proof.Defs

@[expose] public section

set_option maxRecDepth 16384

noncomputable section

namespace Cert.InProj

open Idealize.ShloMosaic Idealize.ShloMosaic.TcCoe Idealize.SL.Sem Cert.Reals

/-- The kernel computes what the reference computes. -/
theorem algebraic : Cert.algebraic_Kernel9Ideal_Reference9Ideal (hKernel9Ideal := Cert.Kernel9Ideal.Gen.facts)
    (hReference9Ideal := Cert.Reference9Ideal.Gen.facts) := by
  intro m g m' g' _ hargs
  refine ⟨_, _, Cert.Kernel9Ideal.Value.run_blocks m g, ?_⟩
  refine (θ_run Cert.Reference9Ideal.defs _ _).mono (fun r hr c => ?_) (Cert.Reference9Ideal.Value.run m' g')
  obtain ⟨r0, r1, hr⟩ := hr c
  obtain ⟨h0, h1, h2⟩ := hargs c
  refine ⟨r0.trans ?_, r1.trans ?_, hr⟩
  · refine (InReference.result0 m' c).trans ?_
    rw [h0, h1, h2]
    funext y
    obtain ⟨s, j, rfl⟩ : ∃ (s : Fin 2048) (j : Fin 3072), y = ix2 s j := ⟨y 0, y 1, eq_ix2 y⟩
    refine (InReference.out_at _ _ _ s j).trans ((InArrays.array5 m c s j).trans ?_).symm
    rw [InArrays.projected, InArrays.hidden, InHost.x_eq, InHost.g_eq, InHost.w_eq, InHost.cs_eq, InHost.sn_eq]
  · rw [h0, h1]
    funext y
    obtain ⟨s, k, rfl⟩ : ∃ (s : Fin 2048) (k : Fin 1024), y = ix2 s k := ⟨y 0, y 1, eq_ix2 y⟩
    refine (InReference.hid_at _ _ s k).trans ((InArrays.array6 m c s k).trans ?_).symm
    rw [InArrays.hidden, InHost.x_eq, InHost.g_eq]

end Cert.InProj

end
-- ==== Proof.lean ====
/-
  The claim: the eight kernels and their references terminate and keep their arguments, and each kernel computes over the extended reals
  what its reference computes, the feed-forward layer's gradient on finite arguments and the others on any.
-/
module

public import proofs.«01_k».proof.Defs
public import proofs.«01_k».proof.Proof.Backward
public import proofs.«01_k».proof.Proof.FwdEquation
public import proofs.«01_k».proof.Proof.Wgrad
public import proofs.«01_k».proof.Proof.WgradUp
public import proofs.«01_k».proof.Proof.WgradIn
public import proofs.«01_k».proof.Proof.WgradDown
public import proofs.«01_k».proof.Proof.BwdProj
public import proofs.«01_k».proof.Proof.InProj
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import Idealize.ShloMosaic.Adequacy
public import Idealize.ShloMosaic.Init

@[expose] public section

noncomputable section

namespace Cert.Proof

open Idealize.ShloMosaic Idealize.SL.Sem Cert.Kernel

/-- The backward reference terminates and keeps its arguments. -/
theorem frame_reference : Cert.quiescent_ReferenceIdeal (hReferenceIdeal := Cert.ReferenceIdeal.Gen.facts) := fun m ρ _ =>
  (θ_run Cert.ReferenceIdeal.defs _ _).mono
    (fun r h => ⟨fun c => by obtain ⟨_, _, _, _, _, _, hr⟩ := h c; exact hr, sem_eq_zero_of_no_sems (by decide) r.2⟩)
    (Cert.ReferenceIdeal.Value.run (F := Ideal) m ρ)

/-- The forward reference terminates and keeps its arguments. -/
theorem frame_reference2 : Cert.quiescent_Reference2Ideal (hReference2Ideal := Cert.Reference2Ideal.Gen.facts) := fun m ρ _ =>
  (θ_run Cert.Reference2Ideal.defs _ _).mono
    (fun r h => ⟨fun c => by obtain ⟨_, _, _, _, _, _, hr⟩ := h c; exact hr, sem_eq_zero_of_no_sems (by decide) r.2⟩)
    (Cert.Reference2Ideal.Value.run (F := Ideal) m ρ)

/-- The reference of the weights' gradient terminates and keeps its arguments. -/
theorem frame_reference3 : Cert.quiescent_Reference3Ideal (hReference3Ideal := Cert.Reference3Ideal.Gen.facts) := fun m ρ _ =>
  (θ_run Cert.Reference3Ideal.defs _ _).mono
    (fun r h => ⟨fun c => by obtain ⟨_, hr⟩ := h c; exact hr, sem_eq_zero_of_no_sems (by decide) r.2⟩)
    (Cert.Reference3Ideal.Value.run (F := Ideal) m ρ)

/-- The reference of the up-projection's weight gradient terminates and keeps its arguments. -/
theorem frame_reference5 : Cert.quiescent_Reference5Ideal (hReference5Ideal := Cert.Reference5Ideal.Gen.facts) := fun m ρ _ =>
  (θ_run Cert.Reference5Ideal.defs _ _).mono
    (fun r h => ⟨fun c => by obtain ⟨_, hr⟩ := h c; exact hr, sem_eq_zero_of_no_sems (by decide) r.2⟩)
    (Cert.Reference5Ideal.Value.run (F := Ideal) m ρ)

/-- The reference of the input projection's weight gradient terminates and keeps its arguments. -/
theorem frame_reference6 : Cert.quiescent_Reference6Ideal (hReference6Ideal := Cert.Reference6Ideal.Gen.facts) := fun m ρ _ =>
  (θ_run Cert.Reference6Ideal.defs _ _).mono
    (fun r h => ⟨fun c => by obtain ⟨_, hr⟩ := h c; exact hr, sem_eq_zero_of_no_sems (by decide) r.2⟩)
    (Cert.Reference6Ideal.Value.run (F := Ideal) m ρ)

/-- The reference of the down-projection's weight gradient terminates and keeps its arguments. -/
theorem frame_reference7 : Cert.quiescent_Reference7Ideal (hReference7Ideal := Cert.Reference7Ideal.Gen.facts) := fun m ρ _ =>
  (θ_run Cert.Reference7Ideal.defs _ _).mono
    (fun r h => ⟨fun c => by obtain ⟨_, hr⟩ := h c; exact hr, sem_eq_zero_of_no_sems (by decide) r.2⟩)
    (Cert.Reference7Ideal.Value.run (F := Ideal) m ρ)

/-- The reference of the input projection's gradient terminates and keeps its arguments. -/
theorem frame_reference8 : Cert.quiescent_Reference8Ideal (hReference8Ideal := Cert.Reference8Ideal.Gen.facts) := fun m ρ _ =>
  (θ_run Cert.Reference8Ideal.defs _ _).mono
    (fun r h => ⟨fun c => by obtain ⟨_, _, hr⟩ := h c; exact hr, sem_eq_zero_of_no_sems (by decide) r.2⟩)
    (Cert.Reference8Ideal.Value.run (F := Ideal) m ρ)

/-- The reference of the input projection terminates and keeps its arguments. -/
theorem frame_reference9 : Cert.quiescent_Reference9Ideal (hReference9Ideal := Cert.Reference9Ideal.Gen.facts) := fun m ρ _ =>
  (θ_run Cert.Reference9Ideal.defs _ _).mono
    (fun r h => ⟨fun c => by obtain ⟨_, _, hr⟩ := h c; exact hr, sem_eq_zero_of_no_sems (by decide) r.2⟩)
    (Cert.Reference9Ideal.Value.run (F := Ideal) m ρ)

/-- All claims, in the order in which they are stated. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Pre_finite.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    trivial,
    Cert.Backward.algebraic,
    Cert.FwdEquation.algebraic,
    trivial,
    Cert.Wgrad.algebraic,
    trivial,
    Cert.WgradUp.algebraic,
    trivial,
    Cert.WgradIn.algebraic,
    trivial,
    Cert.WgradDown.algebraic,
    trivial,
    Cert.BwdProj.algebraic,
    trivial,
    Cert.InProj.algebraic,
    trivial⟩

end Cert.Proof

end
